-- ==== Defs.lean ====
def Pre_Kernel [hPre_first_pair_in_range : Cert.Pre_first_pair_in_range.Facts] (m : (ℓ : Loc Cert.Kernel.nD Cert.Kernel.τ Cert.Kernel.sig) → Buf (Elt Bits) ℓ) : Prop :=
  ∀ c : Dev Cert.Kernel.nD,
    (Cert.Pre_first_pair_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_first_pair_in_range : Cert.Pre_first_pair_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_first_pair_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelGc (m : (ℓ : Loc Cert.KernelGc.nD Cert.KernelGc.τ Cert.KernelGc.sig) → Buf (Elt Bits) ℓ) : Prop :=
  True

def Pre_KernelGcIdeal (m : (ℓ : Loc Cert.KernelGcIdeal.nD Cert.KernelGcIdeal.τ Cert.KernelGcIdeal.sig) → Buf (Elt Ideal) ℓ) : Prop :=
  True

def Pre_ReferenceGcIdeal (m : (ℓ : Loc Cert.ReferenceGcIdeal.nD Cert.ReferenceGcIdeal.τ Cert.ReferenceGcIdeal.sig) → Buf (Elt Ideal) ℓ) : Prop :=
  True

def Pre_KernelGa (m : (ℓ : Loc Cert.KernelGa.nD Cert.KernelGa.τ Cert.KernelGa.sig) → Buf (Elt Bits) ℓ) : Prop :=
  True

def Pre_KernelGaIdeal (m : (ℓ : Loc Cert.KernelGaIdeal.nD Cert.KernelGaIdeal.τ Cert.KernelGaIdeal.sig) → Buf (Elt Ideal) ℓ) : Prop :=
  True

def Pre_ReferenceGaIdeal (m : (ℓ : Loc Cert.ReferenceGaIdeal.nD Cert.ReferenceGaIdeal.τ Cert.ReferenceGaIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_ReferenceVIdeal (m : (ℓ : Loc Cert.ReferenceVIdeal.nD Cert.ReferenceVIdeal.τ Cert.ReferenceVIdeal.sig) → Buf (Elt Ideal) ℓ) : Prop :=
  True

def quiescent_Kernel [hKernel : Cert.Kernel.Facts] [hPre_first_pair_in_range : Cert.Pre_first_pair_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_first_pair_in_range : Cert.Pre_first_pair_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1)
      ∧ r.2.mem ((c.tc : Thread Cert.KernelGlu.nD Cert.KernelGlu.τ).loc Cert.KernelGlu.main_arg2) = m ((c.tc : Thread Cert.KernelGlu.nD Cert.KernelGlu.τ).loc Cert.KernelGlu.main_arg2))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
      ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1)
      ∧ r.2.mem ((c.tc : Thread Cert.ReferenceGluIdeal.nD Cert.ReferenceGluIdeal.τ).loc Cert.ReferenceGluIdeal.main_arg2) = m ((c.tc : Thread Cert.ReferenceGluIdeal.nD Cert.ReferenceGluIdeal.τ).loc Cert.ReferenceGluIdeal.main_arg2))
      ∧ r.2.sem = fun _ => 0)

def quiescent_KernelGc [hKernelGc : Cert.KernelGc.Facts] : Prop :=
  ∀ (m : (ℓ : Loc Cert.KernelGc.nD Cert.KernelGc.τ Cert.KernelGc.sig) → Buf (Elt Bits) ℓ) (g : Dev Cert.KernelGc.nD → PrngReg), Pre_KernelGc m →
    θ_run (Cert.KernelGc.defs (F := Bits)) (onTc (τ := Cert.KernelGc.τ) (Cert.KernelGc.main (F := Bits))) ⟨m, fun _ => 0, g⟩ (fun r => (∀ c : Dev Cert.KernelGc.nD,
      r.2.mem ((c.tc : Thread Cert.KernelGc.nD Cert.KernelGc.τ).loc Cert.KernelGc.main_arg0) = m ((c.tc : Thread Cert.KernelGc.nD Cert.KernelGc.τ).loc Cert.KernelGc.main_arg0)
      ∧ r.2.mem ((c.tc : Thread Cert.KernelGc.nD Cert.KernelGc.τ).loc Cert.KernelGc.main_arg1) = m ((c.tc : Thread Cert.KernelGc.nD Cert.KernelGc.τ).loc Cert.KernelGc.main_arg1)
      ∧ r.2.mem ((c.tc : Thread Cert.KernelGc.nD Cert.KernelGc.τ).loc Cert.KernelGc.main_arg2) = m ((c.tc : Thread Cert.KernelGc.nD Cert.KernelGc.τ).loc Cert.KernelGc.main_arg2))
      ∧ r.2.sem = fun _ => 0)

def quiescent_KernelGcIdeal [hKernelGcIdeal : Cert.KernelGcIdeal.Facts] : Prop :=
  ∀ (m : (ℓ : Loc Cert.KernelGcIdeal.nD Cert.KernelGcIdeal.τ Cert.KernelGcIdeal.sig) → Buf (Elt Ideal) ℓ) (g : Dev Cert.KernelGcIdeal.nD → PrngReg), Pre_KernelGcIdeal m →
    θ_run (Cert.KernelGcIdeal.defs (F := Ideal)) (onTc (τ := Cert.KernelGcIdeal.τ) (Cert.KernelGcIdeal.main (F := Ideal))) ⟨m, fun _ => 0, g⟩ (fun r => (∀ c : Dev Cert.KernelGcIdeal.nD,
      r.2.mem ((c.tc : Thread Cert.KernelGcIdeal.nD Cert.KernelGcIdeal.τ).loc Cert.KernelGcIdeal.main_arg0) = m ((c.tc : Thread Cert.KernelGcIdeal.nD Cert.KernelGcIdeal.τ).loc Cert.KernelGcIdeal.main_arg0)
      ∧ r.2.mem ((c.tc : Thread Cert.KernelGcIdeal.nD Cert.KernelGcIdeal.τ).loc Cert.KernelGcIdeal.main_arg1) = m ((c.tc : Thread Cert.KernelGcIdeal.nD Cert.KernelGcIdeal.τ).loc Cert.KernelGcIdeal.main_arg1)
      ∧ r.2.mem ((c.tc : Thread Cert.KernelGcIdeal.nD Cert.KernelGcIdeal.τ).loc Cert.KernelGcIdeal.main_arg2) = m ((c.tc : Thread Cert.KernelGcIdeal.nD Cert.KernelGcIdeal.τ).loc Cert.KernelGcIdeal.main_arg2))
      ∧ r.2.sem = fun _ => 0)

def quiescent_ReferenceGcIdeal [hReferenceGcIdeal : Cert.ReferenceGcIdeal.Facts] : Prop :=
  ∀ (m : (ℓ : Loc Cert.ReferenceGcIdeal.nD Cert.ReferenceGcIdeal.τ Cert.ReferenceGcIdeal.sig) → Buf (Elt Ideal) ℓ) (g : Dev Cert.ReferenceGcIdeal.nD → PrngReg), Pre_ReferenceGcIdeal m →
    θ_run (Cert.ReferenceGcIdeal.defs (F := Ideal)) (onTc (τ := Cert.ReferenceGcIdeal.τ) (Cert.ReferenceGcIdeal.main (F := Ideal))) ⟨m, fun _ => 0, g⟩ (fun r => (∀ c : Dev Cert.ReferenceGcIdeal.nD,
      r.2.mem ((c.tc : Thread Cert.ReferenceGcIdeal.nD Cert.ReferenceGcIdeal.τ).loc Cert.ReferenceGcIdeal.main_arg0) = m ((c.tc : Thread Cert.ReferenceGcIdeal.nD Cert.ReferenceGcIdeal.τ).loc Cert.ReferenceGcIdeal.main_arg0)
      ∧ r.2.mem ((c.tc : Thread Cert.ReferenceGcIdeal.nD Cert.ReferenceGcIdeal.τ).loc Cert.ReferenceGcIdeal.main_arg1) = m ((c.tc : Thread Cert.ReferenceGcIdeal.nD Cert.ReferenceGcIdeal.τ).loc Cert.ReferenceGcIdeal.main_arg1)
      ∧ r.2.mem ((c.tc : Thread Cert.ReferenceGcIdeal.nD Cert.ReferenceGcIdeal.τ).loc Cert.ReferenceGcIdeal.main_arg2) = m ((c.tc : Thread Cert.ReferenceGcIdeal.nD Cert.ReferenceGcIdeal.τ).loc Cert.ReferenceGcIdeal.main_arg2))
      ∧ r.2.sem = fun _ => 0)

def quiescent_KernelGa [hKernelGa : Cert.KernelGa.Facts] : Prop :=
  ∀ (m : (ℓ : Loc Cert.KernelGa.nD Cert.KernelGa.τ Cert.KernelGa.sig) → Buf (Elt Bits) ℓ) (g : Dev Cert.KernelGa.nD → PrngReg), Pre_KernelGa m →
    θ_run (Cert.KernelGa.defs (F := Bits)) (onTc (τ := Cert.KernelGa.τ) (Cert.KernelGa.main (F := Bits))) ⟨m, fun _ => 0, g⟩ (fun r => (∀ c : Dev Cert.KernelGa.nD,
      r.2.mem ((c.tc : Thread Cert.KernelGa.nD Cert.KernelGa.τ).loc Cert.KernelGa.main_arg0) = m ((c.tc : Thread Cert.KernelGa.nD Cert.KernelGa.τ).loc Cert.KernelGa.main_arg0)
      ∧ r.2.mem ((c.tc : Thread Cert.KernelGa.nD Cert.KernelGa.τ).loc Cert.KernelGa.main_arg1) = m ((c.tc : Thread Cert.KernelGa.nD Cert.KernelGa.τ).loc Cert.KernelGa.main_arg1)
      ∧ r.2.mem ((c.tc : Thread Cert.KernelGa.nD Cert.KernelGa.τ).loc Cert.KernelGa.main_arg2) = m ((c.tc : Thread Cert.KernelGa.nD Cert.KernelGa.τ).loc Cert.KernelGa.main_arg2))
      ∧ r.2.sem = fun _ => 0)

def quiescent_KernelGaIdeal [hKernelGaIdeal : Cert.KernelGaIdeal.Facts] : Prop :=
  ∀ (m : (ℓ : Loc Cert.KernelGaIdeal.nD Cert.KernelGaIdeal.τ Cert.KernelGaIdeal.sig) → Buf (Elt Ideal) ℓ) (g : Dev Cert.KernelGaIdeal.nD → PrngReg), Pre_KernelGaIdeal m →
    θ_run (Cert.KernelGaIdeal.defs (F := Ideal)) (onTc (τ := Cert.KernelGaIdeal.τ) (Cert.KernelGaIdeal.main (F := Ideal))) ⟨m, fun _ => 0, g⟩ (fun r => (∀ c : Dev Cert.KernelGaIdeal.nD,
      r.2.mem ((c.tc : Thread Cert.KernelGaIdeal.nD Cert.KernelGaIdeal.τ).loc Cert.KernelGaIdeal.main_arg0) = m ((c.tc : Thread Cert.KernelGaIdeal.nD Cert.KernelGaIdeal.τ).loc Cert.KernelGaIdeal.main_arg0)
      ∧ r.2.mem ((c.tc : Thread Cert.KernelGaIdeal.nD Cert.KernelGaIdeal.τ).loc Cert.KernelGaIdeal.main_arg1) = m ((c.tc : Thread Cert.KernelGaIdeal.nD Cert.KernelGaIdeal.τ).loc Cert.KernelGaIdeal.main_arg1)
      ∧ r.2.mem ((c.tc : Thread Cert.KernelGaIdeal.nD Cert.KernelGaIdeal.τ).loc Cert.KernelGaIdeal.main_arg2) = m ((c.tc : Thread Cert.KernelGaIdeal.nD Cert.KernelGaIdeal.τ).loc Cert.KernelGaIdeal.main_arg2))
      ∧ r.2.sem = fun _ => 0)

def quiescent_ReferenceGaIdeal [hReferenceGaIdeal : Cert.ReferenceGaIdeal.Facts] : Prop :=
  ∀ (m : (ℓ : Loc Cert.ReferenceGaIdeal.nD Cert.ReferenceGaIdeal.τ Cert.ReferenceGaIdeal.sig) → Buf (Elt Ideal) ℓ) (g : Dev Cert.ReferenceGaIdeal.nD → PrngReg), Pre_ReferenceGaIdeal m →
    θ_run (Cert.ReferenceGaIdeal.defs (F := Ideal)) (onTc (τ := Cert.ReferenceGaIdeal.τ) (Cert.ReferenceGaIdeal.main (F := Ideal))) ⟨m, fun _ => 0, g⟩ (fun r => (∀ c : Dev Cert.ReferenceGaIdeal.nD,
      r.2.mem ((c.tc : Thread Cert.ReferenceGaIdeal.nD Cert.ReferenceGaIdeal.τ).loc Cert.ReferenceGaIdeal.main_arg0) = m ((c.tc : Thread Cert.ReferenceGaIdeal.nD Cert.ReferenceGaIdeal.τ).loc Cert.ReferenceGaIdeal.main_arg0)
      ∧ r.2.mem ((c.tc : Thread Cert.ReferenceGaIdeal.nD Cert.ReferenceGaIdeal.τ).loc Cert.ReferenceGaIdeal.main_arg1) = m ((c.tc : Thread Cert.ReferenceGaIdeal.nD Cert.ReferenceGaIdeal.τ).loc Cert.ReferenceGaIdeal.main_arg1)
      ∧ r.2.mem ((c.tc : Thread Cert.ReferenceGaIdeal.nD Cert.ReferenceGaIdeal.τ).loc Cert.ReferenceGaIdeal.main_arg2) = m ((c.tc : Thread Cert.ReferenceGaIdeal.nD Cert.ReferenceGaIdeal.τ).loc Cert.ReferenceGaIdeal.main_arg2))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1)
      ∧ r.2.mem ((c.tc : Thread Cert.KernelV.nD Cert.KernelV.τ).loc Cert.KernelV.main_arg2) = m ((c.tc : Thread Cert.KernelV.nD Cert.KernelV.τ).loc Cert.KernelV.main_arg2))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
      ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1)
      ∧ r.2.mem ((c.tc : Thread Cert.ReferenceVIdeal.nD Cert.ReferenceVIdeal.τ).loc Cert.ReferenceVIdeal.main_arg2) = m ((c.tc : Thread Cert.ReferenceVIdeal.nD Cert.ReferenceVIdeal.τ).loc Cert.ReferenceVIdeal.main_arg2))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)) →
    ∃ (v0 : (c : Dev Cert.KernelOutIdeal.nD) → Buf (Elt Ideal) ((c.tc : Thread Cert.KernelOutIdeal.nD Cert.KernelOutIdeal.τ).loc Cert.KernelOutIdeal.main_v4)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v4) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v35) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)
      ∧ m' ((c.tc : Thread Cert.ReferenceGluIdeal.nD Cert.ReferenceGluIdeal.τ).loc Cert.ReferenceGluIdeal.main_arg2) = m ((c.tc : Thread Cert.KernelGluIdeal.nD Cert.KernelGluIdeal.τ).loc Cert.KernelGluIdeal.main_arg2)) →
    ∃ (v0 : (c : Dev Cert.KernelGluIdeal.nD) → Buf (Elt Ideal) ((c.tc : Thread Cert.KernelGluIdeal.nD Cert.KernelGluIdeal.τ).loc Cert.KernelGluIdeal.main_v5)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v5) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
          ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v17) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1)
          ∧ r.2.mem ((c.tc : Thread Cert.ReferenceGluIdeal.nD Cert.ReferenceGluIdeal.τ).loc Cert.ReferenceGluIdeal.main_arg2) = m' ((c.tc : Thread Cert.ReferenceGluIdeal.nD Cert.ReferenceGluIdeal.τ).loc Cert.ReferenceGluIdeal.main_arg2))

def preserves_KernelGc_KernelGcIdeal : Prop :=
  True

def algebraic_KernelGcIdeal_ReferenceGcIdeal [hKernelGcIdeal : Cert.KernelGcIdeal.Facts] [hReferenceGcIdeal : Cert.ReferenceGcIdeal.Facts] : Prop :=
  ∀ (m : (ℓ : Loc Cert.KernelGcIdeal.nD Cert.KernelGcIdeal.τ Cert.KernelGcIdeal.sig) → Buf (Elt Ideal) ℓ) (g : Dev Cert.KernelGcIdeal.nD → PrngReg)
    (m' : (ℓ : Loc Cert.ReferenceGcIdeal.nD Cert.ReferenceGcIdeal.τ Cert.ReferenceGcIdeal.sig) → Buf (Elt Ideal) ℓ) (g' : Dev Cert.ReferenceGcIdeal.nD → PrngReg), Pre_KernelGcIdeal m →
    (∀ c : Dev Cert.KernelGcIdeal.nD,
      m' ((c.tc : Thread Cert.ReferenceGcIdeal.nD Cert.ReferenceGcIdeal.τ).loc Cert.ReferenceGcIdeal.main_arg0) = m ((c.tc : Thread Cert.KernelGcIdeal.nD Cert.KernelGcIdeal.τ).loc Cert.KernelGcIdeal.main_arg0)
      ∧ m' ((c.tc : Thread Cert.ReferenceGcIdeal.nD Cert.ReferenceGcIdeal.τ).loc Cert.ReferenceGcIdeal.main_arg1) = m ((c.tc : Thread Cert.KernelGcIdeal.nD Cert.KernelGcIdeal.τ).loc Cert.KernelGcIdeal.main_arg1)
      ∧ m' ((c.tc : Thread Cert.ReferenceGcIdeal.nD Cert.ReferenceGcIdeal.τ).loc Cert.ReferenceGcIdeal.main_arg2) = m ((c.tc : Thread Cert.KernelGcIdeal.nD Cert.KernelGcIdeal.τ).loc Cert.KernelGcIdeal.main_arg2)) →
    ∃ (v0 : (c : Dev Cert.KernelGcIdeal.nD) → Buf (Elt Ideal) ((c.tc : Thread Cert.KernelGcIdeal.nD Cert.KernelGcIdeal.τ).loc Cert.KernelGcIdeal.main_v3)),
      θ_run (Cert.KernelGcIdeal.defs (F := Ideal)) (onTc (τ := Cert.KernelGcIdeal.τ) (Cert.KernelGcIdeal.main (F := Ideal))) ⟨m, fun _ => 0, g⟩ (fun r => ∀ c : Dev Cert.KernelGcIdeal.nD,
          r.2.mem ((c.tc : Thread Cert.KernelGcIdeal.nD Cert.KernelGcIdeal.τ).loc Cert.KernelGcIdeal.main_v3) = v0 c
          ∧ r.2.mem ((c.tc : Thread Cert.KernelGcIdeal.nD Cert.KernelGcIdeal.τ).loc Cert.KernelGcIdeal.main_arg0) = m ((c.tc : Thread Cert.KernelGcIdeal.nD Cert.KernelGcIdeal.τ).loc Cert.KernelGcIdeal.main_arg0)
          ∧ r.2.mem ((c.tc : Thread Cert.KernelGcIdeal.nD Cert.KernelGcIdeal.τ).loc Cert.KernelGcIdeal.main_arg1) = m ((c.tc : Thread Cert.KernelGcIdeal.nD Cert.KernelGcIdeal.τ).loc Cert.KernelGcIdeal.main_arg1)
          ∧ r.2.mem ((c.tc : Thread Cert.KernelGcIdeal.nD Cert.KernelGcIdeal.τ).loc Cert.KernelGcIdeal.main_arg2) = m ((c.tc : Thread Cert.KernelGcIdeal.nD Cert.KernelGcIdeal.τ).loc Cert.KernelGcIdeal.main_arg2))
      ∧ θ_run (Cert.ReferenceGcIdeal.defs (F := Ideal)) (onTc (τ := Cert.ReferenceGcIdeal.τ) (Cert.ReferenceGcIdeal.main (F := Ideal))) ⟨m', fun _ => 0, g'⟩ (fun r => ∀ c : Dev Cert.ReferenceGcIdeal.nD,
          r.2.mem ((c.tc : Thread Cert.ReferenceGcIdeal.nD Cert.ReferenceGcIdeal.τ).loc Cert.ReferenceGcIdeal.main_v7) = v0 c
          ∧ r.2.mem ((c.tc : Thread Cert.ReferenceGcIdeal.nD Cert.ReferenceGcIdeal.τ).loc Cert.ReferenceGcIdeal.main_arg0) = m' ((c.tc : Thread Cert.ReferenceGcIdeal.nD Cert.ReferenceGcIdeal.τ).loc Cert.ReferenceGcIdeal.main_arg0)
          ∧ r.2.mem ((c.tc : Thread Cert.ReferenceGcIdeal.nD Cert.ReferenceGcIdeal.τ).loc Cert.ReferenceGcIdeal.main_arg1) = m' ((c.tc : Thread Cert.ReferenceGcIdeal.nD Cert.ReferenceGcIdeal.τ).loc Cert.ReferenceGcIdeal.main_arg1)
          ∧ r.2.mem ((c.tc : Thread Cert.ReferenceGcIdeal.nD Cert.ReferenceGcIdeal.τ).loc Cert.ReferenceGcIdeal.main_arg2) = m' ((c.tc : Thread Cert.ReferenceGcIdeal.nD Cert.ReferenceGcIdeal.τ).loc Cert.ReferenceGcIdeal.main_arg2))

def preserves_KernelGa_KernelGaIdeal : Prop :=
  True

def algebraic_KernelGaIdeal_ReferenceGaIdeal [hKernelGaIdeal : Cert.KernelGaIdeal.Facts] [hReferenceGaIdeal : Cert.ReferenceGaIdeal.Facts] : Prop :=
  ∀ (m : (ℓ : Loc Cert.KernelGaIdeal.nD Cert.KernelGaIdeal.τ Cert.KernelGaIdeal.sig) → Buf (Elt Ideal) ℓ) (g : Dev Cert.KernelGaIdeal.nD → PrngReg)
    (m' : (ℓ : Loc Cert.ReferenceGaIdeal.nD Cert.ReferenceGaIdeal.τ Cert.ReferenceGaIdeal.sig) → Buf (Elt Ideal) ℓ) (g' : Dev Cert.ReferenceGaIdeal.nD → PrngReg), Pre_KernelGaIdeal m →
    (∀ c : Dev Cert.KernelGaIdeal.nD,
      m' ((c.tc : Thread Cert.ReferenceGaIdeal.nD Cert.ReferenceGaIdeal.τ).loc Cert.ReferenceGaIdeal.main_arg0) = m ((c.tc : Thread Cert.KernelGaIdeal.nD Cert.KernelGaIdeal.τ).loc Cert.KernelGaIdeal.main_arg0)
      ∧ m' ((c.tc : Thread Cert.ReferenceGaIdeal.nD Cert.ReferenceGaIdeal.τ).loc Cert.ReferenceGaIdeal.main_arg1) = m ((c.tc : Thread Cert.KernelGaIdeal.nD Cert.KernelGaIdeal.τ).loc Cert.KernelGaIdeal.main_arg1)
      ∧ m' ((c.tc : Thread Cert.ReferenceGaIdeal.nD Cert.ReferenceGaIdeal.τ).loc Cert.ReferenceGaIdeal.main_arg2) = m ((c.tc : Thread Cert.KernelGaIdeal.nD Cert.KernelGaIdeal.τ).loc Cert.KernelGaIdeal.main_arg2)) →
    ∃ (v0 : (c : Dev Cert.KernelGaIdeal.nD) → Buf (Elt Ideal) ((c.tc : Thread Cert.KernelGaIdeal.nD Cert.KernelGaIdeal.τ).loc Cert.KernelGaIdeal.main_v3)),
      θ_run (Cert.KernelGaIdeal.defs (F := Ideal)) (onTc (τ := Cert.KernelGaIdeal.τ) (Cert.KernelGaIdeal.main (F := Ideal))) ⟨m, fun _ => 0, g⟩ (fun r => ∀ c : Dev Cert.KernelGaIdeal.nD,
          r.2.mem ((c.tc : Thread Cert.KernelGaIdeal.nD Cert.KernelGaIdeal.τ).loc Cert.KernelGaIdeal.main_v3) = v0 c
          ∧ r.2.mem ((c.tc : Thread Cert.KernelGaIdeal.nD Cert.KernelGaIdeal.τ).loc Cert.KernelGaIdeal.main_arg0) = m ((c.tc : Thread Cert.KernelGaIdeal.nD Cert.KernelGaIdeal.τ).loc Cert.KernelGaIdeal.main_arg0)
          ∧ r.2.mem ((c.tc : Thread Cert.KernelGaIdeal.nD Cert.KernelGaIdeal.τ).loc Cert.KernelGaIdeal.main_arg1) = m ((c.tc : Thread Cert.KernelGaIdeal.nD Cert.KernelGaIdeal.τ).loc Cert.KernelGaIdeal.main_arg1)
          ∧ r.2.mem ((c.tc : Thread Cert.KernelGaIdeal.nD Cert.KernelGaIdeal.τ).loc Cert.KernelGaIdeal.main_arg2) = m ((c.tc : Thread Cert.KernelGaIdeal.nD Cert.KernelGaIdeal.τ).loc Cert.KernelGaIdeal.main_arg2))
      ∧ θ_run (Cert.ReferenceGaIdeal.defs (F := Ideal)) (onTc (τ := Cert.ReferenceGaIdeal.τ) (Cert.ReferenceGaIdeal.main (F := Ideal))) ⟨m', fun _ => 0, g'⟩ (fun r => ∀ c : Dev Cert.ReferenceGaIdeal.nD,
          r.2.mem ((c.tc : Thread Cert.ReferenceGaIdeal.nD Cert.ReferenceGaIdeal.τ).loc Cert.ReferenceGaIdeal.main_v7) = v0 c
          ∧ r.2.mem ((c.tc : Thread Cert.ReferenceGaIdeal.nD Cert.ReferenceGaIdeal.τ).loc Cert.ReferenceGaIdeal.main_arg0) = m' ((c.tc : Thread Cert.ReferenceGaIdeal.nD Cert.ReferenceGaIdeal.τ).loc Cert.ReferenceGaIdeal.main_arg0)
          ∧ r.2.mem ((c.tc : Thread Cert.ReferenceGaIdeal.nD Cert.ReferenceGaIdeal.τ).loc Cert.ReferenceGaIdeal.main_arg1) = m' ((c.tc : Thread Cert.ReferenceGaIdeal.nD Cert.ReferenceGaIdeal.τ).loc Cert.ReferenceGaIdeal.main_arg1)
          ∧ r.2.mem ((c.tc : Thread Cert.ReferenceGaIdeal.nD Cert.ReferenceGaIdeal.τ).loc Cert.ReferenceGaIdeal.main_arg2) = m' ((c.tc : Thread Cert.ReferenceGaIdeal.nD Cert.ReferenceGaIdeal.τ).loc Cert.ReferenceGaIdeal.main_arg2))

def preserves_KernelV_KernelVIdeal : Prop :=
  True

def algebraic_KernelVIdeal_ReferenceVIdeal [hKernelVIdeal : Cert.KernelVIdeal.Facts] [hReferenceVIdeal : Cert.ReferenceVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)
      ∧ m' ((c.tc : Thread Cert.ReferenceVIdeal.nD Cert.ReferenceVIdeal.τ).loc Cert.ReferenceVIdeal.main_arg2) = m ((c.tc : Thread Cert.KernelVIdeal.nD Cert.KernelVIdeal.τ).loc Cert.KernelVIdeal.main_arg2)) →
    ∃ (v0 : (c : Dev Cert.KernelVIdeal.nD) → Buf (Elt Ideal) ((c.tc : Thread Cert.KernelVIdeal.nD Cert.KernelVIdeal.τ).loc Cert.KernelVIdeal.main_v3)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v3) = v0 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
          ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v9) = v0 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1)
          ∧ r.2.mem ((c.tc : Thread Cert.ReferenceVIdeal.nD Cert.ReferenceVIdeal.τ).loc Cert.ReferenceVIdeal.main_arg2) = m' ((c.tc : Thread Cert.ReferenceVIdeal.nD Cert.ReferenceVIdeal.τ).loc Cert.ReferenceVIdeal.main_arg2))

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelGlu : Cert.KernelGlu.Facts) (hKernelGluIdeal : Cert.KernelGluIdeal.Facts) (hReferenceGluIdeal : Cert.ReferenceGluIdeal.Facts) (hKernelGc : Cert.KernelGc.Facts) (hKernelGcIdeal : Cert.KernelGcIdeal.Facts) (hReferenceGcIdeal : Cert.ReferenceGcIdeal.Facts) (hKernelGa : Cert.KernelGa.Facts) (hKernelGaIdeal : Cert.KernelGaIdeal.Facts) (hReferenceGaIdeal : Cert.ReferenceGaIdeal.Facts) (hKernelV : Cert.KernelV.Facts) (hKernelVIdeal : Cert.KernelVIdeal.Facts) (hReferenceVIdeal : Cert.ReferenceVIdeal.Facts) (hPre_first_pair_in_range : Cert.Pre_first_pair_in_range.Facts) (hPre_finite_logits : Cert.Pre_finite_logits.Facts),
    quiescent_Kernel (hKernel := hKernel) (hPre_first_pair_in_range := hPre_first_pair_in_range)
    ∧ quiescent_KernelIdeal (hKernelIdeal := hKernelIdeal) (hPre_first_pair_in_range := hPre_first_pair_in_range)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelGc (hKernelGc := hKernelGc)
    ∧ quiescent_KernelGcIdeal (hKernelGcIdeal := hKernelGcIdeal)
    ∧ quiescent_ReferenceGcIdeal (hReferenceGcIdeal := hReferenceGcIdeal)
    ∧ quiescent_KernelGa (hKernelGa := hKernelGa)
    ∧ quiescent_KernelGaIdeal (hKernelGaIdeal := hKernelGaIdeal)
    ∧ quiescent_ReferenceGaIdeal (hReferenceGaIdeal := hReferenceGaIdeal)
    ∧ quiescent_KernelV (hKernelV := hKernelV)
    ∧ quiescent_KernelVIdeal (hKernelVIdeal := hKernelVIdeal)
    ∧ quiescent_ReferenceVIdeal (hReferenceVIdeal := hReferenceVIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_KernelOut_KernelOutIdeal
    ∧ algebraic_KernelOutIdeal_ReferenceOutIdeal (hKernelOutIdeal := hKernelOutIdeal) (hReferenceOutIdeal := hReferenceOutIdeal)
    ∧ preserves_KernelGlu_KernelGluIdeal
    ∧ algebraic_KernelGluIdeal_ReferenceGluIdeal (hKernelGluIdeal := hKernelGluIdeal) (hReferenceGluIdeal := hReferenceGluIdeal)
    ∧ preserves_KernelGc_KernelGcIdeal
    ∧ algebraic_KernelGcIdeal_ReferenceGcIdeal (hKernelGcIdeal := hKernelGcIdeal) (hReferenceGcIdeal := hReferenceGcIdeal)
    ∧ preserves_KernelGa_KernelGaIdeal
    ∧ algebraic_KernelGaIdeal_ReferenceGaIdeal (hKernelGaIdeal := hKernelGaIdeal) (hReferenceGaIdeal := hReferenceGaIdeal)
    ∧ preserves_KernelV_KernelVIdeal
    ∧ algebraic_KernelVIdeal_ReferenceVIdeal (hKernelVIdeal := hKernelVIdeal) (hReferenceVIdeal := hReferenceVIdeal)
-- ==== Pre_finite_logits.lean ====
abbrev S128 : Shape := ⟨1, ![128]⟩
abbrev S8192x4096 : Shape := ⟨2, ![8192, 4096]⟩
abbrev S16x2048x512 : Shape := ⟨3, ![16, 2048, 512]⟩
abbrev S8192x128 : Shape := ⟨2, ![8192, 128]⟩
abbrev S8192x2048 : Shape := ⟨2, ![8192, 2048]⟩
abbrev S_ : Shape := ⟨0, ![]⟩
abbrev S8192x32x128 : Shape := ⟨3, ![8192, 32, 128]⟩
abbrev S8192x1x128 : Shape := ⟨3, ![8192, 1, 128]⟩
abbrev S1x1x128 : Shape := ⟨3, ![1, 1, 128]⟩

class Facts : Prop where
  bcast_S_S128 : S_.BroadcastsInDim S128 (![] : Fin 0 → Fin S128.rank)
  bitsLt_bf16_f32 : FTy.bits .bf16 < FTy.bits .f32
  bcast_S_S8192x128 : S_.BroadcastsInDim S8192x128 (![] : Fin 0 → Fin S8192x128.rank)
  bcast_S_S8192x4096 : S_.BroadcastsInDim S8192x4096 (![] : Fin 0 → Fin S8192x4096.rank)
  shapeCasts_S8192x4096_S8192x32x128 : S8192x4096.ShapeCasts S8192x32x128
  bcast_S8192x128_S8192x1x128_0_2 : S8192x128.BroadcastsInDim S8192x1x128 (![0, 2] : Fin 2 → Fin S8192x1x128.rank)
  bcast_S8192x1x128_S8192x32x128_0_1_2 : S8192x1x128.BroadcastsInDim S8192x32x128 (![0, 1, 2] : Fin 3 → Fin S8192x32x128.rank)
  bcast_S128_S1x1x128_2 : S128.BroadcastsInDim S1x1x128 (![2] : Fin 1 → Fin S1x1x128.rank)
  bcast_S1x1x128_S8192x32x128_0_1_2 : S1x1x128.BroadcastsInDim S8192x32x128 (![0, 1, 2] : Fin 3 → Fin S8192x32x128.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S128 32) (arg1 : IVec S_ 32) : IVec S128 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S128 32 := broadcastInDim S128 ![] bcast_S_S128 v2
  let v4 : IVec S128 32 := Host.remsi arg0 v3
  let c_1 : IVec S_ 32 := constantI S_ 32 0#32
  let v5 : IVec S128 32 := broadcastInDim S128 ![] bcast_S_S128 c_1
  let v6 : IVec S128 1 := cmpi .ne v4 v5
  let c_2 : IVec S_ 32 := constantI S_ 32 0#32
  let v7 : IVec S128 32 := broadcastInDim S128 ![] bcast_S_S128 c_2
  let v8 : IVec S128 1 := cmpi .slt v4 v7
  let c_3 : IVec S_ 32 := constantI S_ 32 0#32
  let v9 : IVec S_ 1 := cmpi .slt v2 c_3
  let v10 : IVec S128 1 := broadcastInDim S128 ![] bcast_S_S128 v9
  let v11 : IVec S128 1 := cmpi .ne v8 v10
  let v12 : IVec S128 1 := andi v11 v6
  let v13 : IVec S128 32 := broadcastInDim S128 ![] bcast_S_S128 v2
  let v14 : IVec S128 32 := addi v4 v13
  let v15 : IVec S128 32 := select v12 v14 v4
  v15

def fn_part1 {F : FTy → Type} [FloatOps F] (main_arg1 : FVec F S8192x4096 .bf16) (main_v5 : IVec S128 1) (main_v12 : IVec S8192x128 1) (main_v15 : IVec S8192x128 1) (main_v16 : FVec F S8192x128 .f32) (main_v17 : FVec F S8192x128 .f32) : IVec S8192x32x128 1 :=
  let main_v18 : IVec S8192x128 1 := cmpf .ogt main_v16 main_v17
  let main_v19 : IVec S8192x128 1 := andi main_v15 main_v18
  let main_v20 : IVec S8192x128 1 := andi main_v12 main_v19
  let main_v21 : FVec F S8192x4096 .f32 := (extf .f32 · bitsLt_bf16_f32) main_arg1
  let main_cst_4 : FVec F S_ .f32 := constant S_ .f32 0x7F800000#32
  let main_v22 : FVec F S8192x4096 .f32 := broadcastInDim S8192x4096 ![] bcast_S_S8192x4096 main_cst_4
  let main_v23 : IVec S8192x4096 1 := cmpf .olt main_v21 main_v22
  let main_v24 : FVec F S8192x4096 .f32 := (extf .f32 · bitsLt_bf16_f32) main_arg1
  let main_cst_5 : FVec F S_ .f32 := constant S_ .f32 0xFF800000#32
  let main_v25 : FVec F S8192x4096 .f32 := broadcastInDim S8192x4096 ![] bcast_S_S8192x4096 main_cst_5
  let main_v26 : IVec S8192x4096 1 := cmpf .ogt main_v24 main_v25
  let main_v27 : IVec S8192x4096 1 := andi main_v23 main_v26
  let main_v28 : IVec S8192x32x128 1 := shapeCast S8192x32x128 main_v27 shapeCasts_S8192x4096_S8192x32x128
  let main_v29 : IVec S8192x1x128 1 := broadcastInDim S8192x1x128 ![0, 2] bcast_S8192x128_S8192x1x128_0_2 main_v20
  let main_v30 : IVec S8192x32x128 1 := broadcastInDim S8192x32x128 ![0, 1, 2] bcast_S8192x1x128_S8192x32x128_0_1_2 main_v29
  let main_v31 : IVec S8192x32x128 1 := andi main_v28 main_v30
  let main_v32 : IVec S1x1x128 1 := broadcastInDim S1x1x128 ![2] bcast_S128_S1x1x128_2 main_v5
  let main_v33 : IVec S8192x32x128 1 := broadcastInDim S8192x32x128 ![0, 1, 2] bcast_S1x1x128_S8192x32x128_0_1_2 main_v32
  let main_v34 : IVec S8192x32x128 1 := andi main_v31 main_v33
  main_v34

def fn {F : FTy → Type} [FloatOps F] (main_arg0 : IVec S128 32) (main_arg1 : FVec F S8192x4096 .bf16) (main_arg2 : FVec F S16x2048x512 .bf16) (main_arg3 : FVec F S8192x128 .bf16) (main_arg4 : FVec F S8192x128 .bf16) (main_arg5 : FVec F S8192x2048 .f32) : IVec S8192x32x128 1 :=
  let main_v0 : IVec S128 32 := iotaInDim S128 32 0
  let main_c : IVec S_ 32 := constantI S_ 32 8#32
  let main_v1 : IVec S128 32 := fn_remainder (F := F) main_v0 main_c
  let main_c_0 : IVec S_ 32 := constantI S_ 32 0#32
  let main_v2 : IVec S128 32 := broadcastInDim S128 ![] bcast_S_S128 main_c_0
  let main_v3 : IVec S128 1 := cmpi .sge main_arg0 main_v2
  let main_v4 : IVec S128 1 := cmpi .sle main_arg0 main_v1
  let main_v5 : IVec S128 1 := andi main_v3 main_v4
  let main_v6 : FVec F S8192x128 .f32 := (extf .f32 · bitsLt_bf16_f32) main_arg3
  let main_cst : FVec F S_ .f32 := constant S_ .f32 0x7F800000#32
  let main_v7 : FVec F S8192x128 .f32 := broadcastInDim S8192x128 ![] bcast_S_S8192x128 main_cst
  let main_v8 : IVec S8192x128 1 := cmpf .olt main_v6 main_v7
  let main_v9 : FVec F S8192x128 .f32 := (extf .f32 · bitsLt_bf16_f32) main_arg3
  let main_cst_1 : FVec F S_ .f32 := constant S_ .f32 0xFF800000#32
  let main_v10 : FVec F S8192x128 .f32 := broadcastInDim S8192x128 ![] bcast_S_S8192x128 main_cst_1
  let main_v11 : IVec S8192x128 1 := cmpf .ogt main_v9 main_v10
  let main_v12 : IVec S8192x128 1 := andi main_v8 main_v11
  let main_v13 : FVec F S8192x128 .f32 := (extf .f32 · bitsLt_bf16_f32) main_arg4
  let main_cst_2 : FVec F S_ .f32 := constant S_ .f32 0x7F800000#32
  let main_v14 : FVec F S8192x128 .f32 := broadcastInDim S8192x128 ![] bcast_S_S8192x128 main_cst_2
  let main_v15 : IVec S8192x128 1 := cmpf .olt main_v13 main_v14
  let main_v16 : FVec F S8192x128 .f32 := (extf .f32 · bitsLt_bf16_f32) main_arg4
  let main_cst_3 : FVec F S_ .f32 := constant S_ .f32 0xFF800000#32
  let main_v17 : FVec F S8192x128 .f32 := broadcastInDim S8192x128 ![] bcast_S_S8192x128 main_cst_3
  fn_part1 (F := F) main_arg1 main_v5 main_v12 main_v15 main_v16 main_v17
-- ==== Pre_first_pair_in_range.lean ====
abbrev S128 : Shape := ⟨1, ![128]⟩
abbrev S8192x4096 : Shape := ⟨2, ![8192, 4096]⟩
abbrev S16x2048x512 : Shape := ⟨3, ![16, 2048, 512]⟩
abbrev S8192x128 : Shape := ⟨2, ![8192, 128]⟩
abbrev S8192x2048 : Shape := ⟨2, ![8192, 2048]⟩
abbrev S_ : Shape := ⟨0, ![]⟩

class Facts : Prop where
  bcast_S_S128 : S_.BroadcastsInDim S128 (![] : Fin 0 → Fin S128.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S128 32) (arg1 : IVec S_ 32) : IVec S128 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S128 32 := broadcastInDim S128 ![] bcast_S_S128 v2
  let v4 : IVec S128 32 := Host.remsi arg0 v3
  let c_1 : IVec S_ 32 := constantI S_ 32 0#32
  let v5 : IVec S128 32 := broadcastInDim S128 ![] bcast_S_S128 c_1
  let v6 : IVec S128 1 := cmpi .ne v4 v5
  let c_2 : IVec S_ 32 := constantI S_ 32 0#32
  let v7 : IVec S128 32 := broadcastInDim S128 ![] bcast_S_S128 c_2
  let v8 : IVec S128 1 := cmpi .slt v4 v7
  let c_3 : IVec S_ 32 := constantI S_ 32 0#32
  let v9 : IVec S_ 1 := cmpi .slt v2 c_3
  let v10 : IVec S128 1 := broadcastInDim S128 ![] bcast_S_S128 v9
  let v11 : IVec S128 1 := cmpi .ne v8 v10
  let v12 : IVec S128 1 := andi v11 v6
  let v13 : IVec S128 32 := broadcastInDim S128 ![] bcast_S_S128 v2
  let v14 : IVec S128 32 := addi v4 v13
  let v15 : IVec S128 32 := select v12 v14 v4
  v15

def fn {F : FTy → Type} [FloatOps F] (main_arg0 : IVec S128 32) (main_arg1 : FVec F S8192x4096 .bf16) (main_arg2 : FVec F S16x2048x512 .bf16) (main_arg3 : FVec F S8192x128 .bf16) (main_arg4 : FVec F S8192x128 .bf16) (main_arg5 : FVec F S8192x2048 .f32) : IVec S128 1 :=
  let main_v0 : IVec S128 32 := iotaInDim S128 32 0
  let main_c : IVec S_ 32 := constantI S_ 32 8#32
  let main_v1 : IVec S128 32 := fn_remainder (F := F) main_v0 main_c
  let main_c_0 : IVec S_ 32 := constantI S_ 32 0#32
  let main_v2 : IVec S128 32 := broadcastInDim S128 ![] bcast_S_S128 main_c_0
  let main_v3 : IVec S128 1 := cmpi .sge main_arg0 main_v2
  let main_v4 : IVec S128 1 := cmpi .sle main_arg0 main_v1
  let main_v5 : IVec S128 1 := andi main_v3 main_v4
  main_v5
-- ==== Kernel.lean ====
abbrev S128 : Shape := ⟨1, ![128]⟩
abbrev S8192x4096 : Shape := ⟨2, ![8192, 4096]⟩
abbrev S16x2048x512 : Shape := ⟨3, ![16, 2048, 512]⟩
abbrev S8192x128 : Shape := ⟨2, ![8192, 128]⟩
abbrev S8192x2048 : Shape := ⟨2, ![8192, 2048]⟩
abbrev S16x128x512 : Shape := ⟨3, ![16, 128, 512]⟩
abbrev S1024x256 : Shape := ⟨2, ![1024, 256]⟩
abbrev S512x1024 : Shape := ⟨2, ![512, 1024]⟩
abbrev S128x1024 : Shape := ⟨2, ![128, 1024]⟩
abbrev S1x1024 : Shape := ⟨2, ![1, 1024]⟩
abbrev S1024x128 : Shape := ⟨2, ![1024, 128]⟩
abbrev S1 : Shape := ⟨1, ![1]⟩
abbrev S512x128 : Shape := ⟨2, ![512, 128]⟩
abbrev S512x256 : Shape := ⟨2, ![512, 256]⟩
abbrev S1024 : Shape := ⟨1, ![1024]⟩
abbrev S1x128x512 : Shape := ⟨3, ![1, 128, 512]⟩
abbrev S128x512 : Shape := ⟨2, ![128, 512]⟩
abbrev S512x512 : Shape := ⟨2, ![512, 512]⟩
abbrev S1x512 : Shape := ⟨2, ![1, 512]⟩
abbrev S512 : Shape := ⟨1, ![512]⟩

abbrev nBuf : Space → Nat
  | .hbm => 6
  | .vmem => 20
  | .smem => 1
  | _ => 0

abbrev bufTy : (tb : Table) → Fin (tcTables nBuf tb) → BufTy
  | .hbm, ⟨0, _⟩ => ⟨S8192x4096, .bf16⟩
  | .hbm, ⟨1, _⟩ => ⟨S16x2048x512, .bf16⟩
  | .hbm, ⟨2, _⟩ => ⟨S8192x128, .bf16⟩
  | .hbm, ⟨3, _⟩ => ⟨S8192x128, .bf16⟩
  | .hbm, ⟨4, _⟩ => ⟨S8192x2048, .f32⟩
  | .hbm, ⟨5, _⟩ => ⟨S8192x2048, .bf16⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S16x128x512, .bf16⟩
  | .local _ .vmem, ⟨7, _⟩ => ⟨S16x128x512, .bf16⟩
  | .local _ .vmem, ⟨8, _⟩ => ⟨S8192x128, .f32⟩
  | .local _ .vmem, ⟨9, _⟩ => ⟨S8192x128, .f32⟩
  | .local _ .vmem, ⟨10, _⟩ => ⟨S8192x128, .bf16⟩
  | .local _ .vmem, ⟨11, _⟩ => ⟨S8192x128, .bf16⟩
  | .local _ .vmem, ⟨12, _⟩ => ⟨S1024x256, .bf16⟩
  | .local _ .vmem, ⟨13, _⟩ => ⟨S1024x256, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S128x1024, .f32⟩
  | .local _ .vmem, ⟨18, _⟩ => ⟨S1x1024, .f32⟩
  | .local _ .vmem, ⟨19, _⟩ => ⟨S1x1024, .f32⟩
  | .local _ .smem, ⟨0, _⟩ => ⟨S128, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_mult1 : BitVec 32 :=
  let c0_i32 : BitVec 32 := 0#32
  c0_i32
def k0_off1 (i : grid0.Coords) : Fin 1 → Nat :=
  let arg0 : BitVec 32 := BitVec.ofNat 32 (i 0).val
  let c8_i32 : BitVec 32 := 8#32
  let v16 : BitVec 32 := Scalar.muli arg0 c8_i32
  let c0_i32_3 : BitVec 32 := 0#32
  let v17 : BitVec 32 := Scalar.addi v16 c0_i32_3
  let v18 : Index := Scalar.indexCast v17
  ![v18.toNat]
def k0_mult2 (v19 : BitVec 32) : BitVec 32 :=
  let c2_i32 : BitVec 32 := 2#32
  let v20 : BitVec 32 := Scalar.muli c2_i32 v19
  let c512_i32 : BitVec 32 := 512#32
  let v21 : BitVec 32 := Scalar.muli v20 c512_i32
  v21

def k0_off2 (v19 : BitVec 32) : Fin 2 → Nat :=
  let c2_i32 : BitVec 32 := 2#32
  let v20 : BitVec 32 := Scalar.muli c2_i32 v19
  let c512_i32 : BitVec 32 := 512#32
  let v21 : BitVec 32 := Scalar.muli v20 c512_i32
  let v22 : BitVec 32 := v21
  let v23 : Index := Scalar.indexCast v22
  let c0_4 : Index := 0#32
  ![v23.toNat, 0]

def k0_chk1 (v19 : BitVec 32) : Prop :=
  (512 ∣ (k0_mult2 v19).toNat) ∧
  (∀ a, (k0_off2 v19) a + S512x128.size a ≤ S8192x128.size a)
theorem k0_mult2_dvd : ∀ (v19 : BitVec 32) (k0_hw1 : k0_chk1 v19), 512 ∣ (k0_mult2 v19).toNat := fun v19 k0_hw1 => k0_hw1.1
theorem k0_off2_inb : ∀ (v19 : BitVec 32) (k0_hw1 : k0_chk1 v19), ∀ a, (k0_off2 v19) a + S512x128.size a ≤ S8192x128.size a := fun v19 k0_hw1 => k0_hw1.2

@[reducible] def k0_t1_loop : Scf.Loop 32 :=
  let c0_i32_11 : BitVec 32 := 0#32
  let c4_i32 : BitVec 32 := 4#32
  let v33 : BitVec 32 := Scalar.addi c0_i32_11 c4_i32
  let c1_i32 : BitVec 32 := 1#32
  ⟨c0_i32_11, v33, c1_i32⟩
def k0_off3 (i : grid0.Coords) (k0_t1 : Fin k0_t1_loop.trips) : Fin 1 → Nat :=
  let arg0 : BitVec 32 := BitVec.ofNat 32 (i 0).val
  let c8_i32_23 : BitVec 32 := 8#32
  let v47 : BitVec 32 := Scalar.muli arg0 c8_i32_23
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let v48 : BitVec 32 := Scalar.addi v47 v34
  let v49 : Index := Scalar.indexCast v48
  ![v49.toNat]
@[reducible] def k0_t2_loop (k0_t1 : Fin k0_t1_loop.trips) (v50 : BitVec 32) : Scf.Loop 32 :=
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let v51 : BitVec 32 := Scalar.subi v34 v50
  let c1_i32_25 : BitVec 32 := 1#32
  let v53 : BitVec 32 := Scalar.divsi v51 c1_i32_25
  let v54 : BitVec 32 := Scalar.muli v53 c1_i32_25
  let v55 : BitVec 32 := Scalar.addi v50 v54
  let c1_i32_26 : BitVec 32 := 1#32
  ⟨v50, v55, c1_i32_26⟩

def k0_mult3 (k0_t1 : Fin k0_t1_loop.trips) (v50 : BitVec 32) (k0_t2 : Fin (k0_t2_loop k0_t1 v50).trips) : BitVec 32 :=
  let c2_i32_245 : BitVec 32 := 2#32
  let c1_i32_26 : BitVec 32 := 1#32
  let arg18 : BitVec 32 := Scf.iv v50 c1_i32_26 k0_t2
  let v437 : BitVec 32 := Scalar.muli c2_i32_245 arg18
  let c1_i32_246 : BitVec 32 := 1#32
  let v438 : BitVec 32 := Scalar.addi v437 c1_i32_246
  let c512_i32_247 : BitVec 32 := 512#32
  let v439 : BitVec 32 := Scalar.muli v438 c512_i32_247
  v439
def k0_off4 (k0_t1 : Fin k0_t1_loop.trips) (v50 : BitVec 32) (k0_t2 : Fin (k0_t2_loop k0_t1 v50).trips) (c1_i32_246 : BitVec 32) : Fin 2 → Nat :=
  let c2_i32_245 : BitVec 32 := 2#32
  let c1_i32_26 : BitVec 32 := 1#32
  let arg18 : BitVec 32 := Scf.iv v50 c1_i32_26 k0_t2
  let v437 : BitVec 32 := Scalar.muli c2_i32_245 arg18
  let v438 : BitVec 32 := Scalar.addi v437 c1_i32_246
  let c512_i32_247 : BitVec 32 := 512#32
  let v439 : BitVec 32 := Scalar.muli v438 c512_i32_247
  let v440 : BitVec 32 := v439
  let v441 : Index := Scalar.indexCast v440
  let c0_248 : Index := 0#32
  ![v441.toNat, 0]
def k0_off5 (k0_t1 : Fin k0_t1_loop.trips) (v50 : BitVec 32) (k0_t2 : Fin (k0_t2_loop k0_t1 v50).trips) : Fin 3 → Nat :=
  let c2_i32_245 : BitVec 32 := 2#32
  let c1_i32_26 : BitVec 32 := 1#32
  let arg18 : BitVec 32 := Scf.iv v50 c1_i32_26 k0_t2
  let v437 : BitVec 32 := Scalar.muli c2_i32_245 arg18
  let v469 : Index := Scalar.indexCast v437
  let c0_265 : Index := 0#32
  let c0_266 : Index := 0#32
  ![v469.toNat, 0, 0]
def k0_mult4 (k0_t1 : Fin k0_t1_loop.trips) (v50 : BitVec 32) (k0_t2 : Fin (k0_t2_loop k0_t1 v50).trips) : BitVec 32 :=
  let c2_i32_245 : BitVec 32 := 2#32
  let c1_i32_26 : BitVec 32 := 1#32
  let arg18 : BitVec 32 := Scf.iv v50 c1_i32_26 k0_t2
  let v437 : BitVec 32 := Scalar.muli c2_i32_245 arg18
  let c2_i32_274 : BitVec 32 := 2#32
  let v484 : BitVec 32 := Scalar.addi v437 c2_i32_274
  let c512_i32_275 : BitVec 32 := 512#32
  let v485 : BitVec 32 := Scalar.muli v484 c512_i32_275
  v485
def k0_off6 (k0_t1 : Fin k0_t1_loop.trips) (v50 : BitVec 32) (k0_t2 : Fin (k0_t2_loop k0_t1 v50).trips) : Fin 3 → Nat :=
  let c2_i32_245 : BitVec 32 := 2#32
  let c1_i32_26 : BitVec 32 := 1#32
  let arg18 : BitVec 32 := Scf.iv v50 c1_i32_26 k0_t2
  let v437 : BitVec 32 := Scalar.muli c2_i32_245 arg18
  let c1_i32_283 : BitVec 32 := 1#32
  let v497 : BitVec 32 := Scalar.addi v437 c1_i32_283
  let v516 : Index := Scalar.indexCast v497
  let c0_294 : Index := 0#32
  let c0_295 : Index := 0#32
  ![v516.toNat, 0, 0]
@[reducible] def k0_t3_loop (k0_t1 : Fin k0_t1_loop.trips) (v50 : BitVec 32) : Scf.Loop 32 :=
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let v51 : BitVec 32 := Scalar.subi v34 v50
  let c1_i32_25 : BitVec 32 := 1#32
  let v53 : BitVec 32 := Scalar.divsi v51 c1_i32_25
  let v54 : BitVec 32 := Scalar.muli v53 c1_i32_25
  let v55 : BitVec 32 := Scalar.addi v50 v54
  let v52 : BitVec 32 := Scalar.addi v50 v51
  let c1_i32_27 : BitVec 32 := 1#32
  ⟨v55, v52, c1_i32_27⟩
def k0_mult5 (k0_t1 : Fin k0_t1_loop.trips) (v50 : BitVec 32) (k0_t3 : Fin (k0_t3_loop k0_t1 v50).trips) : BitVec 32 :=
  let c2_i32_245 : BitVec 32 := 2#32
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let v51 : BitVec 32 := Scalar.subi v34 v50
  let c1_i32_25 : BitVec 32 := 1#32
  let v53 : BitVec 32 := Scalar.divsi v51 c1_i32_25
  let v54 : BitVec 32 := Scalar.muli v53 c1_i32_25
  let v55 : BitVec 32 := Scalar.addi v50 v54
  let c1_i32_27 : BitVec 32 := 1#32
  let arg18 : BitVec 32 := Scf.iv v55 c1_i32_27 k0_t3
  let v437 : BitVec 32 := Scalar.muli c2_i32_245 arg18
  let c1_i32_246 : BitVec 32 := 1#32
  let v438 : BitVec 32 := Scalar.addi v437 c1_i32_246
  let c512_i32_247 : BitVec 32 := 512#32
  let v439 : BitVec 32 := Scalar.muli v438 c512_i32_247
  v439
def k0_off7 (k0_t1 : Fin k0_t1_loop.trips) (v50 : BitVec 32) (k0_t3 : Fin (k0_t3_loop k0_t1 v50).trips) (c1_i32_246 : BitVec 32) : Fin 2 → Nat :=
  let c2_i32_245 : BitVec 32 := 2#32
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let v51 : BitVec 32 := Scalar.subi v34 v50
  let c1_i32_25 : BitVec 32 := 1#32
  let v53 : BitVec 32 := Scalar.divsi v51 c1_i32_25
  let v54 : BitVec 32 := Scalar.muli v53 c1_i32_25
  let v55 : BitVec 32 := Scalar.addi v50 v54
  let c1_i32_27 : BitVec 32 := 1#32
  let arg18 : BitVec 32 := Scf.iv v55 c1_i32_27 k0_t3
  let v437 : BitVec 32 := Scalar.muli c2_i32_245 arg18
  let v438 : BitVec 32 := Scalar.addi v437 c1_i32_246
  let c512_i32_247 : BitVec 32 := 512#32
  let v439 : BitVec 32 := Scalar.muli v438 c512_i32_247
  let v440 : BitVec 32 := v439
  let v441 : Index := Scalar.indexCast v440
  let c0_248 : Index := 0#32
  ![v441.toNat, 0]
def k0_off8 (k0_t1 : Fin k0_t1_loop.trips) (v50 : BitVec 32) (k0_t3 : Fin (k0_t3_loop k0_t1 v50).trips) : Fin 3 → Nat :=
  let c2_i32_245 : BitVec 32 := 2#32
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let v51 : BitVec 32 := Scalar.subi v34 v50
  let c1_i32_25 : BitVec 32 := 1#32
  let v53 : BitVec 32 := Scalar.divsi v51 c1_i32_25
  let v54 : BitVec 32 := Scalar.muli v53 c1_i32_25
  let v55 : BitVec 32 := Scalar.addi v50 v54
  let c1_i32_27 : BitVec 32 := 1#32
  let arg18 : BitVec 32 := Scf.iv v55 c1_i32_27 k0_t3
  let v437 : BitVec 32 := Scalar.muli c2_i32_245 arg18
  let v469 : Index := Scalar.indexCast v437
  let c0_265 : Index := 0#32
  let c0_266 : Index := 0#32
  ![v469.toNat, 0, 0]
def k0_mult6 (k0_t1 : Fin k0_t1_loop.trips) (v50 : BitVec 32) (k0_t3 : Fin (k0_t3_loop k0_t1 v50).trips) : BitVec 32 :=
  let c2_i32_245 : BitVec 32 := 2#32
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let v51 : BitVec 32 := Scalar.subi v34 v50
  let c1_i32_25 : BitVec 32 := 1#32
  let v53 : BitVec 32 := Scalar.divsi v51 c1_i32_25
  let v54 : BitVec 32 := Scalar.muli v53 c1_i32_25
  let v55 : BitVec 32 := Scalar.addi v50 v54
  let c1_i32_27 : BitVec 32 := 1#32
  let arg18 : BitVec 32 := Scf.iv v55 c1_i32_27 k0_t3
  let v437 : BitVec 32 := Scalar.muli c2_i32_245 arg18
  let c2_i32_274 : BitVec 32 := 2#32
  let v484 : BitVec 32 := Scalar.addi v437 c2_i32_274
  let c512_i32_275 : BitVec 32 := 512#32
  let v485 : BitVec 32 := Scalar.muli v484 c512_i32_275
  v485
def k0_off9 (k0_t1 : Fin k0_t1_loop.trips) (v50 : BitVec 32) (k0_t3 : Fin (k0_t3_loop k0_t1 v50).trips) : Fin 3 → Nat :=
  let c2_i32_245 : BitVec 32 := 2#32
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let v51 : BitVec 32 := Scalar.subi v34 v50
  let c1_i32_25 : BitVec 32 := 1#32
  let v53 : BitVec 32 := Scalar.divsi v51 c1_i32_25
  let v54 : BitVec 32 := Scalar.muli v53 c1_i32_25
  let v55 : BitVec 32 := Scalar.addi v50 v54
  let c1_i32_27 : BitVec 32 := 1#32
  let arg18 : BitVec 32 := Scf.iv v55 c1_i32_27 k0_t3
  let v437 : BitVec 32 := Scalar.muli c2_i32_245 arg18
  let c1_i32_283 : BitVec 32 := 1#32
  let v497 : BitVec 32 := Scalar.addi v437 c1_i32_283
  let v516 : Index := Scalar.indexCast v497
  let c0_294 : Index := 0#32
  let c0_295 : Index := 0#32
  ![v516.toNat, 0, 0]

def k0_chk2 (k0_t1 : Fin k0_t1_loop.trips) (v50 : BitVec 32) : Prop :=
  ((k0_t2_loop k0_t1 v50).OK) ∧
  (∀ k0_t2 : Fin (k0_t2_loop k0_t1 v50).trips, 512 ∣ (k0_mult3 k0_t1 v50 k0_t2).toNat) ∧
  (∀ k0_t2 : Fin (k0_t2_loop k0_t1 v50).trips, ∀ (r : Fin 2), ∀ a, (k0_off4 k0_t1 v50 k0_t2 (BitVec.ofNat 32 (1 + r.val))) a + S512x128.size a ≤ S8192x128.size a) ∧
  (∀ k0_t2 : Fin (k0_t2_loop k0_t1 v50).trips, ∀ a, (k0_off5 k0_t1 v50 k0_t2) a + S1x128x512.size a ≤ S16x128x512.size a) ∧
  (∀ k0_t2 : Fin (k0_t2_loop k0_t1 v50).trips, 512 ∣ (k0_mult4 k0_t1 v50 k0_t2).toNat) ∧
  (∀ k0_t2 : Fin (k0_t2_loop k0_t1 v50).trips, ∀ a, (k0_off6 k0_t1 v50 k0_t2) a + S1x128x512.size a ≤ S16x128x512.size a) ∧
  ((k0_t3_loop k0_t1 v50).OK) ∧
  (∀ k0_t3 : Fin (k0_t3_loop k0_t1 v50).trips, 512 ∣ (k0_mult5 k0_t1 v50 k0_t3).toNat) ∧
  (∀ k0_t3 : Fin (k0_t3_loop k0_t1 v50).trips, ∀ (r : Fin 2), ∀ a, (k0_off7 k0_t1 v50 k0_t3 (BitVec.ofNat 32 (1 + r.val))) a + S512x128.size a ≤ S8192x128.size a) ∧
  (∀ k0_t3 : Fin (k0_t3_loop k0_t1 v50).trips, ∀ a, (k0_off8 k0_t1 v50 k0_t3) a + S1x128x512.size a ≤ S16x128x512.size a) ∧
  (∀ k0_t3 : Fin (k0_t3_loop k0_t1 v50).trips, 512 ∣ (k0_mult6 k0_t1 v50 k0_t3).toNat) ∧
  (∀ k0_t3 : Fin (k0_t3_loop k0_t1 v50).trips, ∀ a, (k0_off9 k0_t1 v50 k0_t3) a + S1x128x512.size a ≤ S16x128x512.size a)
theorem k0_t2_ok : ∀ (k0_t1 : Fin k0_t1_loop.trips) (v50 : BitVec 32) (k0_hw2 : k0_chk2 k0_t1 v50), (k0_t2_loop k0_t1 v50).OK := fun k0_t1 v50 k0_hw2 => k0_hw2.1
theorem k0_mult3_dvd : ∀ (k0_t1 : Fin k0_t1_loop.trips) (v50 : BitVec 32) (k0_hw2 : k0_chk2 k0_t1 v50) (k0_t2 : Fin (k0_t2_loop k0_t1 v50).trips), 512 ∣ (k0_mult3 k0_t1 v50 k0_t2).toNat := fun k0_t1 v50 k0_hw2 k0_t2 => k0_hw2.2.1 k0_t2
theorem k0_off4_inb : ∀ (k0_t1 : Fin k0_t1_loop.trips) (v50 : BitVec 32) (k0_hw2 : k0_chk2 k0_t1 v50) (k0_t2 : Fin (k0_t2_loop k0_t1 v50).trips), ∀ (r : Fin 2), ∀ a, (k0_off4 k0_t1 v50 k0_t2 (BitVec.ofNat 32 (1 + r.val))) a + S512x128.size a ≤ S8192x128.size a := fun k0_t1 v50 k0_hw2 k0_t2 r => k0_hw2.2.2.1 k0_t2 r
theorem k0_off5_inb : ∀ (k0_t1 : Fin k0_t1_loop.trips) (v50 : BitVec 32) (k0_hw2 : k0_chk2 k0_t1 v50) (k0_t2 : Fin (k0_t2_loop k0_t1 v50).trips), ∀ a, (k0_off5 k0_t1 v50 k0_t2) a + S1x128x512.size a ≤ S16x128x512.size a := fun k0_t1 v50 k0_hw2 k0_t2 => k0_hw2.2.2.2.1 k0_t2
theorem k0_mult4_dvd : ∀ (k0_t1 : Fin k0_t1_loop.trips) (v50 : BitVec 32) (k0_hw2 : k0_chk2 k0_t1 v50) (k0_t2 : Fin (k0_t2_loop k0_t1 v50).trips), 512 ∣ (k0_mult4 k0_t1 v50 k0_t2).toNat := fun k0_t1 v50 k0_hw2 k0_t2 => k0_hw2.2.2.2.2.1 k0_t2
theorem k0_off6_inb : ∀ (k0_t1 : Fin k0_t1_loop.trips) (v50 : BitVec 32) (k0_hw2 : k0_chk2 k0_t1 v50) (k0_t2 : Fin (k0_t2_loop k0_t1 v50).trips), ∀ a, (k0_off6 k0_t1 v50 k0_t2) a + S1x128x512.size a ≤ S16x128x512.size a := fun k0_t1 v50 k0_hw2 k0_t2 => k0_hw2.2.2.2.2.2.1 k0_t2
theorem k0_t3_ok : ∀ (k0_t1 : Fin k0_t1_loop.trips) (v50 : BitVec 32) (k0_hw2 : k0_chk2 k0_t1 v50), (k0_t3_loop k0_t1 v50).OK := fun k0_t1 v50 k0_hw2 => k0_hw2.2.2.2.2.2.2.1
theorem k0_mult5_dvd : ∀ (k0_t1 : Fin k0_t1_loop.trips) (v50 : BitVec 32) (k0_hw2 : k0_chk2 k0_t1 v50) (k0_t3 : Fin (k0_t3_loop k0_t1 v50).trips), 512 ∣ (k0_mult5 k0_t1 v50 k0_t3).toNat := fun k0_t1 v50 k0_hw2 k0_t3 => k0_hw2.2.2.2.2.2.2.2.1 k0_t3
theorem k0_off7_inb : ∀ (k0_t1 : Fin k0_t1_loop.trips) (v50 : BitVec 32) (k0_hw2 : k0_chk2 k0_t1 v50) (k0_t3 : Fin (k0_t3_loop k0_t1 v50).trips), ∀ (r : Fin 2), ∀ a, (k0_off7 k0_t1 v50 k0_t3 (BitVec.ofNat 32 (1 + r.val))) a + S512x128.size a ≤ S8192x128.size a := fun k0_t1 v50 k0_hw2 k0_t3 r => k0_hw2.2.2.2.2.2.2.2.2.1 k0_t3 r
theorem k0_off8_inb : ∀ (k0_t1 : Fin k0_t1_loop.trips) (v50 : BitVec 32) (k0_hw2 : k0_chk2 k0_t1 v50) (k0_t3 : Fin (k0_t3_loop k0_t1 v50).trips), ∀ a, (k0_off8 k0_t1 v50 k0_t3) a + S1x128x512.size a ≤ S16x128x512.size a := fun k0_t1 v50 k0_hw2 k0_t3 => k0_hw2.2.2.2.2.2.2.2.2.2.1 k0_t3
theorem k0_mult6_dvd : ∀ (k0_t1 : Fin k0_t1_loop.trips) (v50 : BitVec 32) (k0_hw2 : k0_chk2 k0_t1 v50) (k0_t3 : Fin (k0_t3_loop k0_t1 v50).trips), 512 ∣ (k0_mult6 k0_t1 v50 k0_t3).toNat := fun k0_t1 v50 k0_hw2 k0_t3 => k0_hw2.2.2.2.2.2.2.2.2.2.2.1 k0_t3
theorem k0_off9_inb : ∀ (k0_t1 : Fin k0_t1_loop.trips) (v50 : BitVec 32) (k0_hw2 : k0_chk2 k0_t1 v50) (k0_t3 : Fin (k0_t3_loop k0_t1 v50).trips), ∀ a, (k0_off9 k0_t1 v50 k0_t3) a + S1x128x512.size a ≤ S16x128x512.size a := fun k0_t1 v50 k0_hw2 k0_t3 => k0_hw2.2.2.2.2.2.2.2.2.2.2.2 k0_t3

def k0_mult7 (k0_t1 : Fin k0_t1_loop.trips) : BitVec 32 :=
  let c2_i32_28 : BitVec 32 := 2#32
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let v56 : BitVec 32 := Scalar.muli c2_i32_28 v34
  let c1_i32_29 : BitVec 32 := 1#32
  let v57 : BitVec 32 := Scalar.addi v56 c1_i32_29
  let c512_i32_30 : BitVec 32 := 512#32
  let v58 : BitVec 32 := Scalar.muli v57 c512_i32_30
  v58
def k0_off10 (k0_t1 : Fin k0_t1_loop.trips) : Fin 2 → Nat :=
  let c2_i32_28 : BitVec 32 := 2#32
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let v56 : BitVec 32 := Scalar.muli c2_i32_28 v34
  let c1_i32_29 : BitVec 32 := 1#32
  let v57 : BitVec 32 := Scalar.addi v56 c1_i32_29
  let c512_i32_30 : BitVec 32 := 512#32
  let v58 : BitVec 32 := Scalar.muli v57 c512_i32_30
  let v59 : BitVec 32 := v58
  let v60 : Index := Scalar.indexCast v59
  let c0_31 : Index := 0#32
  ![v60.toNat, 0]
def k0_mult8 (k0_t1 : Fin k0_t1_loop.trips) : BitVec 32 :=
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let c1_i32_37 : BitVec 32 := 1#32
  let v70 : BitVec 32 := Scalar.addi v34 c1_i32_37
  let c7_i32 : BitVec 32 := 7#32
  let v71 : BitVec 32 := Scalar.minsi v70 c7_i32
  let c1024_i32 : BitVec 32 := 1024#32
  let v72 : BitVec 32 := Scalar.muli v71 c1024_i32
  v72
def k0_off11 (k0_t1 : Fin k0_t1_loop.trips) : Fin 2 → Nat :=
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let c1_i32_37 : BitVec 32 := 1#32
  let v70 : BitVec 32 := Scalar.addi v34 c1_i32_37
  let c7_i32 : BitVec 32 := 7#32
  let v71 : BitVec 32 := Scalar.minsi v70 c7_i32
  let c1024_i32 : BitVec 32 := 1024#32
  let v72 : BitVec 32 := Scalar.muli v71 c1024_i32
  let v73 : BitVec 32 := v72
  let v74 : Index := Scalar.indexCast v73
  let c0_38 : Index := 0#32
  ![v74.toNat, 0]
def k0_off12 (i : grid0.Coords) (k0_t1 : Fin k0_t1_loop.trips) : Fin 1 → Nat :=
  let arg0 : BitVec 32 := BitVec.ofNat 32 (i 0).val
  let c8_i32_43 : BitVec 32 := 8#32
  let v84 : BitVec 32 := Scalar.muli arg0 c8_i32_43
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let c1_i32_37 : BitVec 32 := 1#32
  let v70 : BitVec 32 := Scalar.addi v34 c1_i32_37
  let c7_i32 : BitVec 32 := 7#32
  let v71 : BitVec 32 := Scalar.minsi v70 c7_i32
  let v85 : BitVec 32 := Scalar.addi v84 v71
  let v86 : Index := Scalar.indexCast v85
  ![v86.toNat]
def k0_mult9 (v87 : BitVec 32) : BitVec 32 :=
  let c2_i32_44 : BitVec 32 := 2#32
  let v88 : BitVec 32 := Scalar.muli c2_i32_44 v87
  let c512_i32_45 : BitVec 32 := 512#32
  let v89 : BitVec 32 := Scalar.muli v88 c512_i32_45
  v89

def k0_off13 (v87 : BitVec 32) : Fin 2 → Nat :=
  let c2_i32_44 : BitVec 32 := 2#32
  let v88 : BitVec 32 := Scalar.muli c2_i32_44 v87
  let c512_i32_45 : BitVec 32 := 512#32
  let v89 : BitVec 32 := Scalar.muli v88 c512_i32_45
  let v90 : BitVec 32 := v89
  let v91 : Index := Scalar.indexCast v90
  let c0_46 : Index := 0#32
  ![v91.toNat, 0]

def k0_chk3 (v87 : BitVec 32) : Prop :=
  (512 ∣ (k0_mult9 v87).toNat) ∧
  (∀ a, (k0_off13 v87) a + S512x128.size a ≤ S8192x128.size a)
theorem k0_mult9_dvd : ∀ (v87 : BitVec 32) (k0_hw3 : k0_chk3 v87), 512 ∣ (k0_mult9 v87).toNat := fun v87 k0_hw3 => k0_hw3.1
theorem k0_off13_inb : ∀ (v87 : BitVec 32) (k0_hw3 : k0_chk3 v87), ∀ a, (k0_off13 v87) a + S512x128.size a ≤ S8192x128.size a := fun v87 k0_hw3 => k0_hw3.2

def k0_off14 (k0_t1 : Fin k0_t1_loop.trips) : Fin 3 → Nat :=
  let c2_i32_53 : BitVec 32 := 2#32
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let v101 : BitVec 32 := Scalar.muli c2_i32_53 v34
  let v129 : Index := Scalar.indexCast v101
  let c0_67 : Index := 0#32
  let c0_68 : Index := 0#32
  ![v129.toNat, 0, 0]
def k0_off15 (k0_t1 : Fin k0_t1_loop.trips) : Fin 3 → Nat :=
  let c2_i32_96 : BitVec 32 := 2#32
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let v178 : BitVec 32 := Scalar.muli c2_i32_96 v34
  let c1_i32_97 : BitVec 32 := 1#32
  let v179 : BitVec 32 := Scalar.addi v178 c1_i32_97
  let v207 : Index := Scalar.indexCast v179
  let c0_111 : Index := 0#32
  let c0_112 : Index := 0#32
  ![v207.toNat, 0, 0]
def k0_mult10 (k0_t1 : Fin k0_t1_loop.trips) : BitVec 32 :=
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let c1024_i32_120 : BitVec 32 := 1024#32
  let v222 : BitVec 32 := Scalar.muli v34 c1024_i32_120
  v222
def k0_off16 (k0_t1 : Fin k0_t1_loop.trips) : Fin 2 → Nat :=
  let c2_i32_13 : BitVec 32 := 2#32
  let c0_i32_11 : BitVec 32 := 0#32
  let c1_i32 : BitVec 32 := 1#32
  let arg17 : BitVec 32 := Scf.iv c0_i32_11 c1_i32 k0_t1
  let v34 : BitVec 32 := Scalar.muli c2_i32_13 arg17
  let c1024_i32_120 : BitVec 32 := 1024#32
  let v222 : BitVec 32 := Scalar.muli v34 c1024_i32_120
  let v223 : BitVec 32 := v222
  let v229 : Index := Scalar.indexCast v223
  let c0_125 : Index := 0#32
  ![v229.toNat, 0]
def k0_off17 (i : grid0.Coords) (k0_t1 : Fin k0_t1_loop.trips) : Fin 1 → Nat :=
  let arg0 : BitVec 32 := BitVec.ofNat 32 (i 0).val
  let c8_i32_138 : BitVec 32 := 8#32
  let v249 : BitVec 32 := Scalar.muli arg0 c8_i32_138
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let v250 : BitVec 32 := Scalar.addi v249 v236
  let v251 : Index := Scalar.indexCast v250
  ![v251.toNat]
@[reducible] def k0_t4_loop (k0_t1 : Fin k0_t1_loop.trips) (v252 : BitVec 32) : Scf.Loop 32 :=
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let v253 : BitVec 32 := Scalar.subi v236 v252
  let c1_i32_140 : BitVec 32 := 1#32
  let v255 : BitVec 32 := Scalar.divsi v253 c1_i32_140
  let v256 : BitVec 32 := Scalar.muli v255 c1_i32_140
  let v257 : BitVec 32 := Scalar.addi v252 v256
  let c1_i32_141 : BitVec 32 := 1#32
  ⟨v252, v257, c1_i32_141⟩

def k0_mult11 (k0_t1 : Fin k0_t1_loop.trips) (v252 : BitVec 32) (k0_t4 : Fin (k0_t4_loop k0_t1 v252).trips) : BitVec 32 :=
  let c2_i32_245 : BitVec 32 := 2#32
  let c1_i32_141 : BitVec 32 := 1#32
  let arg18 : BitVec 32 := Scf.iv v252 c1_i32_141 k0_t4
  let v437 : BitVec 32 := Scalar.muli c2_i32_245 arg18
  let c1_i32_246 : BitVec 32 := 1#32
  let v438 : BitVec 32 := Scalar.addi v437 c1_i32_246
  let c512_i32_247 : BitVec 32 := 512#32
  let v439 : BitVec 32 := Scalar.muli v438 c512_i32_247
  v439
def k0_off18 (k0_t1 : Fin k0_t1_loop.trips) (v252 : BitVec 32) (k0_t4 : Fin (k0_t4_loop k0_t1 v252).trips) (c1_i32_246 : BitVec 32) : Fin 2 → Nat :=
  let c2_i32_245 : BitVec 32 := 2#32
  let c1_i32_141 : BitVec 32 := 1#32
  let arg18 : BitVec 32 := Scf.iv v252 c1_i32_141 k0_t4
  let v437 : BitVec 32 := Scalar.muli c2_i32_245 arg18
  let v438 : BitVec 32 := Scalar.addi v437 c1_i32_246
  let c512_i32_247 : BitVec 32 := 512#32
  let v439 : BitVec 32 := Scalar.muli v438 c512_i32_247
  let v440 : BitVec 32 := v439
  let v441 : Index := Scalar.indexCast v440
  let c0_248 : Index := 0#32
  ![v441.toNat, 0]
def k0_off19 (k0_t1 : Fin k0_t1_loop.trips) (v252 : BitVec 32) (k0_t4 : Fin (k0_t4_loop k0_t1 v252).trips) : Fin 3 → Nat :=
  let c2_i32_245 : BitVec 32 := 2#32
  let c1_i32_141 : BitVec 32 := 1#32
  let arg18 : BitVec 32 := Scf.iv v252 c1_i32_141 k0_t4
  let v437 : BitVec 32 := Scalar.muli c2_i32_245 arg18
  let v469 : Index := Scalar.indexCast v437
  let c0_265 : Index := 0#32
  let c0_266 : Index := 0#32
  ![v469.toNat, 0, 0]
def k0_mult12 (k0_t1 : Fin k0_t1_loop.trips) (v252 : BitVec 32) (k0_t4 : Fin (k0_t4_loop k0_t1 v252).trips) : BitVec 32 :=
  let c2_i32_245 : BitVec 32 := 2#32
  let c1_i32_141 : BitVec 32 := 1#32
  let arg18 : BitVec 32 := Scf.iv v252 c1_i32_141 k0_t4
  let v437 : BitVec 32 := Scalar.muli c2_i32_245 arg18
  let c2_i32_274 : BitVec 32 := 2#32
  let v484 : BitVec 32 := Scalar.addi v437 c2_i32_274
  let c512_i32_275 : BitVec 32 := 512#32
  let v485 : BitVec 32 := Scalar.muli v484 c512_i32_275
  v485
def k0_off20 (k0_t1 : Fin k0_t1_loop.trips) (v252 : BitVec 32) (k0_t4 : Fin (k0_t4_loop k0_t1 v252).trips) : Fin 3 → Nat :=
  let c2_i32_245 : BitVec 32 := 2#32
  let c1_i32_141 : BitVec 32 := 1#32
  let arg18 : BitVec 32 := Scf.iv v252 c1_i32_141 k0_t4
  let v437 : BitVec 32 := Scalar.muli c2_i32_245 arg18
  let c1_i32_283 : BitVec 32 := 1#32
  let v497 : BitVec 32 := Scalar.addi v437 c1_i32_283
  let v516 : Index := Scalar.indexCast v497
  let c0_294 : Index := 0#32
  let c0_295 : Index := 0#32
  ![v516.toNat, 0, 0]
@[reducible] def k0_t5_loop (k0_t1 : Fin k0_t1_loop.trips) (v252 : BitVec 32) : Scf.Loop 32 :=
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let v253 : BitVec 32 := Scalar.subi v236 v252
  let c1_i32_140 : BitVec 32 := 1#32
  let v255 : BitVec 32 := Scalar.divsi v253 c1_i32_140
  let v256 : BitVec 32 := Scalar.muli v255 c1_i32_140
  let v257 : BitVec 32 := Scalar.addi v252 v256
  let v254 : BitVec 32 := Scalar.addi v252 v253
  let c1_i32_142 : BitVec 32 := 1#32
  ⟨v257, v254, c1_i32_142⟩
def k0_mult13 (k0_t1 : Fin k0_t1_loop.trips) (v252 : BitVec 32) (k0_t5 : Fin (k0_t5_loop k0_t1 v252).trips) : BitVec 32 :=
  let c2_i32_245 : BitVec 32 := 2#32
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let v253 : BitVec 32 := Scalar.subi v236 v252
  let c1_i32_140 : BitVec 32 := 1#32
  let v255 : BitVec 32 := Scalar.divsi v253 c1_i32_140
  let v256 : BitVec 32 := Scalar.muli v255 c1_i32_140
  let v257 : BitVec 32 := Scalar.addi v252 v256
  let c1_i32_142 : BitVec 32 := 1#32
  let arg18 : BitVec 32 := Scf.iv v257 c1_i32_142 k0_t5
  let v437 : BitVec 32 := Scalar.muli c2_i32_245 arg18
  let c1_i32_246 : BitVec 32 := 1#32
  let v438 : BitVec 32 := Scalar.addi v437 c1_i32_246
  let c512_i32_247 : BitVec 32 := 512#32
  let v439 : BitVec 32 := Scalar.muli v438 c512_i32_247
  v439
def k0_off21 (k0_t1 : Fin k0_t1_loop.trips) (v252 : BitVec 32) (k0_t5 : Fin (k0_t5_loop k0_t1 v252).trips) (c1_i32_246 : BitVec 32) : Fin 2 → Nat :=
  let c2_i32_245 : BitVec 32 := 2#32
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let v253 : BitVec 32 := Scalar.subi v236 v252
  let c1_i32_140 : BitVec 32 := 1#32
  let v255 : BitVec 32 := Scalar.divsi v253 c1_i32_140
  let v256 : BitVec 32 := Scalar.muli v255 c1_i32_140
  let v257 : BitVec 32 := Scalar.addi v252 v256
  let c1_i32_142 : BitVec 32 := 1#32
  let arg18 : BitVec 32 := Scf.iv v257 c1_i32_142 k0_t5
  let v437 : BitVec 32 := Scalar.muli c2_i32_245 arg18
  let v438 : BitVec 32 := Scalar.addi v437 c1_i32_246
  let c512_i32_247 : BitVec 32 := 512#32
  let v439 : BitVec 32 := Scalar.muli v438 c512_i32_247
  let v440 : BitVec 32 := v439
  let v441 : Index := Scalar.indexCast v440
  let c0_248 : Index := 0#32
  ![v441.toNat, 0]
def k0_off22 (k0_t1 : Fin k0_t1_loop.trips) (v252 : BitVec 32) (k0_t5 : Fin (k0_t5_loop k0_t1 v252).trips) : Fin 3 → Nat :=
  let c2_i32_245 : BitVec 32 := 2#32
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let v253 : BitVec 32 := Scalar.subi v236 v252
  let c1_i32_140 : BitVec 32 := 1#32
  let v255 : BitVec 32 := Scalar.divsi v253 c1_i32_140
  let v256 : BitVec 32 := Scalar.muli v255 c1_i32_140
  let v257 : BitVec 32 := Scalar.addi v252 v256
  let c1_i32_142 : BitVec 32 := 1#32
  let arg18 : BitVec 32 := Scf.iv v257 c1_i32_142 k0_t5
  let v437 : BitVec 32 := Scalar.muli c2_i32_245 arg18
  let v469 : Index := Scalar.indexCast v437
  let c0_265 : Index := 0#32
  let c0_266 : Index := 0#32
  ![v469.toNat, 0, 0]
def k0_mult14 (k0_t1 : Fin k0_t1_loop.trips) (v252 : BitVec 32) (k0_t5 : Fin (k0_t5_loop k0_t1 v252).trips) : BitVec 32 :=
  let c2_i32_245 : BitVec 32 := 2#32
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let v253 : BitVec 32 := Scalar.subi v236 v252
  let c1_i32_140 : BitVec 32 := 1#32
  let v255 : BitVec 32 := Scalar.divsi v253 c1_i32_140
  let v256 : BitVec 32 := Scalar.muli v255 c1_i32_140
  let v257 : BitVec 32 := Scalar.addi v252 v256
  let c1_i32_142 : BitVec 32 := 1#32
  let arg18 : BitVec 32 := Scf.iv v257 c1_i32_142 k0_t5
  let v437 : BitVec 32 := Scalar.muli c2_i32_245 arg18
  let c2_i32_274 : BitVec 32 := 2#32
  let v484 : BitVec 32 := Scalar.addi v437 c2_i32_274
  let c512_i32_275 : BitVec 32 := 512#32
  let v485 : BitVec 32 := Scalar.muli v484 c512_i32_275
  v485
def k0_off23 (k0_t1 : Fin k0_t1_loop.trips) (v252 : BitVec 32) (k0_t5 : Fin (k0_t5_loop k0_t1 v252).trips) : Fin 3 → Nat :=
  let c2_i32_245 : BitVec 32 := 2#32
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let v253 : BitVec 32 := Scalar.subi v236 v252
  let c1_i32_140 : BitVec 32 := 1#32
  let v255 : BitVec 32 := Scalar.divsi v253 c1_i32_140
  let v256 : BitVec 32 := Scalar.muli v255 c1_i32_140
  let v257 : BitVec 32 := Scalar.addi v252 v256
  let c1_i32_142 : BitVec 32 := 1#32
  let arg18 : BitVec 32 := Scf.iv v257 c1_i32_142 k0_t5
  let v437 : BitVec 32 := Scalar.muli c2_i32_245 arg18
  let c1_i32_283 : BitVec 32 := 1#32
  let v497 : BitVec 32 := Scalar.addi v437 c1_i32_283
  let v516 : Index := Scalar.indexCast v497
  let c0_294 : Index := 0#32
  let c0_295 : Index := 0#32
  ![v516.toNat, 0, 0]

def k0_chk4 (k0_t1 : Fin k0_t1_loop.trips) (v252 : BitVec 32) : Prop :=
  ((k0_t4_loop k0_t1 v252).OK) ∧
  (∀ k0_t4 : Fin (k0_t4_loop k0_t1 v252).trips, 512 ∣ (k0_mult11 k0_t1 v252 k0_t4).toNat) ∧
  (∀ k0_t4 : Fin (k0_t4_loop k0_t1 v252).trips, ∀ (r : Fin 2), ∀ a, (k0_off18 k0_t1 v252 k0_t4 (BitVec.ofNat 32 (1 + r.val))) a + S512x128.size a ≤ S8192x128.size a) ∧
  (∀ k0_t4 : Fin (k0_t4_loop k0_t1 v252).trips, ∀ a, (k0_off19 k0_t1 v252 k0_t4) a + S1x128x512.size a ≤ S16x128x512.size a) ∧
  (∀ k0_t4 : Fin (k0_t4_loop k0_t1 v252).trips, 512 ∣ (k0_mult12 k0_t1 v252 k0_t4).toNat) ∧
  (∀ k0_t4 : Fin (k0_t4_loop k0_t1 v252).trips, ∀ a, (k0_off20 k0_t1 v252 k0_t4) a + S1x128x512.size a ≤ S16x128x512.size a) ∧
  ((k0_t5_loop k0_t1 v252).OK) ∧
  (∀ k0_t5 : Fin (k0_t5_loop k0_t1 v252).trips, 512 ∣ (k0_mult13 k0_t1 v252 k0_t5).toNat) ∧
  (∀ k0_t5 : Fin (k0_t5_loop k0_t1 v252).trips, ∀ (r : Fin 2), ∀ a, (k0_off21 k0_t1 v252 k0_t5 (BitVec.ofNat 32 (1 + r.val))) a + S512x128.size a ≤ S8192x128.size a) ∧
  (∀ k0_t5 : Fin (k0_t5_loop k0_t1 v252).trips, ∀ a, (k0_off22 k0_t1 v252 k0_t5) a + S1x128x512.size a ≤ S16x128x512.size a) ∧
  (∀ k0_t5 : Fin (k0_t5_loop k0_t1 v252).trips, 512 ∣ (k0_mult14 k0_t1 v252 k0_t5).toNat) ∧
  (∀ k0_t5 : Fin (k0_t5_loop k0_t1 v252).trips, ∀ a, (k0_off23 k0_t1 v252 k0_t5) a + S1x128x512.size a ≤ S16x128x512.size a)
theorem k0_t4_ok : ∀ (k0_t1 : Fin k0_t1_loop.trips) (v252 : BitVec 32) (k0_hw4 : k0_chk4 k0_t1 v252), (k0_t4_loop k0_t1 v252).OK := fun k0_t1 v252 k0_hw4 => k0_hw4.1
theorem k0_mult11_dvd : ∀ (k0_t1 : Fin k0_t1_loop.trips) (v252 : BitVec 32) (k0_hw4 : k0_chk4 k0_t1 v252) (k0_t4 : Fin (k0_t4_loop k0_t1 v252).trips), 512 ∣ (k0_mult11 k0_t1 v252 k0_t4).toNat := fun k0_t1 v252 k0_hw4 k0_t4 => k0_hw4.2.1 k0_t4
theorem k0_off18_inb : ∀ (k0_t1 : Fin k0_t1_loop.trips) (v252 : BitVec 32) (k0_hw4 : k0_chk4 k0_t1 v252) (k0_t4 : Fin (k0_t4_loop k0_t1 v252).trips), ∀ (r : Fin 2), ∀ a, (k0_off18 k0_t1 v252 k0_t4 (BitVec.ofNat 32 (1 + r.val))) a + S512x128.size a ≤ S8192x128.size a := fun k0_t1 v252 k0_hw4 k0_t4 r => k0_hw4.2.2.1 k0_t4 r
theorem k0_off19_inb : ∀ (k0_t1 : Fin k0_t1_loop.trips) (v252 : BitVec 32) (k0_hw4 : k0_chk4 k0_t1 v252) (k0_t4 : Fin (k0_t4_loop k0_t1 v252).trips), ∀ a, (k0_off19 k0_t1 v252 k0_t4) a + S1x128x512.size a ≤ S16x128x512.size a := fun k0_t1 v252 k0_hw4 k0_t4 => k0_hw4.2.2.2.1 k0_t4
theorem k0_mult12_dvd : ∀ (k0_t1 : Fin k0_t1_loop.trips) (v252 : BitVec 32) (k0_hw4 : k0_chk4 k0_t1 v252) (k0_t4 : Fin (k0_t4_loop k0_t1 v252).trips), 512 ∣ (k0_mult12 k0_t1 v252 k0_t4).toNat := fun k0_t1 v252 k0_hw4 k0_t4 => k0_hw4.2.2.2.2.1 k0_t4
theorem k0_off20_inb : ∀ (k0_t1 : Fin k0_t1_loop.trips) (v252 : BitVec 32) (k0_hw4 : k0_chk4 k0_t1 v252) (k0_t4 : Fin (k0_t4_loop k0_t1 v252).trips), ∀ a, (k0_off20 k0_t1 v252 k0_t4) a + S1x128x512.size a ≤ S16x128x512.size a := fun k0_t1 v252 k0_hw4 k0_t4 => k0_hw4.2.2.2.2.2.1 k0_t4
theorem k0_t5_ok : ∀ (k0_t1 : Fin k0_t1_loop.trips) (v252 : BitVec 32) (k0_hw4 : k0_chk4 k0_t1 v252), (k0_t5_loop k0_t1 v252).OK := fun k0_t1 v252 k0_hw4 => k0_hw4.2.2.2.2.2.2.1
theorem k0_mult13_dvd : ∀ (k0_t1 : Fin k0_t1_loop.trips) (v252 : BitVec 32) (k0_hw4 : k0_chk4 k0_t1 v252) (k0_t5 : Fin (k0_t5_loop k0_t1 v252).trips), 512 ∣ (k0_mult13 k0_t1 v252 k0_t5).toNat := fun k0_t1 v252 k0_hw4 k0_t5 => k0_hw4.2.2.2.2.2.2.2.1 k0_t5
theorem k0_off21_inb : ∀ (k0_t1 : Fin k0_t1_loop.trips) (v252 : BitVec 32) (k0_hw4 : k0_chk4 k0_t1 v252) (k0_t5 : Fin (k0_t5_loop k0_t1 v252).trips), ∀ (r : Fin 2), ∀ a, (k0_off21 k0_t1 v252 k0_t5 (BitVec.ofNat 32 (1 + r.val))) a + S512x128.size a ≤ S8192x128.size a := fun k0_t1 v252 k0_hw4 k0_t5 r => k0_hw4.2.2.2.2.2.2.2.2.1 k0_t5 r
theorem k0_off22_inb : ∀ (k0_t1 : Fin k0_t1_loop.trips) (v252 : BitVec 32) (k0_hw4 : k0_chk4 k0_t1 v252) (k0_t5 : Fin (k0_t5_loop k0_t1 v252).trips), ∀ a, (k0_off22 k0_t1 v252 k0_t5) a + S1x128x512.size a ≤ S16x128x512.size a := fun k0_t1 v252 k0_hw4 k0_t5 => k0_hw4.2.2.2.2.2.2.2.2.2.1 k0_t5
theorem k0_mult14_dvd : ∀ (k0_t1 : Fin k0_t1_loop.trips) (v252 : BitVec 32) (k0_hw4 : k0_chk4 k0_t1 v252) (k0_t5 : Fin (k0_t5_loop k0_t1 v252).trips), 512 ∣ (k0_mult14 k0_t1 v252 k0_t5).toNat := fun k0_t1 v252 k0_hw4 k0_t5 => k0_hw4.2.2.2.2.2.2.2.2.2.2.1 k0_t5
theorem k0_off23_inb : ∀ (k0_t1 : Fin k0_t1_loop.trips) (v252 : BitVec 32) (k0_hw4 : k0_chk4 k0_t1 v252) (k0_t5 : Fin (k0_t5_loop k0_t1 v252).trips), ∀ a, (k0_off23 k0_t1 v252 k0_t5) a + S1x128x512.size a ≤ S16x128x512.size a := fun k0_t1 v252 k0_hw4 k0_t5 => k0_hw4.2.2.2.2.2.2.2.2.2.2.2 k0_t5

def k0_mult15 (k0_t1 : Fin k0_t1_loop.trips) : BitVec 32 :=
  let c2_i32_143 : BitVec 32 := 2#32
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let v258 : BitVec 32 := Scalar.muli c2_i32_143 v236
  let c1_i32_144 : BitVec 32 := 1#32
  let v259 : BitVec 32 := Scalar.addi v258 c1_i32_144
  let c512_i32_145 : BitVec 32 := 512#32
  let v260 : BitVec 32 := Scalar.muli v259 c512_i32_145
  v260
def k0_off24 (k0_t1 : Fin k0_t1_loop.trips) : Fin 2 → Nat :=
  let c2_i32_143 : BitVec 32 := 2#32
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let v258 : BitVec 32 := Scalar.muli c2_i32_143 v236
  let c1_i32_144 : BitVec 32 := 1#32
  let v259 : BitVec 32 := Scalar.addi v258 c1_i32_144
  let c512_i32_145 : BitVec 32 := 512#32
  let v260 : BitVec 32 := Scalar.muli v259 c512_i32_145
  let v261 : BitVec 32 := v260
  let v262 : Index := Scalar.indexCast v261
  let c0_146 : Index := 0#32
  ![v262.toNat, 0]
def k0_mult16 (k0_t1 : Fin k0_t1_loop.trips) : BitVec 32 :=
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let c1_i32_153 : BitVec 32 := 1#32
  let v272 : BitVec 32 := Scalar.addi v236 c1_i32_153
  let c7_i32_154 : BitVec 32 := 7#32
  let v273 : BitVec 32 := Scalar.minsi v272 c7_i32_154
  let c1024_i32_155 : BitVec 32 := 1024#32
  let v274 : BitVec 32 := Scalar.muli v273 c1024_i32_155
  v274
def k0_off25 (k0_t1 : Fin k0_t1_loop.trips) : Fin 2 → Nat :=
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let c1_i32_153 : BitVec 32 := 1#32
  let v272 : BitVec 32 := Scalar.addi v236 c1_i32_153
  let c7_i32_154 : BitVec 32 := 7#32
  let v273 : BitVec 32 := Scalar.minsi v272 c7_i32_154
  let c1024_i32_155 : BitVec 32 := 1024#32
  let v274 : BitVec 32 := Scalar.muli v273 c1024_i32_155
  let v275 : BitVec 32 := v274
  let v276 : Index := Scalar.indexCast v275
  let c0_156 : Index := 0#32
  ![v276.toNat, 0]
def k0_off26 (i : grid0.Coords) (k0_t1 : Fin k0_t1_loop.trips) : Fin 1 → Nat :=
  let arg0 : BitVec 32 := BitVec.ofNat 32 (i 0).val
  let c8_i32_161 : BitVec 32 := 8#32
  let v286 : BitVec 32 := Scalar.muli arg0 c8_i32_161
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let c1_i32_153 : BitVec 32 := 1#32
  let v272 : BitVec 32 := Scalar.addi v236 c1_i32_153
  let c7_i32_154 : BitVec 32 := 7#32
  let v273 : BitVec 32 := Scalar.minsi v272 c7_i32_154
  let v287 : BitVec 32 := Scalar.addi v286 v273
  let v288 : Index := Scalar.indexCast v287
  ![v288.toNat]
def k0_mult17 (v289 : BitVec 32) : BitVec 32 :=
  let c2_i32_162 : BitVec 32 := 2#32
  let v290 : BitVec 32 := Scalar.muli c2_i32_162 v289
  let c512_i32_163 : BitVec 32 := 512#32
  let v291 : BitVec 32 := Scalar.muli v290 c512_i32_163
  v291

def k0_off27 (v289 : BitVec 32) : Fin 2 → Nat :=
  let c2_i32_162 : BitVec 32 := 2#32
  let v290 : BitVec 32 := Scalar.muli c2_i32_162 v289
  let c512_i32_163 : BitVec 32 := 512#32
  let v291 : BitVec 32 := Scalar.muli v290 c512_i32_163
  let v292 : BitVec 32 := v291
  let v293 : Index := Scalar.indexCast v292
  let c0_164 : Index := 0#32
  ![v293.toNat, 0]

def k0_chk5 (v289 : BitVec 32) : Prop :=
  (512 ∣ (k0_mult17 v289).toNat) ∧
  (∀ a, (k0_off27 v289) a + S512x128.size a ≤ S8192x128.size a)
theorem k0_mult17_dvd : ∀ (v289 : BitVec 32) (k0_hw5 : k0_chk5 v289), 512 ∣ (k0_mult17 v289).toNat := fun v289 k0_hw5 => k0_hw5.1
theorem k0_off27_inb : ∀ (v289 : BitVec 32) (k0_hw5 : k0_chk5 v289), ∀ a, (k0_off27 v289) a + S512x128.size a ≤ S8192x128.size a := fun v289 k0_hw5 => k0_hw5.2

def k0_off28 (k0_t1 : Fin k0_t1_loop.trips) : Fin 3 → Nat :=
  let c2_i32_171 : BitVec 32 := 2#32
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let v303 : BitVec 32 := Scalar.muli c2_i32_171 v236
  let v331 : Index := Scalar.indexCast v303
  let c0_185 : Index := 0#32
  let c0_186 : Index := 0#32
  ![v331.toNat, 0, 0]
def k0_off29 (k0_t1 : Fin k0_t1_loop.trips) : Fin 3 → Nat :=
  let c2_i32_214 : BitVec 32 := 2#32
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let v380 : BitVec 32 := Scalar.muli c2_i32_214 v236
  let c1_i32_215 : BitVec 32 := 1#32
  let v381 : BitVec 32 := Scalar.addi v380 c1_i32_215
  let v409 : Index := Scalar.indexCast v381
  let c0_229 : Index := 0#32
  let c0_230 : Index := 0#32
  ![v409.toNat, 0, 0]
def k0_mult18 (k0_t1 : Fin k0_t1_loop.trips) : BitVec 32 :=
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let c1024_i32_238 : BitVec 32 := 1024#32
  let v424 : BitVec 32 := Scalar.muli v236 c1024_i32_238
  v424
def k0_off30 (k0_t1 : Fin k0_t1_loop.trips) : Fin 2 → Nat :=
  let c2_i32_127 : BitVec 32 := 2#32
  let c0_i32_11 : BitVec 32 := 0#32
  let c1_i32 : BitVec 32 := 1#32
  let arg17 : BitVec 32 := Scf.iv c0_i32_11 c1_i32 k0_t1
  let v235 : BitVec 32 := Scalar.muli c2_i32_127 arg17
  let c1_i32_128 : BitVec 32 := 1#32
  let v236 : BitVec 32 := Scalar.addi v235 c1_i32_128
  let c1024_i32_238 : BitVec 32 := 1024#32
  let v424 : BitVec 32 := Scalar.muli v236 c1024_i32_238
  let v425 : BitVec 32 := v424
  let v431 : Index := Scalar.indexCast v425
  let c0_243 : Index := 0#32
  ![v431.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S128 : Shape := ⟨1, ![128]⟩
abbrev S8192x4096 : Shape := ⟨2, ![8192, 4096]⟩
abbrev S16x2048x512 : Shape := ⟨3, ![16, 2048, 512]⟩
abbrev S8192x128 : Shape := ⟨2, ![8192, 128]⟩
abbrev S8192x2048 : Shape := ⟨2, ![8192, 2048]⟩
abbrev S16x512x2048 : Shape := ⟨3, ![16, 512, 2048]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S8192x8x16 : Shape := ⟨3, ![8192, 8, 16]⟩
abbrev S16x8192x8 : Shape := ⟨3, ![16, 8192, 8]⟩
abbrev S8192 : Shape := ⟨1, ![8192]⟩
abbrev S16x8 : Shape := ⟨2, ![16, 8]⟩
abbrev S_ : Shape := ⟨0, ![]⟩
abbrev S16x8x1 : Shape := ⟨3, ![16, 8, 1]⟩
abbrev S16x8x1024 : Shape := ⟨3, ![16, 8, 1024]⟩
abbrev S16x8192 : Shape := ⟨2, ![16, 8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S16x8192x1 : Shape := ⟨3, ![16, 8192, 1]⟩

abbrev nBuf : Space → Nat
  | .hbm => 72
  | .vmem => 0
  | .smem => 0
  | _ => 0

abbrev bufTy : (tb : Table) → Fin (tcTables nBuf tb) → BufTy
  | .hbm, ⟨0, _⟩ => ⟨S128, .i32⟩
  | .hbm, ⟨1, _⟩ => ⟨S8192x4096, .bf16⟩
  | .hbm, ⟨2, _⟩ => ⟨S16x2048x512, .bf16⟩
  | .hbm, ⟨3, _⟩ => ⟨S8192x128, .bf16⟩
  | .hbm, ⟨4, _⟩ => ⟨S8192x128, .bf16⟩
  | .hbm, ⟨5, _⟩ => ⟨S8192x2048, .f32⟩
  | .hbm, ⟨6, _⟩ => ⟨S16x2048x512, .f32⟩
  | .hbm, ⟨7, _⟩ => ⟨S16x512x2048, .f32⟩
  | .hbm, ⟨8, _⟩ => ⟨S8192x2048, .f32⟩
  | .hbm, ⟨9, _⟩ => ⟨S8192x4096, .f32⟩
  | .hbm, ⟨10, _⟩ => ⟨S8192x2048, .f32⟩
  | .hbm, ⟨11, _⟩ => ⟨S8192x16x128, .f32⟩
  | .hbm, ⟨12, _⟩ => ⟨S16x8192x128, .f32⟩
  | .hbm, ⟨13, _⟩ => ⟨S8192x4096, .f32⟩
  | .hbm, ⟨14, _⟩ => ⟨S8192x2048, .f32⟩
  | .hbm, ⟨15, _⟩ => ⟨S8192x16x128, .f32⟩
  | .hbm, ⟨16, _⟩ => ⟨S16x8192x128, .f32⟩
  | .hbm, ⟨17, _⟩ => ⟨S8192x16x128, .f32⟩
  | .hbm, ⟨18, _⟩ => ⟨S16x8192x128, .f32⟩
  | .hbm, ⟨19, _⟩ => ⟨S16x8192x8192, .f32⟩
  | .hbm, ⟨20, _⟩ => ⟨S8192x128, .f32⟩
  | .hbm, ⟨21, _⟩ => ⟨S8192x8x16, .f32⟩
  | .hbm, ⟨22, _⟩ => ⟨S16x8192x8, .f32⟩
  | .hbm, ⟨23, _⟩ => ⟨S8192x128, .f32⟩
  | .hbm, ⟨24, _⟩ => ⟨S8192x8x16, .f32⟩
  | .hbm, ⟨25, _⟩ => ⟨S16x8192x8, .f32⟩
  | .hbm, ⟨26, _⟩ => ⟨S16x8192x8192, .f32⟩
  | .hbm, ⟨27, _⟩ => ⟨S16x8192x8192, .f32⟩
  | .hbm, ⟨28, _⟩ => ⟨S8192, .i32⟩
  | .hbm, ⟨29, _⟩ => ⟨S16x8, .i32⟩
  | .hbm, ⟨30, _⟩ => ⟨S_, .i32⟩
  | .hbm, ⟨31, _⟩ => ⟨S16x8, .i32⟩
  | .hbm, ⟨32, _⟩ => ⟨S16x8, .i32⟩
  | .hbm, ⟨33, _⟩ => ⟨S16x8x1, .i32⟩
  | .hbm, ⟨34, _⟩ => ⟨S16x8x1024, .i32⟩
  | .hbm, ⟨35, _⟩ => ⟨S16x8192, .i32⟩
  | .hbm, ⟨36, _⟩ => ⟨S1x1x8192, .i32⟩
  | .hbm, ⟨37, _⟩ => ⟨S1x8192x1, .i32⟩
  | .hbm, ⟨38, _⟩ => ⟨S1x8192x8192, .i32⟩
  | .hbm, ⟨39, _⟩ => ⟨S1x8192x8192, .i32⟩
  | .hbm, ⟨40, _⟩ => ⟨S1x8192x8192, .i1⟩
  | .hbm, ⟨41, _⟩ => ⟨S1x1x8192, .i32⟩
  | .hbm, ⟨42, _⟩ => ⟨S16x8192x1, .i32⟩
  | .hbm, ⟨43, _⟩ => ⟨S16x8192x8192, .i32⟩
  | .hbm, ⟨44, _⟩ => ⟨S16x8192x8192, .i32⟩
  | .hbm, ⟨45, _⟩ => ⟨S16x8192x8192, .i1⟩
  | .hbm, ⟨46, _⟩ => ⟨S16x8192x8192, .i1⟩
  | .hbm, ⟨47, _⟩ => ⟨S16x8192x8192, .i1⟩
  | .hbm, ⟨48, _⟩ => ⟨S_, .f32⟩
  | .hbm, ⟨49, _⟩ => ⟨S_, .f32⟩
  | .hbm, ⟨50, _⟩ => ⟨S16x8192x8192, .f32⟩
  | .hbm, ⟨51, _⟩ => ⟨S16x8192x8192, .f32⟩
  | .hbm, ⟨52, _⟩ => ⟨S_, .f32⟩
  | .hbm, ⟨53, _⟩ => ⟨S16x8192, .f32⟩
  | .hbm, ⟨54, _⟩ => ⟨S16x8192x1, .f32⟩
  | .hbm, ⟨55, _⟩ => ⟨S16x8192x8192, .f32⟩
  | .hbm, ⟨56, _⟩ => ⟨S16x8192x8192, .f32⟩
  | .hbm, ⟨57, _⟩ => ⟨S_, .f32⟩
  | .hbm, ⟨58, _⟩ => ⟨S16x8192x8192, .f32⟩
  | .hbm, ⟨59, _⟩ => ⟨S16x8192x8192, .f32⟩
  | .hbm, ⟨60, _⟩ => ⟨S_, .f32⟩
  | .hbm, ⟨61, _⟩ => ⟨S16x8192, .f32⟩
  | .hbm, ⟨62, _⟩ => ⟨S16x8192x1, .f32⟩
  | .hbm, ⟨63, _⟩ => ⟨S16x8192x8192, .f32⟩
  | .hbm, ⟨64, _⟩ => ⟨S16x8192x8192, .f32⟩
  | .hbm, ⟨65, _⟩ => ⟨S16x8192x8192, .bf16⟩
  | .hbm, ⟨66, _⟩ => ⟨S16x8192x8192, .f32⟩
  | .hbm, ⟨67, _⟩ => ⟨S16x8192x128, .f32⟩
  | .hbm, ⟨68, _⟩ => ⟨S8192x16x128, .f32⟩
  | .hbm, ⟨69, _⟩ => ⟨S8192x2048, .f32⟩
  | .hbm, ⟨70, _⟩ => ⟨S8192x2048, .f32⟩
  | .hbm, ⟨71, _⟩ => ⟨S8192x2048, .bf16⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst : Ref sig .tc := ⟨.hbm, 48, rfl⟩
abbrev main_call0_v0 : Ref sig .tc := ⟨.hbm, 49, rfl⟩
abbrev main_call0_v1 : Ref sig .tc := ⟨.hbm, 50, rfl⟩
abbrev main_v41 : Ref sig .tc := ⟨.hbm, 51, rfl⟩
abbrev main_cst_0 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_1 : Ref sig .tc := ⟨.hbm, 57, rfl⟩
abbrev main_v46 : Ref sig .tc := ⟨.hbm, 58, rfl⟩
abbrev main_v47 : Ref sig .tc := ⟨.hbm, 59, rfl⟩
abbrev main_cst_2 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== KernelOut.lean ====
abbrev S8192x2048 : Shape := ⟨2, ![8192, 2048]⟩
abbrev S4096x2048 : Shape := ⟨2, ![4096, 2048]⟩
abbrev S1x8192x2048 : Shape := ⟨3, ![1, 8192, 2048]⟩
abbrev S2048 : Shape := ⟨1, ![2048]⟩
abbrev S1x2048 : Shape := ⟨2, ![1, 2048]⟩
abbrev S512x2048 : Shape := ⟨2, ![512, 2048]⟩
abbrev S256x2048 : Shape := ⟨2, ![256, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x2048, .bf16⟩
  | .hbm, ⟨3, _⟩ => ⟨S1x8192x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S8192x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S4096x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceOutIdeal.lean ====
abbrev S8192x2048 : Shape := ⟨2, ![8192, 2048]⟩
abbrev S4096x2048 : Shape := ⟨2, ![4096, 2048]⟩
abbrev S1x8192x2048 : Shape := ⟨3, ![1, 8192, 2048]⟩
abbrev S2048 : Shape := ⟨1, ![2048]⟩
abbrev S8192x4096 : Shape := ⟨2, ![8192, 4096]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x2048, .bf16⟩
  | .hbm, ⟨3, _⟩ => ⟨S1x8192x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S8192x2048, .f32⟩
  | .hbm, ⟨8, _⟩ => ⟨S8192x2048, .f32⟩
  | .hbm, ⟨9, _⟩ => ⟨S8192x4096, .f32⟩
  | .hbm, ⟨10, _⟩ => ⟨S4096x2048, .f32⟩
  | .hbm, ⟨11, _⟩ => ⟨S8192x2048, .f32⟩
  | .hbm, ⟨12, _⟩ => ⟨S1x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== KernelGlu.lean ====
abbrev S8192x2048 : Shape := ⟨2, ![8192, 2048]⟩
abbrev S2048x14352 : Shape := ⟨2, ![2048, 14352]⟩
abbrev S14352 : Shape := ⟨1, ![14352]⟩
abbrev S14352x2048 : Shape := ⟨2, ![14352, 2048]⟩
abbrev S2048 : Shape := ⟨1, ![2048]⟩
abbrev S1x2048 : Shape := ⟨2, ![1, 2048]⟩
abbrev S16x8192x128 : Shape := ⟨3, ![16, 8192, 128]⟩
abbrev S2048x2048 : Shape := ⟨2, ![2048, 2048]⟩
abbrev S512x2048 : Shape := ⟨2, ![512, 2048]⟩
abbrev S1x512 : Shape := ⟨2, ![1, 512]⟩
abbrev S4x2048x128 : Shape := ⟨3, ![4, 2048, 128]⟩
abbrev S256x2048 : Shape := ⟨2, ![256, 2048]⟩
abbrev S256x512 : Shape := ⟨2, ![256, 512]⟩
abbrev S256x128 : Shape := ⟨2, ![256, 128]⟩
abbrev S1x256x128 : Shape := ⟨3, ![1, 256, 128]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x14352, .f32⟩
  | .hbm, ⟨2, _⟩ => ⟨S14352, .f32⟩
  | .hbm, ⟨3, _⟩ => ⟨S14352x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S16x8192x128, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S4x2048x128, .f32⟩
  | .local _ .vmem, ⟨11, _⟩ => ⟨S4x2048x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceGluIdeal.lean ====
abbrev S8192x2048 : Shape := ⟨2, ![8192, 2048]⟩
abbrev S2048x14352 : Shape := ⟨2, ![2048, 14352]⟩
abbrev S14352 : Shape := ⟨1, ![14352]⟩
abbrev S2048x4096 : Shape := ⟨2, ![2048, 4096]⟩
abbrev S8192x4096 : Shape := ⟨2, ![8192, 4096]⟩
abbrev S4096 : Shape := ⟨1, ![4096]⟩
abbrev S1x4096 : Shape := ⟨2, ![1, 4096]⟩
abbrev S_ : Shape := ⟨0, ![]⟩
abbrev S8192x16x128 : Shape := ⟨3, ![8192, 16, 128]⟩
abbrev S16x8192x128 : Shape := ⟨3, ![16, 8192, 128]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x14352, .f32⟩
  | .hbm, ⟨2, _⟩ => ⟨S14352, .f32⟩
  | .hbm, ⟨3, _⟩ => ⟨S8192x2048, .f32⟩
  | .hbm, ⟨4, _⟩ => ⟨S2048x4096, .f32⟩
  | .hbm, ⟨5, _⟩ => ⟨S8192x4096, .f32⟩
  | .hbm, ⟨6, _⟩ => ⟨S4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x16x128, .f32⟩
  | .hbm, ⟨22, _⟩ => ⟨S16x8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== KernelGc.lean ====
abbrev S8192x2048 : Shape := ⟨2, ![8192, 2048]⟩
abbrev S2048x14352 : Shape := ⟨2, ![2048, 14352]⟩
abbrev S14352 : Shape := ⟨1, ![14352]⟩
abbrev S14352x2048 : Shape := ⟨2, ![14352, 2048]⟩
abbrev S2048 : Shape := ⟨1, ![2048]⟩
abbrev S1x2048 : Shape := ⟨2, ![1, 2048]⟩
abbrev S2048x2048 : Shape := ⟨2, ![2048, 2048]⟩
abbrev S512x2048 : Shape := ⟨2, ![512, 2048]⟩
abbrev S1x512 : Shape := ⟨2, ![1, 512]⟩
abbrev S2048x512 : Shape := ⟨2, ![2048, 512]⟩
abbrev S256x2048 : Shape := ⟨2, ![256, 2048]⟩
abbrev S256x512 : Shape := ⟨2, ![256, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x14352, .f32⟩
  | .hbm, ⟨2, _⟩ => ⟨S14352, .f32⟩
  | .hbm, ⟨3, _⟩ => ⟨S14352x2048, .f32⟩
  | .hbm, ⟨4, _⟩ => ⟨S2048, .f32⟩
  | .hbm, ⟨5, _⟩ => ⟨S1x2048, .f32⟩
  | .hbm, ⟨6, _⟩ => ⟨S8192x2048, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGcIdeal.lean ====
abbrev S8192x2048 : Shape := ⟨2, ![8192, 2048]⟩
abbrev S2048x14352 : Shape := ⟨2, ![2048, 14352]⟩
abbrev S14352 : Shape := ⟨1, ![14352]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x14352, .f32⟩
  | .hbm, ⟨2, _⟩ => ⟨S14352, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== KernelGa.lean ====
abbrev S8192x2048 : Shape := ⟨2, ![8192, 2048]⟩
abbrev S2048x14352 : Shape := ⟨2, ![2048, 14352]⟩
abbrev S14352 : Shape := ⟨1, ![14352]⟩
abbrev S14352x2048 : Shape := ⟨2, ![14352, 2048]⟩
abbrev S2048 : Shape := ⟨1, ![2048]⟩
abbrev S1x2048 : Shape := ⟨2, ![1, 2048]⟩
abbrev S2048x2048 : Shape := ⟨2, ![2048, 2048]⟩
abbrev S512x2048 : Shape := ⟨2, ![512, 2048]⟩
abbrev S1x512 : Shape := ⟨2, ![1, 512]⟩
abbrev S2048x512 : Shape := ⟨2, ![2048, 512]⟩
abbrev S256x2048 : Shape := ⟨2, ![256, 2048]⟩
abbrev S256x512 : Shape := ⟨2, ![256, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x14352, .f32⟩
  | .hbm, ⟨2, _⟩ => ⟨S14352, .f32⟩
  | .hbm, ⟨3, _⟩ => ⟨S14352x2048, .f32⟩
  | .hbm, ⟨4, _⟩ => ⟨S2048, .f32⟩
  | .hbm, ⟨5, _⟩ => ⟨S1x2048, .f32⟩
  | .hbm, ⟨6, _⟩ => ⟨S8192x2048, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let c12304_i32 : BitVec 32 := 12304#32
  let arg1 : BitVec 32 := BitVec.ofNat 32 (i 1).val
  let c512_i32 : BitVec 32 := 512#32
  let v0 : BitVec 32 := Scalar.muli arg1 c512_i32
  let v1 : BitVec 32 := Scalar.addi c12304_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c12304_i32 : BitVec 32 := 12304#32
  let v1 : BitVec 32 := Scalar.addi c12304_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGaIdeal.lean ====
abbrev S8192x2048 : Shape := ⟨2, ![8192, 2048]⟩
abbrev S2048x14352 : Shape := ⟨2, ![2048, 14352]⟩
abbrev S14352 : Shape := ⟨1, ![14352]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x14352, .f32⟩
  | .hbm, ⟨2, _⟩ => ⟨S14352, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== KernelV.lean ====
abbrev S8192x2048 : Shape := ⟨2, ![8192, 2048]⟩
abbrev S2048x14352 : Shape := ⟨2, ![2048, 14352]⟩
abbrev S14352 : Shape := ⟨1, ![14352]⟩
abbrev S14352x2048 : Shape := ⟨2, ![14352, 2048]⟩
abbrev S2048 : Shape := ⟨1, ![2048]⟩
abbrev S2048x1 : Shape := ⟨2, ![2048, 1]⟩
abbrev S16x2048x512 : Shape := ⟨3, ![16, 2048, 512]⟩
abbrev S1024x2048 : Shape := ⟨2, ![1024, 2048]⟩
abbrev S2048x2048 : Shape := ⟨2, ![2048, 2048]⟩
abbrev S1024x1 : Shape := ⟨2, ![1024, 1]⟩
abbrev S4x1024x512 : Shape := ⟨3, ![4, 1024, 512]⟩
abbrev S512x2048 : Shape := ⟨2, ![512, 2048]⟩
abbrev S1024x512 : Shape := ⟨2, ![1024, 512]⟩
abbrev S1x1024x512 : Shape := ⟨3, ![1, 1024, 512]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x14352, .f32⟩
  | .hbm, ⟨2, _⟩ => ⟨S14352, .f32⟩
  | .hbm, ⟨3, _⟩ => ⟨S14352x2048, .f32⟩
  | .hbm, ⟨4, _⟩ => ⟨S2048, .f32⟩
  | .hbm, ⟨5, _⟩ => ⟨S2048x1, .f32⟩
  | .hbm, ⟨6, _⟩ => ⟨S16x2048x512, .bf16⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S2048x2048, .bf16⟩
  | .local _ .vmem, ⟨4, _⟩ => ⟨S1024x1, .f32⟩
  | .local _ .vmem, ⟨5, _⟩ => ⟨S1024x1, .f32⟩
  | .local _ .vmem, ⟨6, _⟩ => ⟨S4x1024x512, .bf16⟩
  | .local _ .vmem, ⟨7, _⟩ => ⟨S4x1024x512, .bf16⟩
  | .local _ .vmem, ⟨8, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceVIdeal.lean ====
abbrev S8192x2048 : Shape := ⟨2, ![8192, 2048]⟩
abbrev S2048x14352 : Shape := ⟨2, ![2048, 14352]⟩
abbrev S14352 : Shape := ⟨1, ![14352]⟩
abbrev S2048x2048 : Shape := ⟨2, ![2048, 2048]⟩
abbrev S2048 : Shape := ⟨1, ![2048]⟩
abbrev S1x2048 : Shape := ⟨2, ![1, 2048]⟩
abbrev S16x512x2048 : Shape := ⟨3, ![16, 512, 2048]⟩
abbrev S16x2048x512 : Shape := ⟨3, ![16, 2048, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x14352, .f32⟩
  | .hbm, ⟨2, _⟩ => ⟨S14352, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S16x512x2048, .f32⟩
  | .hbm, ⟨11, _⟩ => ⟨S16x2048x512, .f32⟩
  | .hbm, ⟨12, _⟩ => ⟨S16x2048x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Soft.lean ====
/- The running softmax over the extended reals: after any number of key blocks the three running values are the largest
   score, the sum of the weights and the weighted sum of the values over the keys read so far. -/
module

public import Idealize.ShloMosaic.PureOps.Ideal

@[expose] public section

noncomputable section

namespace Cert.KernelIdeal.Soft

open Idealize.ShloMosaic

theorem exp2_nonneg (x : EReal) : 0 ≤ Ideal.exp2 x := by
  induction x using EReal.rec with
  | bot => simp
  | top => simp
  | coe r => rw [Ideal.exp2_coe]; exact_mod_cast (Real.rpow_pos_of_pos (by norm_num) r).le

theorem exp2_ne_top {x : EReal} (h : x ≠ ⊤) : Ideal.exp2 x ≠ ⊤ := by
  induction x using EReal.rec with
  | bot => simp
  | top => exact absurd rfl h
  | coe r => rw [Ideal.exp2_coe]; exact EReal.coe_ne_top _

/-- Two raised to a difference of scores is at most one when the second is no smaller. -/
theorem sub_ne_top {x y : EReal} (hxy : x ≤ y) (hy : y ≠ ⊤) : x - y ≠ ⊤ := by
  induction y using EReal.rec with
  | bot => obtain rfl : x = ⊥ := le_bot_iff.mp hxy; simp
  | top => exact absurd rfl hy
  | coe r =>
    induction x using EReal.rec with
    | bot => simp
    | top => exact absurd (top_le_iff.mp hxy) hy
    | coe q => rw [← EReal.coe_sub]; exact EReal.coe_ne_top _

/-- Rescaling a weight from one running maximum to a larger one. -/
theorem rescale {s m m' : EReal} (h : s ≤ m) (h' : m ≤ m') (ht : m' ≠ ⊤) : Ideal.exp2 (m - m') * Ideal.exp2 (s - m) = Ideal.exp2 (s - m') := by
  induction s using EReal.rec with
  | bot => simp
  | top => exact absurd (top_le_iff.mp (h.trans h')) ht
  | coe s =>
    induction m using EReal.rec with
    | bot => exact absurd (le_bot_iff.mp h) (EReal.coe_ne_bot _)
    | top => exact absurd (top_le_iff.mp h') ht
    | coe m =>
      induction m' using EReal.rec with
      | bot => exact absurd (le_bot_iff.mp h') (EReal.coe_ne_bot _)
      | top => exact absurd rfl ht
      | coe m' =>
        rw [← EReal.coe_sub, ← EReal.coe_sub, ← EReal.coe_sub, Ideal.exp2_coe, Ideal.exp2_coe, Ideal.exp2_coe, ← EReal.coe_mul]
        refine congrArg _ ?_
        show (2 : ℝ) ^ (m - m') * (2 : ℝ) ^ (s - m) = (2 : ℝ) ^ (s - m')
        rw [← Real.rpow_add (by norm_num)]
        congr 1; ring

theorem mul_sum {ι : Type} (K : Finset ι) (f : ι → EReal) {c : EReal} (h0 : 0 ≤ c) (ht : c ≠ ⊤) : c * ∑ k ∈ K, f k = ∑ k ∈ K, c * f k := by
  classical
  induction K using Finset.induction_on with
  | empty => simp
  | insert a K ha ih => rw [Finset.sum_insert ha, Finset.sum_insert ha, EReal.left_distrib_of_nonneg_of_ne_top h0 ht, ih]

/-- The three running values over the keys of `K`, with scores `s` and values `v`. -/
structure Rep (K : Finset ℕ) (s v : ℕ → EReal) (m l a : EReal) : Prop where
  m_eq : m = K.sup s
  l_eq : l = ∑ k ∈ K, Ideal.exp2 (s k - m)
  a_eq : a = ∑ k ∈ K, Ideal.exp2 (s k - m) * v k

theorem Rep.init (b : ℕ) (s v : ℕ → EReal) : Rep (Finset.Ico b b) s v ⊥ 0 0 :=
  ⟨by simp, by simp, by simp⟩

theorem sup_ne_top (K : Finset ℕ) (s : ℕ → EReal) (hs : ∀ k, s k ≠ ⊤) : K.sup s ≠ ⊤ := by
  classical
  induction K using Finset.induction_on with
  | empty => simp
  | insert a K ha ih =>
    rw [Finset.sup_insert]
    rcases max_choice (s a) (K.sup s) with h | h
    · exact fun e => hs a (h.symm.trans e)
    · exact fun e => ih (h.symm.trans e)

theorem fold_max_sup {n : ℕ} (f : Fin n → EReal) : Finset.univ.fold max ⊥ f = Finset.univ.sup f := rfl

theorem sup_Ico (b o n : ℕ) (h : b ≤ o) (s : ℕ → EReal) :
    (Finset.Ico b (o + n)).sup s = max ((Finset.Ico b o).sup s) (Finset.univ.sup fun j : Fin n => s (o + j.val)) := by
  apply le_antisymm
  · refine Finset.sup_le fun k hk => ?_
    rw [Finset.mem_Ico] at hk
    by_cases hko : k < o
    · exact le_max_of_le_left (Finset.le_sup (Finset.mem_Ico.mpr ⟨hk.1, hko⟩))
    · refine le_max_of_le_right ?_
      have := Finset.le_sup (f := fun j : Fin n => s (o + j.val)) (Finset.mem_univ (⟨k - o, by omega⟩ : Fin n))
      have e : o + (k - o) = k := by omega
      rwa [show s (o + (⟨k - o, by omega⟩ : Fin n).val) = s k from congrArg s e] at this
  · refine max_le (Finset.sup_mono (Finset.Ico_subset_Ico_right (by omega))) (Finset.sup_le fun j _ => ?_)
    exact Finset.le_sup (f := s) (Finset.mem_Ico.mpr ⟨by omega, by have := j.isLt; omega⟩)

theorem sum_Ico (b o n : ℕ) (h : b ≤ o) (f : ℕ → EReal) :
    ∑ k ∈ Finset.Ico b (o + n), f k = ∑ k ∈ Finset.Ico b o, f k + ∑ j : Fin n, f (o + j.val) := by
  rw [← Finset.sum_Ico_consecutive f h (Nat.le_add_right o n), Finset.sum_Ico_eq_sum_range f o (o + n), Nat.add_sub_cancel_left,
    Finset.sum_range fun k => f (o + k)]

/-- One more block of `n` keys. -/
theorem Rep.step {b o : ℕ} (n : ℕ) (hbo : b ≤ o) {s v : ℕ → EReal} {m l a : EReal} (hs : ∀ k, s k ≠ ⊤) (h : Rep (Finset.Ico b o) s v m l a)
    {sB vB : Fin n → EReal} (hsB : ∀ j : Fin n, sB j = s (o + j.val)) (hvB : ∀ j : Fin n, vB j = v (o + j.val)) {m' : EReal}
    (hm : m' = max m (Finset.univ.fold max ⊥ sB)) :
    Rep (Finset.Ico b (o + n)) s v m' (Ideal.exp2 (m - m') * l + ∑ j, Ideal.exp2 (sB j - m'))
      (Ideal.exp2 (m - m') * a + ∑ j, vB j * Ideal.exp2 (sB j - m')) := by
  obtain rfl : sB = fun j => s (o + j.val) := funext hsB
  obtain rfl : vB = fun j => v (o + j.val) := funext hvB
  have hm' : m' = (Finset.Ico b (o + n)).sup s := by rw [hm, sup_Ico b o n hbo s, fold_max_sup, h.m_eq]
  have ht : m' ≠ ⊤ := hm' ▸ sup_ne_top _ s hs
  have hmm : m ≤ m' := hm ▸ le_max_left _ _
  have hc := exp2_ne_top (sub_ne_top hmm ht)
  have hk : ∀ k ∈ Finset.Ico b o, s k ≤ m := fun k hk => h.m_eq ▸ Finset.le_sup hk
  refine ⟨hm', ?_, ?_⟩
  · rw [sum_Ico b o n hbo, h.l_eq, mul_sum _ _ (exp2_nonneg _) hc]
    congr 1
    exact Finset.sum_congr rfl fun k hk' => rescale (hk k hk') hmm ht
  · rw [sum_Ico b o n hbo, h.a_eq, mul_sum _ _ (exp2_nonneg _) hc]
    congr 1
    · refine Finset.sum_congr rfl fun k hk' => ?_
      rw [← mul_assoc, rescale (hk k hk') hmm ht]
    · exact Finset.sum_congr rfl fun j _ => mul_comm _ _

/-- The quotient the call takes at the end is the plain softmax over all keys, the keys not read having score `⊥`. -/
theorem Rep.final {b o N : ℕ} (ho : o ≤ N) {s v : ℕ → EReal} {m l a : EReal} (hs : ∀ k, s k ≠ ⊤) (h : Rep (Finset.Ico b o) s v m l a)
    (hout : ∀ k, k < N → ¬ (b ≤ k ∧ k < o) → s k = ⊥) {kq : ℕ} (hq : b ≤ kq ∧ kq < o) (hreal : s kq ≠ ⊥)
    {sR vR : Fin N → EReal} (hsR : ∀ j : Fin N, sR j = s j.val) (hvR : ∀ j : Fin N, vR j = v j.val) :
    Ideal.div a l = ∑ j : Fin N, Ideal.div (Ideal.exp2 (sR j - Finset.univ.fold max ⊥ sR)) (∑ j : Fin N, Ideal.exp2 (sR j - Finset.univ.fold max ⊥ sR)) * vR j := by
  obtain rfl : sR = fun j => s j.val := funext hsR
  obtain rfl : vR = fun j => v j.val := funext hvR
  have hsub : Finset.Ico b o ⊆ Finset.range N := fun k hk => Finset.mem_range.mpr (by have := Finset.mem_Ico.mp hk; omega)
  have hM : (Finset.univ.fold max ⊥ fun j : Fin N => s j.val) = m := by
    rw [fold_max_sup, h.m_eq]
    apply le_antisymm
    · refine Finset.sup_le fun j _ => ?_
      by_cases hj : b ≤ j.val ∧ j.val < o
      · exact Finset.le_sup (f := s) (Finset.mem_Ico.mpr hj)
      · rw [hout j.val j.isLt hj]; exact bot_le
    · refine Finset.sup_le fun k hk => ?_
      have := Finset.mem_Ico.mp hk
      exact Finset.le_sup (f := fun j : Fin N => s j.val) (Finset.mem_univ (⟨k, by omega⟩ : Fin N))
  have hz : ∀ k ∈ Finset.range N, k ∉ Finset.Ico b o → Ideal.exp2 (s k - m) = 0 := fun k hk hk' => by
    rw [hout k (Finset.mem_range.mp hk) (fun hh => hk' (Finset.mem_Ico.mpr hh))]; simp
  have hL : ∑ j : Fin N, Ideal.exp2 (s j.val - m) = l := by
    rw [h.l_eq, ← Finset.sum_range fun k => Ideal.exp2 (s k - m)]
    exact (Finset.sum_subset hsub hz).symm
  rw [hM, hL]
  have hmt : m ≠ ⊤ := h.m_eq ▸ sup_ne_top _ s hs
  have hmb : m ≠ ⊥ := fun e => hreal (le_bot_iff.mp (e ▸ h.m_eq ▸ Finset.le_sup (f := s) (Finset.mem_Ico.mpr hq)))
  have hl0 : 0 ≤ l := h.l_eq ▸ Finset.sum_nonneg fun k _ => exp2_nonneg _
  have hlpos : l ≠ 0 := by
    intro e
    have hall := (Finset.sum_eq_zero_iff_of_nonneg (fun k _ => exp2_nonneg (s k - m))).mp (h.l_eq.symm.trans e)
    have := hall kq (Finset.mem_Ico.mpr hq)
    revert this hreal hmb hmt
    have := hs kq
    revert this
    generalize s kq = x
    induction x using EReal.rec with
    | bot => exact fun _ h => absurd rfl h
    | top => exact fun h => absurd rfl h
    | coe x =>
      induction m using EReal.rec with
      | bot => exact fun _ _ _ h => absurd rfl h
      | top => exact fun _ _ h => absurd rfl h
      | coe m =>
        intro _ _ _ _ h0
        rw [← EReal.coe_sub, Ideal.exp2_coe] at h0
        have : Real.rpow 2 (x - m) = 0 := by exact_mod_cast h0
        exact absurd this (Real.rpow_pos_of_pos (by norm_num) _).ne'
  have hdiv : ∀ x : EReal, Ideal.div x l = l⁻¹ * x := fun x => by
    unfold Ideal.div; rw [if_neg hlpos, mul_comm]
  have hinv0 : 0 ≤ l⁻¹ := EReal.inv_nonneg_of_nonneg hl0
  have hinvt : l⁻¹ ≠ ⊤ := fun e => by
    induction l using EReal.rec with
    | bot => simp at e
    | top => simp at e
    | coe x => rw [← EReal.coe_inv] at e; exact EReal.coe_ne_top _ e
  rw [hdiv, h.a_eq, mul_sum _ _ hinv0 hinvt]
  rw [← Finset.sum_range fun k => Ideal.div (Ideal.exp2 (s k - m)) l * v k]
  refine (Finset.sum_congr rfl fun k _ => ?_).trans (Finset.sum_subset hsub fun k hk hk' => ?_)
  · rw [hdiv, mul_assoc]
  · rw [hz k hk hk', hdiv, mul_zero, zero_mul]

end Cert.KernelIdeal.Soft
end
-- ==== Proof.Att.lean ====
/- Forgetting attention over the extended reals, index by index: the logit of a query and a key, the logit with the mask,
   and the gated average of the values. Both programs are read into these. -/
module

public import proofs.«01_k».proof.Proof.Soft
public import Idealize.ShloMosaic.Lib.Pointwise

@[expose] public section

noncomputable section

namespace Cert.Att

open Idealize.ShloMosaic Idealize.ShloMosaic.Tactic

abbrev A0 := IVec (⟨1, ![128]⟩ : Shape) 32
abbrev A1 := (⟨2, ![8192, 4096]⟩ : Shape).Idx → EReal
abbrev A2 := (⟨3, ![16, 2048, 512]⟩ : Shape).Idx → EReal
abbrev A3 := (⟨2, ![8192, 128]⟩ : Shape).Idx → EReal
abbrev A5 := (⟨2, ![8192, 2048]⟩ : Shape).Idx → EReal

/-- The logit of query `Q` and key `k` in head `h`: the product of the two rows, and the bias as a product of its factors. -/
def logit (qk : A1) (qall kaug : A3) (h : Fin 16) (Q k : Fin 8192) : EReal :=
  ∑ x : Fin 128, qk (ix2 Q ⟨h.val * 128 + x.val, by omega⟩) * qk (ix2 k ⟨2048 + (h.val * 128 + x.val), by omega⟩)
    + ∑ x : Fin 8, qall (ix2 Q ⟨x.val * 16 + h.val, by omega⟩) * kaug (ix2 k ⟨x.val * 16 + h.val, by omega⟩)

/-- The plan's word for the query block of `Q` in head `h`. -/
def plan (fp : A0) (h : Fin 16) (Q : Fin 8192) : BitVec 32 := fp (ix1 ⟨h.val * 8 + Q.val / 1024, by omega⟩)

/-- The logit where query `Q` sees key `k`, minus infinity elsewhere. -/
def score (fp : A0) (qk : A1) (qall kaug : A3) (h : Fin 16) (Q : Fin 8192) (k : ℕ) : EReal :=
  if 1024 * (plan fp h Q).toNat ≤ k ∧ k ≤ Q.val then logit qk qall kaug h Q (Fin.ofNat 8192 k) else ⊥

/-- Lane `d` of the value of key `k` in head `h`. -/
def value (vt : A2) (h : Fin 16) (d : Fin 128) (k : ℕ) : EReal :=
  vt (ix3 (Fin.ofNat 16 (k / 512)) ⟨h.val * 128 + d.val, by omega⟩ (Fin.ofNat 512 (k % 512)))

/-- The weighted average of the values. -/
def avg (s v : ℕ → EReal) : EReal :=
  ∑ j : Fin 8192, Ideal.div (Ideal.exp2 (s j.val - Finset.univ.fold max ⊥ fun i : Fin 8192 => s i.val))
    (∑ j : Fin 8192, Ideal.exp2 (s j.val - Finset.univ.fold max ⊥ fun i : Fin 8192 => s i.val)) * v j.val

/-- The result at query `Q`, head `h`, lane `d`. -/
def out (fp : A0) (qk : A1) (vt : A2) (qall kaug : A3) (ga : A5) (Q : Fin 8192) (h : Fin 16) (d : Fin 128) : EReal :=
  avg (score fp qk qall kaug h Q) (value vt h d) * ga (ix2 Q ⟨128 * h.val + d.val, by omega⟩)

/-- An extended real that is neither infinity. -/
def Real (x : EReal) : Prop := x ≠ ⊤ ∧ x ≠ ⊥

theorem Real.mul {x y : EReal} (hx : Real x) (hy : Real y) : Real (x * y) := by
  lift x to ℝ using hx
  lift y to ℝ using hy
  rw [← EReal.coe_mul]
  exact ⟨EReal.coe_ne_top _, EReal.coe_ne_bot _⟩

theorem Real.add {x y : EReal} (hx : Real x) (hy : Real y) : Real (x + y) := by
  lift x to ℝ using hx
  lift y to ℝ using hy
  rw [← EReal.coe_add]
  exact ⟨EReal.coe_ne_top _, EReal.coe_ne_bot _⟩

theorem Real.sum {ι : Type} (K : Finset ι) (f : ι → EReal) (h : ∀ i, Real (f i)) : Real (∑ i ∈ K, f i) := by
  classical
  induction K using Finset.induction_on with
  | empty => rw [Finset.sum_empty]; exact ⟨EReal.zero_ne_top, EReal.zero_ne_bot⟩
  | insert a K ha ih => rw [Finset.sum_insert ha]; exact (h a).add ih

/-- With finite factors every logit is a real number. -/
theorem logit_real {qk : A1} {qall kaug : A3} (h1 : ∀ i, Real (qk i)) (h3 : ∀ i, Real (qall i)) (h4 : ∀ i, Real (kaug i))
    (h : Fin 16) (Q k : Fin 8192) : Real (logit qk qall kaug h Q k) :=
  (Real.sum _ _ fun _ => (h1 _).mul (h1 _)).add (Real.sum _ _ fun _ => (h3 _).mul (h4 _))

end Cert.Att
end
-- ==== Proof.OutFn.lean ====
/- The output projection with its residual and normalization over the extended reals, index by index. -/
module

public import proofs.«01_k».proof.Proof.Att

@[expose] public section

noncomputable section

namespace Cert.Out

open Idealize.ShloMosaic Idealize.ShloMosaic.Tactic

abbrev M := (⟨2, ![8192, 2048]⟩ : Shape).Idx → EReal
abbrev W := (⟨2, ![4096, 2048]⟩ : Shape).Idx → EReal
abbrev X := (⟨3, ![1, 8192, 2048]⟩ : Shape).Idx → EReal
abbrev R := (⟨1, ![2048]⟩ : Shape).Idx → EReal

/-- A row less its mean. -/
def centred (h : Fin 2048 → EReal) (j : Fin 2048) : EReal :=
  h j - Ideal.div (∑ x, h x) (Ideal.ofBits FTy.f32 1157627904#32)

/-- A row normalized, scaled and shifted. -/
def norm (h g b : Fin 2048 → EReal) (j : Fin 2048) : EReal :=
  centred h j * Ideal.rsqrt (Ideal.div (∑ x, centred h x * centred h x) (Ideal.ofBits FTy.f32 1157627904#32) + Ideal.ofBits FTy.f32 925353388#32) * g j + b j

/-- The scaled input plus the two mixers' projections and the bias. -/
def resid (yc ya : M) (w : W) (x : X) (bo : R) (Q : Fin 8192) (j : Fin 2048) : EReal :=
  Ideal.ofBits FTy.f32 1066940400#32 * x (ix3 0 Q j)
    + (∑ k : Fin 2048, yc (ix2 Q k) * w (ix2 ⟨k.val, by omega⟩ j) + ∑ k : Fin 2048, ya (ix2 Q k) * w (ix2 ⟨2048 + k.val, by omega⟩ j) + bo (ix1 j))

/-- An entry of the layer's result. -/
def out (yc ya : M) (w : W) (x : X) (bo g b : R) (Q : Fin 8192) (j : Fin 2048) : EReal :=
  norm (resid yc ya w x bo Q) (fun j => g (ix1 j)) (fun j => b (ix1 j)) j

end Cert.Out
end
-- ==== Proof.OutVal.lean ====
/- The output projection's blocks, read at an index. -/
module

public import proofs.«01_k».proof.Proof.Gen.KernelOutIdeal.Value
public import proofs.«01_k».proof.Proof.OutFn
public import Idealize.ShloMosaic.Lib.Pointwise

@[expose] public section

set_option maxRecDepth 16384

noncomputable section

namespace Cert.KernelOutIdeal.Out

open Idealize.ShloMosaic Idealize.ShloMosaic.TcCoe Idealize.ShloMosaic.Tactic
open Idealize.ShloMosaic.Pipeline (Dat Cfg Window)
open Cert.KernelOutIdeal Cert.KernelOutIdeal.Gen

section Payloads
variable (v0 : Vec Ideal S256x2048 .bf16) (v1 : Vec Ideal S2048x2048 .bf16) (v3 : Vec Ideal S256x2048 .bf16) (v4 : Vec Ideal S2048x2048 .bf16)
  (v7 : Vec Ideal S256x2048 .f32) (v11 v16 v18 : Vec Ideal S1x2048 .f32) (r : Fin 256) (j : Fin 2048)

/-- A row of a half block before the normalization. -/
def row (j : Fin 2048) : EReal := Ideal.ofBits FTy.f32 1066940400#32 * v7 (ix2 r j)
  + (∑ x : Fin 2048, v0 (ix2 r x) * v1 (ix2 x j) + ∑ x : Fin 2048, v3 (ix2 r x) * v4 (ix2 x j) + v11 (ix2 0 j))

theorem first_at : k0_pay6 (F := Ideal) (k0_pay2 v16) (k0_pay3 v18) (k0_pay4 v0 v1 v3 v4 v7 v11) (k0_pay5 v0 v1 v3 v4 v7 v11) (ix2 r j)
    = Cert.Out.norm (row v0 v1 v3 v4 v7 v11 r) (fun j => v16 (ix2 0 j)) (fun j => v18 (ix2 0 j)) j := by
  pointwise [k0_pay6, k0_pay5, k0_pay4, k0_pay3, k0_pay2]
  rfl

theorem second_at : k0_pay1 (F := Ideal) (k0_pay7 v16) (k0_pay8 v18) (k0_pay9 v0 v1 v3 v4 v7 v11) (k0_pay10 v0 v1 v3 v4 v7 v11) (ix2 r j)
    = Cert.Out.norm (row v0 v1 v3 v4 v7 v11 r) (fun j => v16 (ix2 0 j)) (fun j => v18 (ix2 0 j)) j := by
  pointwise [k0_pay1, k0_pay10, k0_pay9, k0_pay8, k0_pay7]
  rfl

end Payloads

section Entry
variable (m : (ℓ : Loc nD τ sig) → Buf (Elt Ideal) ℓ) (c : Dev nD)

theorem V_v0 : V m c main_v0 = shapeCast S8192x2048 (m ((c.tc : Thread nD τ).loc main_arg3)) shapeCasts_S1x8192x2048_S8192x2048 := by
  show StableHlo.after hostOps0 (fun b => m (c, b)) (Proc.devRef .tc main_v0) = _
  after_results_simp <;> rfl
theorem V_v1 : V m c main_v1 = shapeCast S1x2048 (m ((c.tc : Thread nD τ).loc main_arg4)) shapeCasts_S2048_S1x2048 := by
  show StableHlo.after hostOps0 (fun b => m (c, b)) (Proc.devRef .tc main_v1) = _
  after_results_simp <;> rfl
theorem V_v2 : V m c main_v2 = shapeCast S1x2048 (m ((c.tc : Thread nD τ).loc main_arg5)) shapeCasts_S2048_S1x2048 := by
  show StableHlo.after hostOps0 (fun b => m (c, b)) (Proc.devRef .tc main_v2) = _
  after_results_simp <;> rfl
theorem V_v3 : V m c main_v3 = shapeCast S1x2048 (m ((c.tc : Thread nD τ).loc main_arg6)) shapeCasts_S2048_S1x2048 := by
  show StableHlo.after hostOps0 (fun b => m (c, b)) (Proc.devRef .tc main_v3) = _
  after_results_simp <;> rfl

end Entry

end Cert.KernelOutIdeal.Out
end
-- ==== Proof.OutArr.lean ====
/- The array the output call leaves: entry by entry the normalized residual of the arrays it was launched on. -/
module

public import proofs.«01_k».proof.Proof.OutVal
public import Idealize.ShloMosaic.Lib.Pipeline.Value
public import Idealize.ShloMosaic.Lib.Pipeline.ValueKit.Tiles

@[expose] public section

set_option maxRecDepth 16384

noncomputable section

namespace Cert.KernelOutIdeal.Out

open Idealize.ShloMosaic Idealize.ShloMosaic.TcCoe Idealize.ShloMosaic.Tactic
open Idealize.ShloMosaic.Pipeline (Dat Cfg Window)
open Cert.KernelOutIdeal Cert.KernelOutIdeal.Gen

variable (m : (ℓ : Loc nD τ sig) → Buf (Elt Ideal) ℓ) (c : Dev nD) (t : Fin cfg0.N)

abbrev a0 : Cert.Out.M := m ((c.tc : Thread nD τ).loc main_arg0)
abbrev a1 : Cert.Out.M := m ((c.tc : Thread nD τ).loc main_arg1)
abbrev a2 : Cert.Out.W := m ((c.tc : Thread nD τ).loc main_arg2)
abbrev a3 : Cert.Out.X := m ((c.tc : Thread nD τ).loc main_arg3)
abbrev a4 : Cert.Out.R := m ((c.tc : Thread nD τ).loc main_arg4)
abbrev a5 : Cert.Out.R := m ((c.tc : Thread nD τ).loc main_arg5)
abbrev a6 : Cert.Out.R := m ((c.tc : Thread nD τ).loc main_arg6)

/-- The block of rows of a grid point. -/
abbrev gp : Fin 16 := grid0.coords t 0

/-- The row of the arrays a row of a grid point's block is. -/
def at_row (r : Fin 512) : Fin 8192 := ⟨(gp t).val * 512 + r.val, by have := (gp t).isLt; omega⟩

def bc : Vec Ideal S512x2048 .bf16 := iblk m c 0 t
def ba : Vec Ideal S512x2048 .bf16 := iblk m c 1 t
def bw : Vec Ideal S4096x2048 .bf16 := iblk m c 2 t
def bx : Vec Ideal S512x2048 .f32 := iblk m c 3 t
def bo : Vec Ideal S1x2048 .f32 := iblk m c 4 t
def bg : Vec Ideal S1x2048 .f32 := iblk m c 5 t
def bb : Vec Ideal S1x2048 .f32 := iblk m c 6 t

theorem small_toNat (n : ℕ) (hn : n < 4096) : (BitVec.ofNat 32 n).toNat = n := by
  rw [BitVec.toNat_ofNat, Nat.mod_eq_of_lt (by omega)]

/-- Where an entry of a grid point's block sits in the result. -/
theorem emb_at (r : Fin 512) (j : Fin 2048) : (((cfg0.win 7).blk t).view.emb (ix2 r j) : S8192x2048.Idx) = ix2 (at_row t r) j :=
  funext fun (a : Fin 2) => Fin.ext ((Window.rect_emb_val (cfg0.win 7) t (ix2 r j) a).trans (by
    match a with
    | 0 =>
      show (BitVec.ofNat 32 (gp t).val).toNat * 512 + r.val = (gp t).val * 512 + r.val
      rw [small_toNat _ (by have := (gp t).isLt; omega)]
    | 1 => show 0 * 2048 + j.val = j.val; omega))

theorem bc_at (r : Fin 512) (j : Fin 2048) : bc m c t (ix2 r j) = a0 m c (ix2 (at_row t r) j) :=
  (congrFun (V_main_arg0 m c) _).trans (congrArg (a0 m c) (funext fun (a : Fin 2) => Fin.ext ((Window.rect_emb_val (cfg0.win 0) t (ix2 r j) a).trans (by
    match a with
    | 0 =>
      show (BitVec.ofNat 32 (gp t).val).toNat * 512 + r.val = (gp t).val * 512 + r.val
      rw [small_toNat _ (by have := (gp t).isLt; omega)]
    | 1 => show 0 * 2048 + j.val = j.val; omega))))

theorem ba_at (r : Fin 512) (j : Fin 2048) : ba m c t (ix2 r j) = a1 m c (ix2 (at_row t r) j) :=
  (congrFun (V_main_arg1 m c) _).trans (congrArg (a1 m c) (funext fun (a : Fin 2) => Fin.ext ((Window.rect_emb_val (cfg0.win 1) t (ix2 r j) a).trans (by
    match a with
    | 0 =>
      show (BitVec.ofNat 32 (gp t).val).toNat * 512 + r.val = (gp t).val * 512 + r.val
      rw [small_toNat _ (by have := (gp t).isLt; omega)]
    | 1 => show 0 * 2048 + j.val = j.val; omega))))

theorem bw_at (r : Fin 4096) (j : Fin 2048) : bw m c t (ix2 r j) = a2 m c (ix2 r j) :=
  (congrFun (V_main_arg2 m c) _).trans (congrArg (a2 m c) (funext fun (a : Fin 2) => Fin.ext ((Window.rect_emb_val (cfg0.win 2) t (ix2 r j) a).trans (by
    match a with
    | 0 => show 0 * 4096 + r.val = r.val; omega
    | 1 => show 0 * 2048 + j.val = j.val; omega))))

theorem cast_x (x : Cert.Out.X) (r : Fin 8192) (j : Fin 2048) :
    shapeCast S8192x2048 x shapeCasts_S1x8192x2048_S8192x2048 (ix2 r j) = x (ix3 0 r j) := by
  pointwise []

theorem cast_r (x : Cert.Out.R) (j : Fin 2048) :
    shapeCast S1x2048 x shapeCasts_S2048_S1x2048 (ix2 0 j) = x (ix1 j) := by
  pointwise []

theorem bx_at (r : Fin 512) (j : Fin 2048) : bx m c t (ix2 r j) = a3 m c (ix3 0 (at_row t r) j) :=
  (congrFun (V_v0 m c) _).trans (Eq.trans (congrArg (a₂ := ix2 (at_row t r) j) _ (funext fun (a : Fin 2) => Fin.ext ((Window.rect_emb_val (cfg0.win 3) t (ix2 r j) a).trans (by
    match a with
    | 0 =>
      show (BitVec.ofNat 32 (gp t).val).toNat * 512 + r.val = (at_row t r).val
      rw [small_toNat _ (by have := (gp t).isLt; omega)]; rfl
    | 1 => show 0 * 2048 + j.val = j.val; omega)))) (cast_x (a3 m c) (at_row t r) j))

theorem bo_at (j : Fin 2048) : bo m c t (ix2 0 j) = a4 m c (ix1 j) :=
  (congrFun (V_v1 m c) _).trans (Eq.trans (congrArg (a₂ := ix2 0 j) _ (funext fun (a : Fin 2) => Fin.ext ((Window.rect_emb_val (cfg0.win 4) t (ix2 0 j) a).trans (by
    match a with
    | 0 => show 0 * 1 + 0 = 0; omega
    | 1 => show 0 * 2048 + j.val = j.val; omega)))) (cast_r (a4 m c) j))

theorem bg_at (j : Fin 2048) : bg m c t (ix2 0 j) = a5 m c (ix1 j) :=
  (congrFun (V_v2 m c) _).trans (Eq.trans (congrArg (a₂ := ix2 0 j) _ (funext fun (a : Fin 2) => Fin.ext ((Window.rect_emb_val (cfg0.win 5) t (ix2 0 j) a).trans (by
    match a with
    | 0 => show 0 * 1 + 0 = 0; omega
    | 1 => show 0 * 2048 + j.val = j.val; omega)))) (cast_r (a5 m c) j))

theorem bb_at (j : Fin 2048) : bb m c t (ix2 0 j) = a6 m c (ix1 j) :=
  (congrFun (V_v3 m c) _).trans (Eq.trans (congrArg (a₂ := ix2 0 j) _ (funext fun (a : Fin 2) => Fin.ext ((Window.rect_emb_val (cfg0.win 6) t (ix2 0 j) a).trans (by
    match a with
    | 0 => show 0 * 1 + 0 = 0; omega
    | 1 => show 0 * 2048 + j.val = j.val; omega)))) (cast_r (a6 m c) j))

/-! The loads of a half block. -/

theorem lo {e : EltTy} (X : Vec Ideal S512x2048 e) (r : Fin 256) (k : Fin 2048) : View.ld X r0_0 (ix2 r k) = X (ix2 ⟨r.val, by omega⟩ k) :=
  congrArg X (funext fun (a : Fin 2) => Fin.ext (by
    match a with
    | 0 => show 0 + 1 * r.val = r.val; omega
    | 1 => show 0 + 1 * k.val = k.val; omega))

theorem hi {e : EltTy} (X : Vec Ideal S512x2048 e) (r : Fin 256) (k : Fin 2048) : View.ld X r0_4 (ix2 r k) = X (ix2 ⟨256 + r.val, by omega⟩ k) :=
  congrArg X (funext fun (a : Fin 2) => Fin.ext (by
    match a with
    | 0 => show 256 + 1 * r.val = 256 + r.val; omega
    | 1 => show 0 + 1 * k.val = k.val; omega))

theorem w_lo (X : Vec Ideal S4096x2048 .bf16) (r : Fin 2048) (k : Fin 2048) : View.ld X r0_1 (ix2 r k) = X (ix2 ⟨r.val, by omega⟩ k) :=
  congrArg X (funext fun (a : Fin 2) => Fin.ext (by
    match a with
    | 0 => show 0 + 1 * r.val = r.val; omega
    | 1 => show 0 + 1 * k.val = k.val; omega))

theorem w_hi (X : Vec Ideal S4096x2048 .bf16) (r : Fin 2048) (k : Fin 2048) : View.ld X r0_2 (ix2 r k) = X (ix2 ⟨2048 + r.val, by omega⟩ k) :=
  congrArg X (funext fun (a : Fin 2) => Fin.ext (by
    match a with
    | 0 => show 2048 + 1 * r.val = 2048 + r.val; omega
    | 1 => show 0 + 1 * k.val = k.val; omega))

theorem one (X : Vec Ideal S1x2048 .f32) (k : Fin 2048) : View.ld X r0_3 (ix2 0 k) = X (ix2 0 k) :=
  congrArg X (funext fun (a : Fin 2) => Fin.ext (by
    match a with
    | 0 => show 0 + 1 * 0 = 0; omega
    | 1 => show 0 + 1 * k.val = k.val; omega))

/-- The row before the normalization, in the lower half of the block. -/
theorem row_lo (r : Fin 256) : row (View.ld (bc m c t) r0_0) (View.ld (bw m c t) r0_1) (View.ld (ba m c t) r0_0) (View.ld (bw m c t) r0_2) (View.ld (bx m c t) r0_0) (View.ld (bo m c t) r0_3) r
    = Cert.Out.resid (a0 m c) (a1 m c) (a2 m c) (a3 m c) (a4 m c) (at_row t ⟨r.val, by omega⟩) := by
  funext j
  unfold row Cert.Out.resid
  refine congrArg₂ (· + ·) (congrArg _ ?_) (congrArg₂ (· + ·) (congrArg₂ (· + ·) (Finset.sum_congr rfl fun k _ => congrArg₂ (· * ·) ?_ ?_) (Finset.sum_congr rfl fun k _ => congrArg₂ (· * ·) ?_ ?_)) ?_)
  · rw [lo]; exact bx_at m c t _ _
  · rw [lo]; exact bc_at m c t _ _
  · rw [w_lo]; exact bw_at m c t _ _
  · rw [lo]; exact ba_at m c t _ _
  · rw [w_hi]; exact bw_at m c t _ _
  · rw [one]; exact bo_at m c t _

/-- The same in the upper half. -/
theorem row_hi (r : Fin 256) : row (View.ld (bc m c t) r0_4) (View.ld (bw m c t) r0_1) (View.ld (ba m c t) r0_4) (View.ld (bw m c t) r0_2) (View.ld (bx m c t) r0_4) (View.ld (bo m c t) r0_3) r
    = Cert.Out.resid (a0 m c) (a1 m c) (a2 m c) (a3 m c) (a4 m c) (at_row t ⟨256 + r.val, by omega⟩) := by
  funext j
  unfold row Cert.Out.resid
  refine congrArg₂ (· + ·) (congrArg _ ?_) (congrArg₂ (· + ·) (congrArg₂ (· + ·) (Finset.sum_congr rfl fun k _ => congrArg₂ (· * ·) ?_ ?_) (Finset.sum_congr rfl fun k _ => congrArg₂ (· * ·) ?_ ?_)) ?_)
  · rw [hi]; exact bx_at m c t _ _
  · rw [hi]; exact bc_at m c t _ _
  · rw [w_lo]; exact bw_at m c t _ _
  · rw [hi]; exact ba_at m c t _ _
  · rw [w_hi]; exact bw_at m c t _ _
  · rw [one]; exact bo_at m c t _

theorem gain : (fun j => View.ld (bg m c t) r0_3 (ix2 0 j)) = fun j => a5 m c (ix1 j) :=
  funext fun j => (one _ _).trans (bg_at m c t j)
theorem shift : (fun j => View.ld (bb m c t) r0_3 (ix2 0 j)) = fun j => a6 m c (ix1 j) :=
  funext fun j => (one _ _).trans (bb_at m c t j)

/-- What a grid point leaves in its block. -/
theorem out_at (r : Fin 512) (j : Fin 2048) : out0_7 (bc m c t) (ba m c t) (bw m c t) (bx m c t) (bo m c t) (bg m c t) (bb m c t) (ix2 r j)
    = Cert.Out.out (a0 m c) (a1 m c) (a2 m c) (a3 m c) (a4 m c) (a5 m c) (a6 m c) (at_row t r) j := by
  unfold out0_7
  refine View.canon_eq_of_allAt _ _ _ (cover0_7 _ _ _) (View.allAt_cons_unit _ _ _ _ _ ?_ (View.allAt_cons_unit _ _ _ _ _ ?_ (View.allAt_nil _ _)))
  · refine fun (x : S256x2048.Idx) hx => ?_
    idx_vars x
    have b0 : 256 + x0.val < 512 := by omega
    have h0 : r.val = 256 + x0.val := hx 0
    have h1 : j.val = 0 + x1.val := hx 1
    obtain rfl : r = ⟨256 + x0.val, b0⟩ := Fin.ext h0
    obtain rfl : j = x1 := Fin.ext (h1.trans (Nat.zero_add _))
    refine (second_at _ _ _ _ _ _ _ _ x0 j).trans ?_
    rw [row_hi, gain, shift]; rfl
  · refine fun (x : S256x2048.Idx) hx => ?_
    idx_vars x
    have b0 : x0.val < 512 := by omega
    have h0 : r.val = 0 + x0.val := hx 0
    have h1 : j.val = 0 + x1.val := hx 1
    obtain rfl : r = ⟨x0.val, b0⟩ := Fin.ext (h0.trans (Nat.zero_add _))
    obtain rfl : j = x1 := Fin.ext (h1.trans (Nat.zero_add _))
    refine (first_at _ _ _ _ _ _ _ _ x0 j).trans ?_
    rw [row_lo, gain, shift]; rfl

/-- What the result array is shown to hold. -/
def whole : Buf (Elt Ideal) ((c.tc : Thread nD τ).loc main_v4) :=
  fun y : S8192x2048.Idx => Cert.Out.out (a0 m c) (a1 m c) (a2 m c) (a3 m c) (a4 m c) (a5 m c) (a6 m c) (y 0) (y 1)

/-- What a grid point leaves in its block, named. -/
def left : Vec Ideal S512x2048 .f32 := out0_7 (bc m c t) (ba m c t) (bw m c t) (bx m c t) (bo m c t) (bg m c t) (bb m c t)

theorem left_at (r : Fin 512) (j : Fin 2048) : left m c t (ix2 r j)
    = Cert.Out.out (a0 m c) (a1 m c) (a2 m c) (a3 m c) (a4 m c) (a5 m c) (a6 m c) (at_row t r) j := out_at m c t r j

theorem after_left : (dats m 0 c).after 7 t = left m c t := after0_7 m c t

theorem whole_at (Q : Fin 8192) (j : Fin 2048) : (whole m c : S8192x2048.Idx → EReal) (ix2 Q j)
    = Cert.Out.out (a0 m c) (a1 m c) (a2 m c) (a3 m c) (a4 m c) (a5 m c) (a6 m c) Q j := rfl

theorem left_whole (r : Fin 512) (j : Fin 2048) : left m c t (ix2 r j) = (whole m c : S8192x2048.Idx → EReal) (ix2 (at_row t r) j) :=
  (left_at m c t r j).trans (whole_at m c (at_row t r) j).symm

theorem left_emb (r : Fin 512) (j : Fin 2048) : left m c t (ix2 r j) = (whole m c : S8192x2048.Idx → EReal) (((cfg0.win 7).blk t).view.emb (ix2 r j)) :=
  (left_whole m c t r j).trans (congrArg (whole m c : S8192x2048.Idx → EReal) (emb_at t r j).symm)

theorem left_all (y : S512x2048.Idx) : left m c t y = (whole m c : S8192x2048.Idx → EReal) (((cfg0.win 7).blk t).view.emb y) := by
  idx_vars y
  exact left_emb m c t y0 y1

/-- What a grid point writes back is its block of the result. -/
theorem flushed_eq : (dats m 0 c).flushed 7 t = ((cfg0.win 7).blk t).view.read (Elt Ideal) (whole m c) := by
  show (cfg0.win 7).cut (grid0.coords t) ((dats m 0 c).after 7 t) = _
  rw [after_left]
  exact funext fun (y : S512x2048.Idx) => left_all m c t y

/-- Every block of rows has its grid point. -/
theorem point_of (h : Fin 16) : ∃ t : Fin cfg0.N, gp t = h := by
  have H : ∀ n : Fin 16, (grid0.coords ⟨n.val, by rw [N_0]; exact n.isLt⟩ 0).val = n.val := by decide +kernel
  exact ⟨⟨h.val, by show h.val < grid0.N; rw [N_0]; exact h.isLt⟩, Fin.ext (H h)⟩

/-- The sixteen blocks fill the result. -/
theorem cover (i : S8192x2048.Idx) : ∃ t : Fin cfg0.N, (cfg0.win 7).flush t = true ∧ i ∈ ((cfg0.win 7).blk t).view.set := by
  idx_vars i
  obtain ⟨t, ht⟩ := point_of ⟨i0.val / 512, by omega⟩
  have hv : (gp t).val = i0.val / 512 := congrArg Fin.val ht
  have e : at_row t ⟨i0.val % 512, Nat.mod_lt _ (by decide)⟩ = i0 := Fin.ext (by show (gp t).val * 512 + i0.val % 512 = i0.val; omega)
  have h := ((cfg0.win 7).blk t).view.emb_mem_set (ix2 (⟨i0.val % 512, Nat.mod_lt _ (by decide)⟩ : Fin 512) i1)
  have h' := emb_at t ⟨i0.val % 512, Nat.mod_lt _ (by decide)⟩ i1
  refine ⟨t, flush0_7 t, ?_⟩
  rw [← e]
  exact h' ▸ h

/-- The result array after the run. -/
theorem final : (dats m 0 c).arrAt 7 cfg0.N = whole m c :=
  (dats m 0 c).arrAt_eq_of_cover 7 (whole m c) (fun t _ => flushed_eq m c t) cover

end Cert.KernelOutIdeal.Out
end
-- ==== Proof.OutRef.lean ====
/- The output projection's reference, read at an index. -/
module

public import proofs.«01_k».proof.Proof.Gen.ReferenceOutIdeal.Run
public import proofs.«01_k».proof.Proof.OutFn
public import Idealize.ShloMosaic.Lib.Pointwise

@[expose] public section

set_option maxRecDepth 16384

noncomputable section

namespace Cert.ReferenceOutIdeal.Out

open Idealize.ShloMosaic Idealize.ShloMosaic.TcCoe Idealize.ShloMosaic.Tactic
open Cert.ReferenceOutIdeal Cert.ReferenceOutIdeal.Gen

/-- Every row less its mean. -/
def centred (h : FVec Ideal S8192x2048 .f32) : FVec Ideal S8192x2048 .f32 :=
  subf h (broadcastInDim S8192x2048 ![0, 1] bcast_S8192x1_S8192x2048_0_1 (Host.divf (broadcastInDim S8192x1 ![0] bcast_S8192_S8192x1_0 (Host.reduceAdd h (constant S_ .f32 0x00000000#32) reducesTo_S8192x2048_S8192_d1 h_S_)) (broadcastInDim S8192x1 ![] bcast_S_S8192x1 (constant S_ .f32 0x45000000#32))))

/-- Every row, less its mean already, normalized, scaled and shifted. -/
def normed (d : FVec Ideal S8192x2048 .f32) (g b : FVec Ideal S2048 .f32) : FVec Ideal S8192x2048 .f32 :=
  addf (mulf (mulf d (broadcastInDim S8192x2048 ![0, 1] bcast_S8192x1_S8192x2048_0_1 (Host.rsqrt (addf (Host.divf (broadcastInDim S8192x1 ![0] bcast_S8192_S8192x1_0 (Host.reduceAdd (mulf d d) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 g))) (broadcastInDim S8192x2048 ![0, 1] bcast_S1x2048_S8192x2048_0_1 (broadcastInDim S1x2048 ![1] bcast_S2048_S1x2048_1 b))

/-- The scaled residual plus the projection of the two mixers side by side. -/
def summed (y : FVec Ideal S8192x4096 .f32) (w : FVec Ideal S4096x2048 .f32) (x : FVec Ideal S1x8192x2048 .f32) (b : FVec Ideal S2048 .f32) : FVec Ideal S8192x2048 .f32 :=
  addf (mulf (broadcastInDim S8192x2048 ![] bcast_S_S8192x2048 (constant S_ .f32 0x3F9837F0#32)) (shapeCast _ x shapeCasts_S1x8192x2048_S8192x2048)) (addf (Host.dotGeneral dot_S8192x4096_S4096x2048_S8192x2048_1_0_0_1_n_n none y w) (broadcastInDim S8192x2048 ![0, 1] bcast_S1x2048_S8192x2048_0_1 (broadcastInDim S1x2048 ![1] bcast_S2048_S1x2048_1 b)))

/-- The two mixers side by side. -/
def both (a b : FVec Ideal S8192x2048 .f32) : FVec Ideal S8192x4096 .f32 :=
  concatenate S8192x4096 1 [⟨S8192x2048, a⟩, ⟨S8192x2048, b⟩] concatenates_S8192x2048_S8192x2048_S8192x4096_d1

variable (m : (ℓ : Loc nD τ sig) → Buf (Elt Ideal) ℓ) (c : Dev nD)

/-- The scaled residual plus the projection, of the arguments. -/
def before : FVec Ideal S8192x2048 .f32 :=
  summed (both (extf .f32 (m ((c.tc : Thread nD τ).loc main_arg0)) bitsLt_bf16_f32) (extf .f32 (m ((c.tc : Thread nD τ).loc main_arg1)) bitsLt_bf16_f32)) (extf .f32 (m ((c.tc : Thread nD τ).loc main_arg2)) bitsLt_bf16_f32)
    (m ((c.tc : Thread nD τ).loc main_arg3)) (m ((c.tc : Thread nD τ).loc main_arg4))

theorem split : Value.res_main_v35 m c = normed (centred (before m c)) (m ((c.tc : Thread nD τ).loc main_arg5)) (m ((c.tc : Thread nD τ).loc main_arg6)) := rfl

theorem centred_at (h : FVec Ideal S8192x2048 .f32) (Q : Fin 8192) (j : Fin 2048) :
    centred h (ix2 Q j) = Cert.Out.centred (fun j => h (ix2 Q j)) j := by
  pointwise [centred]
  rfl

theorem normed_at (d : FVec Ideal S8192x2048 .f32) (g b : FVec Ideal S2048 .f32) (Q : Fin 8192) (j : Fin 2048) :
    normed d g b (ix2 Q j) = d (ix2 Q j) * Ideal.rsqrt (Ideal.div (∑ x : Fin 2048, d (ix2 Q x) * d (ix2 Q x)) (Ideal.ofBits FTy.f32 1157627904#32) + Ideal.ofBits FTy.f32 925353388#32) * g (ix1 j) + b (ix1 j) := by
  pointwise [normed]

theorem summed_at (y : FVec Ideal S8192x4096 .f32) (w : FVec Ideal S4096x2048 .f32) (x : FVec Ideal S1x8192x2048 .f32) (b : FVec Ideal S2048 .f32) (Q : Fin 8192) (j : Fin 2048) :
    summed y w x b (ix2 Q j) = Ideal.ofBits FTy.f32 1066940400#32 * x (ix3 0 Q j) + (∑ k : Fin 4096, y (ix2 Q k) * w (ix2 k j) + b (ix1 j)) := by
  pointwise [summed]

theorem both_lo (a b : FVec Ideal S8192x2048 .f32) (Q : Fin 8192) (k : Fin 2048) : both a b (ix2 Q ⟨k.val, by omega⟩) = a (ix2 Q k) := by
  pointwise [both]

theorem both_hi (a b : FVec Ideal S8192x2048 .f32) (Q : Fin 8192) (k : Fin 2048) : both a b (ix2 Q ⟨2048 + k.val, by omega⟩) = b (ix2 Q k) := by
  pointwise [both]

theorem split_sum (f : Fin 4096 → EReal) : ∑ k, f k = ∑ k : Fin 2048, f ⟨k.val, by omega⟩ + ∑ k : Fin 2048, f ⟨2048 + k.val, by omega⟩ :=
  Fin.sum_univ_add (a := 2048) (b := 2048) f

/-- The reference's result at an index. -/
theorem ref_at (Q : Fin 8192) (j : Fin 2048) :
    Value.res_main_v35 m c (ix2 Q j) = Cert.Out.out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) Q j := by
  have hb : (fun j => before m c (ix2 Q j)) = Cert.Out.resid (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) Q := by
    funext j
    rw [before, summed_at, split_sum]
    refine congrArg₂ (· + ·) rfl (congrArg₂ (· + ·) (congrArg₂ (· + ·) (Finset.sum_congr rfl fun k _ => ?_) (Finset.sum_congr rfl fun k _ => ?_)) rfl)
    · exact congrArg₂ (· * ·) (both_lo _ _ Q k) rfl
    · exact congrArg₂ (· * ·) (both_hi _ _ Q k) rfl
  rw [split, normed_at]
  simp only [centred_at, hb]
  rfl

/-- The reference's result, whole. -/
theorem ref_whole : Value.res_main_v35 m c = fun y : S8192x2048.Idx => Cert.Out.out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (y 0) (y 1) := by
  refine funext fun (y : S8192x2048.Idx) => ?_
  idx_vars y
  exact ref_at m c y0 y1

/-- Equal arguments give equal results. -/
theorem same_args {a0 b0 a1 b1 : Cert.Out.M} {a2 b2 : Cert.Out.W} {a3 b3 : Cert.Out.X} {a4 b4 a5 b5 a6 b6 : Cert.Out.R}
    (h0 : a0 = b0) (h1 : a1 = b1) (h2 : a2 = b2) (h3 : a3 = b3) (h4 : a4 = b4) (h5 : a5 = b5) (h6 : a6 = b6) :
    (fun y : (⟨2, ![8192, 2048]⟩ : Shape).Idx => Cert.Out.out a0 a1 a2 a3 a4 a5 a6 (y 0) (y 1)) = fun y => Cert.Out.out b0 b1 b2 b3 b4 b5 b6 (y 0) (y 1) := by
  rw [h0, h1, h2, h3, h4, h5, h6]

end Cert.ReferenceOutIdeal.Out
end
-- ==== Proof.ProjFn.lean ====
/- An input projection over the extended reals, index by index, and the two gates' function. -/
module

public import proofs.«01_k».proof.Proof.Att

@[expose] public section

noncomputable section

namespace Cert.Proj

open Idealize.ShloMosaic Idealize.ShloMosaic.Tactic

abbrev X := (⟨2, ![8192, 2048]⟩ : Shape).Idx → EReal
abbrev W := (⟨2, ![2048, 14352]⟩ : Shape).Idx → EReal
abbrev B := (⟨1, ![14352]⟩ : Shape).Idx → EReal

/-- Column `e` of the projection of row `Q`. -/
def lin (x : X) (w : W) (b : B) (Q : Fin 8192) (e : Fin 14352) : EReal := ∑ k : Fin 2048, x (ix2 Q k) * w (ix2 k e) + b (ix1 e)

/-- The logistic function as both programs form it. -/
def sig (z : EReal) : EReal := Ideal.div 1 (1 + Ideal.exp (0 - z))

/-- `z` times its logistic function. -/
def silu (z : EReal) : EReal := z * sig z

end Cert.Proj
end
-- ==== Proof.GluVal.lean ====
/- The GLU call: what the stores of a block write, and the block they leave. -/
module

public import proofs.«01_k».proof.Proof.Gen.KernelGluIdeal.Value
public import proofs.«01_k».proof.Proof.ProjFn
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.KernelGluIdeal.Glu

open Idealize.ShloMosaic Idealize.ShloMosaic.TcCoe Idealize.ShloMosaic.Tactic
open Idealize.ShloMosaic.Pipeline (Dat Cfg Window)
open Cert.KernelGluIdeal Cert.KernelGluIdeal.Gen

/-- An entry of a block: the value's projection times the sigmoid of the gate's. -/
def cell (x0 : Vec Ideal S2048x2048 .bf16) (x1 x2 : Vec Ideal S512x2048 .f32) (x3 x4 : Vec Ideal S1x512 .f32) (r : Fin 2048) (e : Fin 512) : EReal :=
  (∑ k : Fin 2048, x0 (ix2 r k) * x1 (ix2 e k) + x3 (ix2 0 e)) * Cert.Proj.sig (∑ k : Fin 2048, x0 (ix2 r k) * x2 (ix2 e k) + x4 (ix2 0 e))

/-- The same of 256 rows. -/
def part (a g : Vec Ideal S512x2048 .f32) (x : Vec Ideal S256x2048 .bf16) (p q : Vec Ideal S1x512 .f32) (r : Fin 256) (e : Fin 512) : EReal :=
  (∑ k : Fin 2048, x (ix2 r k) * a (ix2 e k) + p (ix2 0 e)) * Cert.Proj.sig (∑ k : Fin 2048, x (ix2 r k) * g (ix2 e k) + q (ix2 0 e))

/-- What a store of 128 lanes out of the 512 writes. -/
abbrev Store := Vec Ideal S512x2048 .f32 → Vec Ideal S512x2048 .f32 → Vec Ideal S256x2048 .bf16 → Vec Ideal S1x512 .f32 → Vec Ideal S1x512 .f32 → Vec Ideal S1x256x128 .f32

def store0_0 : Store := fun a g x p q => k0_pay4 (F := Ideal) a g x p x q
def store0_1 : Store := fun a g x p q => k0_pay5 (F := Ideal) a g x p x q
def store0_2 : Store := fun a g x p q => k0_pay6 (F := Ideal) (k0_pay3 a g x p x q)
def store0_3 : Store := fun a g x p q => k0_pay7 (F := Ideal) (k0_pay3 a g x p x q)
def store1_0 : Store := fun a g x p q => k0_pay9 (F := Ideal) (k0_pay1 a) (k0_pay2 g) x p x q
def store1_1 : Store := fun a g x p q => k0_pay11 (F := Ideal) (k0_pay10 (k0_pay1 a) (k0_pay2 g) x p x q)
def store1_2 : Store := fun a g x p q => k0_pay12 (F := Ideal) (k0_pay8 (k0_pay1 a) (k0_pay2 g) x p x q)
def store1_3 : Store := fun a g x p q => k0_pay13 (F := Ideal) (k0_pay8 (k0_pay1 a) (k0_pay2 g) x p x q)
def store2_0 : Store := fun a g x p q => k0_pay16 (F := Ideal) (k0_pay15 (k0_pay1 a) (k0_pay2 g) x p x q)
def store2_1 : Store := fun a g x p q => k0_pay17 (F := Ideal) (k0_pay14 (k0_pay1 a) (k0_pay2 g) x p x q)
def store2_2 : Store := fun a g x p q => k0_pay18 (F := Ideal) (k0_pay14 (k0_pay1 a) (k0_pay2 g) x p x q)
def store2_3 : Store := fun a g x p q => k0_pay19 (F := Ideal) (k0_pay14 (k0_pay1 a) (k0_pay2 g) x p x q)
def store3_0 : Store := fun a g x p q => k0_pay21 (F := Ideal) (k0_pay20 (k0_pay1 a) (k0_pay2 g) x p x q)
def store3_1 : Store := fun a g x p q => k0_pay22 (F := Ideal) (k0_pay20 (k0_pay1 a) (k0_pay2 g) x p x q)
def store3_2 : Store := fun a g x p q => k0_pay23 (F := Ideal) (k0_pay20 (k0_pay1 a) (k0_pay2 g) x p x q)
def store3_3 : Store := fun a g x p q => k0_pay24 (F := Ideal) (k0_pay20 (k0_pay1 a) (k0_pay2 g) x p x q)
def store4_0 : Store := fun a g x p q => k0_pay29 (F := Ideal) (k0_pay25 (k0_pay1 a) x p) (k0_pay26 (k0_pay2 g) x q) (k0_pay27 (F := Ideal))
def store4_1 : Store := fun a g x p q => k0_pay30 (F := Ideal) (k0_pay25 (k0_pay1 a) x p) (k0_pay26 (k0_pay2 g) x q) (k0_pay27 (F := Ideal))
def store4_2 : Store := fun a g x p q => k0_pay31 (F := Ideal) (k0_pay25 (k0_pay1 a) x p) (k0_pay26 (k0_pay2 g) x q) (k0_pay27 (F := Ideal))
def store4_3 : Store := fun a g x p q => k0_pay32 (F := Ideal) (k0_pay25 (k0_pay1 a) x p) (k0_pay26 (k0_pay2 g) x q) (k0_pay27 (F := Ideal))
def store5_0 : Store := fun a g x p q => k0_pay36 (F := Ideal) (k0_pay33 (k0_pay1 a) x p) (k0_pay34 (k0_pay2 g) x q) (Scalar.ofBits (F := Ideal) .f32 0x00000000#32)
def store5_1 : Store := fun a g x p q => k0_pay37 (F := Ideal) (k0_pay33 (k0_pay1 a) x p) (k0_pay34 (k0_pay2 g) x q) (Scalar.ofBits (F := Ideal) .f32 0x00000000#32)
def store5_2 : Store := fun a g x p q => k0_pay38 (F := Ideal) (k0_pay33 (k0_pay1 a) x p) (k0_pay34 (k0_pay2 g) x q) (Scalar.ofBits (F := Ideal) .f32 0x00000000#32)
def store5_3 : Store := fun a g x p q => k0_pay39 (F := Ideal) (k0_pay33 (k0_pay1 a) x p) (k0_pay34 (k0_pay2 g) x q) (Scalar.ofBits (F := Ideal) .f32 0x00000000#32)
def store6_0 : Store := fun a g x p q => k0_pay43 (F := Ideal) (k0_pay40 (k0_pay1 a) x p) (k0_pay41 (k0_pay2 g) x) q
def store6_1 : Store := fun a g x p q => k0_pay44 (F := Ideal) (k0_pay40 (k0_pay1 a) x p) (k0_pay41 (k0_pay2 g) x) q
def store6_2 : Store := fun a g x p q => k0_pay45 (F := Ideal) (k0_pay40 (k0_pay1 a) x p) (k0_pay41 (k0_pay2 g) x) q
def store6_3 : Store := fun a g x p q => k0_pay46 (F := Ideal) (k0_pay40 (k0_pay1 a) x p) (k0_pay41 (k0_pay2 g) x) q
def store7_0 : Store := fun a g x p q => k0_pay49 (F := Ideal) (k0_pay2 g) (k0_pay47 (k0_pay1 a) x p) x q
def store7_1 : Store := fun a g x p q => k0_pay50 (F := Ideal) (k0_pay2 g) (k0_pay47 (k0_pay1 a) x p) x q
def store7_2 : Store := fun a g x p q => k0_pay51 (F := Ideal) (k0_pay2 g) (k0_pay47 (k0_pay1 a) x p) x q
def store7_3 : Store := fun a g x p q => k0_pay52 (F := Ideal) (k0_pay2 g) (k0_pay47 (k0_pay1 a) x p) x q

/-- A store writes its 128 lanes of `part`. -/
def Writes (w : Store) (o : ℕ) : Prop := ∀ a g x p q (r : Fin 256) (l : Fin 128) (e : Fin 512), e.val = o + l.val → w a g x p q (ix3 0 r l) = part a g x p q r e

theorem writes0_0 : Writes store0_0 0 := by
  intro a g x p q r l e h
  have b : l.val < 512 := by clear h; omega
  obtain rfl : e = ⟨l.val, b⟩ := Fin.ext (by simpa using h)
  pointwise [store0_0, k0_pay4, k0_pay3, k0_pay2, k0_pay1]
  rfl
theorem writes0_1 : Writes store0_1 128 := by
  intro a g x p q r l e h
  have b : 128 + l.val < 512 := by clear h; omega
  obtain rfl : e = ⟨128 + l.val, b⟩ := Fin.ext (by omega)
  pointwise [store0_1, k0_pay5, k0_pay3, k0_pay2, k0_pay1]
  rfl
theorem writes0_2 : Writes store0_2 256 := by
  intro a g x p q r l e h
  have b : 256 + l.val < 512 := by clear h; omega
  obtain rfl : e = ⟨256 + l.val, b⟩ := Fin.ext (by omega)
  pointwise [store0_2, k0_pay6, k0_pay3, k0_pay2, k0_pay1]
  rfl
theorem writes0_3 : Writes store0_3 384 := by
  intro a g x p q r l e h
  have b : 384 + l.val < 512 := by clear h; omega
  obtain rfl : e = ⟨384 + l.val, b⟩ := Fin.ext (by omega)
  pointwise [store0_3, k0_pay7, k0_pay3, k0_pay2, k0_pay1]
  rfl
theorem writes1_0 : Writes store1_0 0 := by
  intro a g x p q r l e h
  have b : l.val < 512 := by clear h; omega
  obtain rfl : e = ⟨l.val, b⟩ := Fin.ext (by simpa using h)
  pointwise [store1_0, k0_pay9, k0_pay8, k0_pay2, k0_pay1]
  rfl
theorem writes1_1 : Writes store1_1 128 := by
  intro a g x p q r l e h
  have b : 128 + l.val < 512 := by clear h; omega
  obtain rfl : e = ⟨128 + l.val, b⟩ := Fin.ext (by omega)
  pointwise [store1_1, k0_pay11, k0_pay10, k0_pay8, k0_pay2, k0_pay1]
  rfl
theorem writes1_2 : Writes store1_2 256 := by
  intro a g x p q r l e h
  have b : 256 + l.val < 512 := by clear h; omega
  obtain rfl : e = ⟨256 + l.val, b⟩ := Fin.ext (by omega)
  pointwise [store1_2, k0_pay12, k0_pay8, k0_pay2, k0_pay1]
  rfl
theorem writes1_3 : Writes store1_3 384 := by
  intro a g x p q r l e h
  have b : 384 + l.val < 512 := by clear h; omega
  obtain rfl : e = ⟨384 + l.val, b⟩ := Fin.ext (by omega)
  pointwise [store1_3, k0_pay13, k0_pay8, k0_pay2, k0_pay1]
  rfl
theorem writes2_0 : Writes store2_0 0 := by
  intro a g x p q r l e h
  have b : l.val < 512 := by clear h; omega
  obtain rfl : e = ⟨l.val, b⟩ := Fin.ext (by simpa using h)
  pointwise [store2_0, k0_pay16, k0_pay15, k0_pay14, k0_pay2, k0_pay1]
  rfl
theorem writes2_1 : Writes store2_1 128 := by
  intro a g x p q r l e h
  have b : 128 + l.val < 512 := by clear h; omega
  obtain rfl : e = ⟨128 + l.val, b⟩ := Fin.ext (by omega)
  pointwise [store2_1, k0_pay17, k0_pay14, k0_pay2, k0_pay1]
  rfl
theorem writes2_2 : Writes store2_2 256 := by
  intro a g x p q r l e h
  have b : 256 + l.val < 512 := by clear h; omega
  obtain rfl : e = ⟨256 + l.val, b⟩ := Fin.ext (by omega)
  pointwise [store2_2, k0_pay18, k0_pay14, k0_pay2, k0_pay1]
  rfl
theorem writes2_3 : Writes store2_3 384 := by
  intro a g x p q r l e h
  have b : 384 + l.val < 512 := by clear h; omega
  obtain rfl : e = ⟨384 + l.val, b⟩ := Fin.ext (by omega)
  pointwise [store2_3, k0_pay19, k0_pay14, k0_pay2, k0_pay1]
  rfl
theorem writes3_0 : Writes store3_0 0 := by
  intro a g x p q r l e h
  have b : l.val < 512 := by clear h; omega
  obtain rfl : e = ⟨l.val, b⟩ := Fin.ext (by simpa using h)
  pointwise [store3_0, k0_pay21, k0_pay20, k0_pay2, k0_pay1]
  rfl
theorem writes3_1 : Writes store3_1 128 := by
  intro a g x p q r l e h
  have b : 128 + l.val < 512 := by clear h; omega
  obtain rfl : e = ⟨128 + l.val, b⟩ := Fin.ext (by omega)
  pointwise [store3_1, k0_pay22, k0_pay20, k0_pay2, k0_pay1]
  rfl
theorem writes3_2 : Writes store3_2 256 := by
  intro a g x p q r l e h
  have b : 256 + l.val < 512 := by clear h; omega
  obtain rfl : e = ⟨256 + l.val, b⟩ := Fin.ext (by omega)
  pointwise [store3_2, k0_pay23, k0_pay20, k0_pay2, k0_pay1]
  rfl
theorem writes3_3 : Writes store3_3 384 := by
  intro a g x p q r l e h
  have b : 384 + l.val < 512 := by clear h; omega
  obtain rfl : e = ⟨384 + l.val, b⟩ := Fin.ext (by omega)
  pointwise [store3_3, k0_pay24, k0_pay20, k0_pay2, k0_pay1]
  rfl
theorem writes4_0 : Writes store4_0 0 := by
  intro a g x p q r l e h
  have b : l.val < 512 := by clear h; omega
  obtain rfl : e = ⟨l.val, b⟩ := Fin.ext (by simpa using h)
  pointwise [store4_0, k0_pay29, k0_pay28, k0_pay27, k0_pay26, k0_pay25, k0_pay2, k0_pay1]
  rfl
theorem writes4_1 : Writes store4_1 128 := by
  intro a g x p q r l e h
  have b : 128 + l.val < 512 := by clear h; omega
  obtain rfl : e = ⟨128 + l.val, b⟩ := Fin.ext (by omega)
  pointwise [store4_1, k0_pay30, k0_pay28, k0_pay27, k0_pay26, k0_pay25, k0_pay2, k0_pay1]
  rfl
theorem writes4_2 : Writes store4_2 256 := by
  intro a g x p q r l e h
  have b : 256 + l.val < 512 := by clear h; omega
  obtain rfl : e = ⟨256 + l.val, b⟩ := Fin.ext (by omega)
  pointwise [store4_2, k0_pay31, k0_pay28, k0_pay27, k0_pay26, k0_pay25, k0_pay2, k0_pay1]
  rfl
theorem writes4_3 : Writes store4_3 384 := by
  intro a g x p q r l e h
  have b : 384 + l.val < 512 := by clear h; omega
  obtain rfl : e = ⟨384 + l.val, b⟩ := Fin.ext (by omega)
  pointwise [store4_3, k0_pay32, k0_pay28, k0_pay27, k0_pay26, k0_pay25, k0_pay2, k0_pay1]
  rfl
theorem writes5_0 : Writes store5_0 0 := by
  intro a g x p q r l e h
  have b : l.val < 512 := by clear h; omega
  obtain rfl : e = ⟨l.val, b⟩ := Fin.ext (by simpa using h)
  pointwise [store5_0, k0_pay36, k0_pay35, k0_pay34, k0_pay33, k0_pay2, k0_pay1]
  rfl
theorem writes5_1 : Writes store5_1 128 := by
  intro a g x p q r l e h
  have b : 128 + l.val < 512 := by clear h; omega
  obtain rfl : e = ⟨128 + l.val, b⟩ := Fin.ext (by omega)
  pointwise [store5_1, k0_pay37, k0_pay35, k0_pay34, k0_pay33, k0_pay2, k0_pay1]
  rfl
theorem writes5_2 : Writes store5_2 256 := by
  intro a g x p q r l e h
  have b : 256 + l.val < 512 := by clear h; omega
  obtain rfl : e = ⟨256 + l.val, b⟩ := Fin.ext (by omega)
  pointwise [store5_2, k0_pay38, k0_pay35, k0_pay34, k0_pay33, k0_pay2, k0_pay1]
  rfl
theorem writes5_3 : Writes store5_3 384 := by
  intro a g x p q r l e h
  have b : 384 + l.val < 512 := by clear h; omega
  obtain rfl : e = ⟨384 + l.val, b⟩ := Fin.ext (by omega)
  pointwise [store5_3, k0_pay39, k0_pay35, k0_pay34, k0_pay33, k0_pay2, k0_pay1]
  rfl
theorem writes6_0 : Writes store6_0 0 := by
  intro a g x p q r l e h
  have b : l.val < 512 := by clear h; omega
  obtain rfl : e = ⟨l.val, b⟩ := Fin.ext (by simpa using h)
  pointwise [store6_0, k0_pay43, k0_pay42, k0_pay41, k0_pay40, k0_pay2, k0_pay1]
  rfl
theorem writes6_1 : Writes store6_1 128 := by
  intro a g x p q r l e h
  have b : 128 + l.val < 512 := by clear h; omega
  obtain rfl : e = ⟨128 + l.val, b⟩ := Fin.ext (by omega)
  pointwise [store6_1, k0_pay44, k0_pay42, k0_pay41, k0_pay40, k0_pay2, k0_pay1]
  rfl
theorem writes6_2 : Writes store6_2 256 := by
  intro a g x p q r l e h
  have b : 256 + l.val < 512 := by clear h; omega
  obtain rfl : e = ⟨256 + l.val, b⟩ := Fin.ext (by omega)
  pointwise [store6_2, k0_pay45, k0_pay42, k0_pay41, k0_pay40, k0_pay2, k0_pay1]
  rfl
theorem writes6_3 : Writes store6_3 384 := by
  intro a g x p q r l e h
  have b : 384 + l.val < 512 := by clear h; omega
  obtain rfl : e = ⟨384 + l.val, b⟩ := Fin.ext (by omega)
  pointwise [store6_3, k0_pay46, k0_pay42, k0_pay41, k0_pay40, k0_pay2, k0_pay1]
  rfl
theorem writes7_0 : Writes store7_0 0 := by
  intro a g x p q r l e h
  have b : l.val < 512 := by clear h; omega
  obtain rfl : e = ⟨l.val, b⟩ := Fin.ext (by simpa using h)
  pointwise [store7_0, k0_pay49, k0_pay48, k0_pay47, k0_pay2, k0_pay1]
  rfl
theorem writes7_1 : Writes store7_1 128 := by
  intro a g x p q r l e h
  have b : 128 + l.val < 512 := by clear h; omega
  obtain rfl : e = ⟨128 + l.val, b⟩ := Fin.ext (by omega)
  pointwise [store7_1, k0_pay50, k0_pay48, k0_pay47, k0_pay2, k0_pay1]
  rfl
theorem writes7_2 : Writes store7_2 256 := by
  intro a g x p q r l e h
  have b : 256 + l.val < 512 := by clear h; omega
  obtain rfl : e = ⟨256 + l.val, b⟩ := Fin.ext (by omega)
  pointwise [store7_2, k0_pay51, k0_pay48, k0_pay47, k0_pay2, k0_pay1]
  rfl
theorem writes7_3 : Writes store7_3 384 := by
  intro a g x p q r l e h
  have b : 384 + l.val < 512 := by clear h; omega
  obtain rfl : e = ⟨384 + l.val, b⟩ := Fin.ext (by omega)
  pointwise [store7_3, k0_pay52, k0_pay48, k0_pay47, k0_pay2, k0_pay1]
  rfl

/-- A load of 256 rows. -/
theorem ld_rows (X : Vec Ideal S2048x2048 .bf16) (o : ℕ) (h : ∀ a, (![o, 0] : Fin 2 → ℕ) a + S256x2048.size a ≤ S2048x2048.size a) (r : Fin 256) (k : Fin 2048) (hb : o + r.val < 2048) :
    View.ld X (Rect.unit (s := S2048x2048) ![o, 0] S256x2048.size h) (ix2 r k) = X (ix2 ⟨o + r.val, hb⟩ k) :=
  congrArg X (funext fun (a : Fin 2) => Fin.ext (by
    match a with
    | 0 => show o + 1 * r.val = o + r.val; omega
    | 1 => show 0 + 1 * k.val = k.val; omega))

/-- A load of a block of weights. -/
theorem ld_w (X : Vec Ideal S512x2048 .f32) (h : ∀ a, (![0, 0] : Fin 2 → ℕ) a + S512x2048.size a ≤ S512x2048.size a) (j : Fin 512) (k : Fin 2048) :
    View.ld X (Rect.unit (s := S512x2048) ![0, 0] S512x2048.size h) (ix2 j k) = X (ix2 j k) :=
  congrArg X (funext fun (a : Fin 2) => Fin.ext (by
    match a with
    | 0 => show 0 + 1 * j.val = j.val; omega
    | 1 => show 0 + 1 * k.val = k.val; omega))

/-- A load of a block of biases. -/
theorem ld_b (X : Vec Ideal S1x512 .f32) (h : ∀ a, (![0, 0] : Fin 2 → ℕ) a + S1x512.size a ≤ S1x512.size a) (j : Fin 512) :
    View.ld X (Rect.unit (s := S1x512) ![0, 0] S1x512.size h) (ix2 0 j) = X (ix2 0 j) :=
  congrArg X (funext fun (a : Fin 2) => Fin.ext (by
    match a with
    | 0 => show 0 + 1 * 0 = 0; omega
    | 1 => show 0 + 1 * j.val = j.val; omega))

/-- An index of a store's block. -/
theorem local_idx (x : S1x256x128.Idx) : x = ix3 0 (x 1) (x 2) :=
  funext fun (a : Fin 3) => match a with
    | 0 => Subsingleton.elim (α := Fin 1) _ _
    | 1 => rfl
    | 2 => rfl

/-- Where lane `l` of chunk `C` sits among the 512 columns. -/
def lane (C : Fin 4) (l : Fin 128) : Fin 512 := ⟨C.val * 128 + l.val, by omega⟩

/-- A store that writes its lanes of `part` leaves `cell` there. -/
theorem at_part (A : Vec Ideal S2048x2048 .bf16) (B D : Vec Ideal S512x2048 .f32) (P Q : Vec Ideal S1x512 .f32) (c o : ℕ) (h0 h1 h1' h2 h2')
    (w : Store) (hw : Writes w (128 * c)) (C : Fin 4) (R : Fin 2048) (L : Fin 128) (x : S1x256x128.Idx)
    (hx : ∀ a : Fin 3, ((ix3 C R L : S4x2048x128.Idx) a : ℕ) = (![c, o, 0] : Fin 3 → ℕ) a + x a) :
    w (View.ld B (Rect.unit (s := S512x2048) ![0, 0] S512x2048.size h1)) (View.ld D (Rect.unit (s := S512x2048) ![0, 0] S512x2048.size h1')) (View.ld A (Rect.unit (s := S2048x2048) ![o, 0] S256x2048.size h0))
      (View.ld P (Rect.unit (s := S1x512) ![0, 0] S1x512.size h2)) (View.ld Q (Rect.unit (s := S1x512) ![0, 0] S1x512.size h2')) x = cell A B D P Q R (lane C L) := by
  have hC : C.val = c + (x 0).val := hx 0
  have hR : R.val = o + (x 1).val := hx 1
  have hL : L.val = 0 + (x 2).val := hx 2
  have hz : (x 0).val < 1 := (x 0).isLt
  have hb : o + (x 1).val < 2048 := hR ▸ R.isLt
  have eR : R = ⟨o + (x 1).val, hb⟩ := Fin.ext hR
  have e : (lane C L).val = 128 * c + (x 2).val := by show C.val * 128 + L.val = _; omega
  refine (congrArg (w _ _ _ _ _) (local_idx x)).trans ((hw _ _ _ _ _ (x 1) (x 2) (lane C L) e).trans ?_)
  rw [eR]
  unfold part cell
  refine congrArg₂ (· * ·) (congrArg₂ (· + ·) (Finset.sum_congr rfl fun k _ => congrArg₂ (· * ·) ?_ ?_) ?_)
    (congrArg Cert.Proj.sig (congrArg₂ (· + ·) (Finset.sum_congr rfl fun k _ => congrArg₂ (· * ·) ?_ ?_) ?_))
  · exact ld_rows A o h0 (x 1) k hb
  · exact ld_w B h1 _ k
  · exact ld_b P h2 _
  · exact ld_rows A o h0 (x 1) k hb
  · exact ld_w D h1' _ k
  · exact ld_b Q h2' _

/-- The block the stores leave. -/
theorem left_at (c : Dev nD) (i : grid0.Coords) (arg2 : Memref sig .tc .vmem S2048x2048 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S4x2048x128 .f32) (harg7 : arg7.IsWhole)
    (x0 : Vec Ideal S2048x2048 .bf16) (x1 : Vec Ideal S512x2048 .f32) (x2 : Vec Ideal S512x2048 .f32) (x3 : Vec Ideal S1x512 .f32) (x4 : Vec Ideal S1x512 .f32) (C : Fin 4) (R : Fin 2048) (L : Fin 128) :
    out0_A_5 c i arg2 harg2 arg3 harg3 arg4 harg4 arg5 harg5 arg6 harg6 arg7 harg7 x0 x1 x2 x3 x4 (ix3 C R L) = cell x0 x1 x2 x3 x4 R (lane C L) := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  sl_unfold_words
  simp only [View.readAt_eq_ld, harg2.read_unread, harg3.read_unread, harg4.read_unread, harg5.read_unread, harg6.read_unread]
  refine View.canon_eq_of_allAt _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))))))))))))))))))))))))))))))
  · refine View.cover_of_tiled (s := S4x2048x128) _ S1x256x128.size ?_ _
    rfl
  · exact fun (x : S1x256x128.Idx) hx => at_part x0 x1 x2 x3 x4 3 1792 _ _ _ _ _ store7_3 writes7_3 C R L x hx
  · exact fun (x : S1x256x128.Idx) hx => at_part x0 x1 x2 x3 x4 2 1792 _ _ _ _ _ store7_2 writes7_2 C R L x hx
  · exact fun (x : S1x256x128.Idx) hx => at_part x0 x1 x2 x3 x4 1 1792 _ _ _ _ _ store7_1 writes7_1 C R L x hx
  · exact fun (x : S1x256x128.Idx) hx => at_part x0 x1 x2 x3 x4 0 1792 _ _ _ _ _ store7_0 writes7_0 C R L x hx
  · exact fun (x : S1x256x128.Idx) hx => at_part x0 x1 x2 x3 x4 3 1536 _ _ _ _ _ store6_3 writes6_3 C R L x hx
  · exact fun (x : S1x256x128.Idx) hx => at_part x0 x1 x2 x3 x4 2 1536 _ _ _ _ _ store6_2 writes6_2 C R L x hx
  · exact fun (x : S1x256x128.Idx) hx => at_part x0 x1 x2 x3 x4 1 1536 _ _ _ _ _ store6_1 writes6_1 C R L x hx
  · exact fun (x : S1x256x128.Idx) hx => at_part x0 x1 x2 x3 x4 0 1536 _ _ _ _ _ store6_0 writes6_0 C R L x hx
  · exact fun (x : S1x256x128.Idx) hx => at_part x0 x1 x2 x3 x4 3 1280 _ _ _ _ _ store5_3 writes5_3 C R L x hx
  · exact fun (x : S1x256x128.Idx) hx => at_part x0 x1 x2 x3 x4 2 1280 _ _ _ _ _ store5_2 writes5_2 C R L x hx
  · exact fun (x : S1x256x128.Idx) hx => at_part x0 x1 x2 x3 x4 1 1280 _ _ _ _ _ store5_1 writes5_1 C R L x hx
  · exact fun (x : S1x256x128.Idx) hx => at_part x0 x1 x2 x3 x4 0 1280 _ _ _ _ _ store5_0 writes5_0 C R L x hx
  · exact fun (x : S1x256x128.Idx) hx => at_part x0 x1 x2 x3 x4 3 1024 _ _ _ _ _ store4_3 writes4_3 C R L x hx
  · exact fun (x : S1x256x128.Idx) hx => at_part x0 x1 x2 x3 x4 2 1024 _ _ _ _ _ store4_2 writes4_2 C R L x hx
  · exact fun (x : S1x256x128.Idx) hx => at_part x0 x1 x2 x3 x4 1 1024 _ _ _ _ _ store4_1 writes4_1 C R L x hx
  · exact fun (x : S1x256x128.Idx) hx => at_part x0 x1 x2 x3 x4 0 1024 _ _ _ _ _ store4_0 writes4_0 C R L x hx
  · exact fun (x : S1x256x128.Idx) hx => at_part x0 x1 x2 x3 x4 3 768 _ _ _ _ _ store3_3 writes3_3 C R L x hx
  · exact fun (x : S1x256x128.Idx) hx => at_part x0 x1 x2 x3 x4 2 768 _ _ _ _ _ store3_2 writes3_2 C R L x hx
  · exact fun (x : S1x256x128.Idx) hx => at_part x0 x1 x2 x3 x4 1 768 _ _ _ _ _ store3_1 writes3_1 C R L x hx
  · exact fun (x : S1x256x128.Idx) hx => at_part x0 x1 x2 x3 x4 0 768 _ _ _ _ _ store3_0 writes3_0 C R L x hx
  · exact fun (x : S1x256x128.Idx) hx => at_part x0 x1 x2 x3 x4 3 512 _ _ _ _ _ store2_3 writes2_3 C R L x hx
  · exact fun (x : S1x256x128.Idx) hx => at_part x0 x1 x2 x3 x4 2 512 _ _ _ _ _ store2_2 writes2_2 C R L x hx
  · exact fun (x : S1x256x128.Idx) hx => at_part x0 x1 x2 x3 x4 1 512 _ _ _ _ _ store2_1 writes2_1 C R L x hx
  · exact fun (x : S1x256x128.Idx) hx => at_part x0 x1 x2 x3 x4 0 512 _ _ _ _ _ store2_0 writes2_0 C R L x hx
  · exact fun (x : S1x256x128.Idx) hx => at_part x0 x1 x2 x3 x4 3 256 _ _ _ _ _ store1_3 writes1_3 C R L x hx
  · exact fun (x : S1x256x128.Idx) hx => at_part x0 x1 x2 x3 x4 2 256 _ _ _ _ _ store1_2 writes1_2 C R L x hx
  · exact fun (x : S1x256x128.Idx) hx => at_part x0 x1 x2 x3 x4 1 256 _ _ _ _ _ store1_1 writes1_1 C R L x hx
  · exact fun (x : S1x256x128.Idx) hx => at_part x0 x1 x2 x3 x4 0 256 _ _ _ _ _ store1_0 writes1_0 C R L x hx
  · exact fun (x : S1x256x128.Idx) hx => at_part x0 x1 x2 x3 x4 3 0 _ _ _ _ _ store0_3 writes0_3 C R L x hx
  · exact fun (x : S1x256x128.Idx) hx => at_part x0 x1 x2 x3 x4 2 0 _ _ _ _ _ store0_2 writes0_2 C R L x hx
  · exact fun (x : S1x256x128.Idx) hx => at_part x0 x1 x2 x3 x4 1 0 _ _ _ _ _ store0_1 writes0_1 C R L x hx
  · exact fun (x : S1x256x128.Idx) hx => at_part x0 x1 x2 x3 x4 0 0 _ _ _ _ _ store0_0 writes0_0 C R L x hx

end Cert.KernelGluIdeal.Glu
end
-- ==== Proof.GluArr.lean ====
/- The array the GLU call leaves: entry by entry the value times the sigmoid of the gate. -/
module

public import proofs.«01_k».proof.Proof.GluVal
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.KernelGluIdeal.Glu

open Idealize.ShloMosaic Idealize.ShloMosaic.TcCoe Idealize.ShloMosaic.Tactic
open Idealize.ShloMosaic.Pipeline (Dat Cfg Window)
open Cert.KernelGluIdeal Cert.KernelGluIdeal.Gen

variable (m : (ℓ : Loc nD τ sig) → Buf (Elt Ideal) ℓ) (c : Dev nD) (t : Fin cfg0.N)

abbrev a0 : Cert.Proj.X := m ((c.tc : Thread nD τ).loc main_arg0)
abbrev a1 : Cert.Proj.W := m ((c.tc : Thread nD τ).loc main_arg1)
abbrev a2 : Cert.Proj.B := m ((c.tc : Thread nD τ).loc main_arg2)

theorem V_v0 : V m c main_v0 = transpose S14352x2048 [1, 0] (m ((c.tc : Thread nD τ).loc main_arg1)) transposes_S2048x14352_S14352x2048_1_0 := by
  show StableHlo.after hostOps0 (fun b => m (c, b)) (Proc.devRef .tc main_v0) = _
  after_results_simp <;> rfl
theorem V_v2 : V m c main_v2 = shapeCast S1x2048 (extractStridedSlice S2048 ![0] (m ((c.tc : Thread nD τ).loc main_arg2)) slices_S14352_S2048_0) shapeCasts_S2048_S1x2048 := by
  show StableHlo.after hostOps0 (fun b => m (c, b)) (Proc.devRef .tc main_v2) = _
  after_results_simp <;> rfl
theorem V_v4 : V m c main_v4 = shapeCast S1x2048 (extractStridedSlice S2048 ![2048] (m ((c.tc : Thread nD τ).loc main_arg2)) slices_S14352_S2048_2048) shapeCasts_S2048_S1x2048 := by
  show StableHlo.after hostOps0 (fun b => m (c, b)) (Proc.devRef .tc main_v4) = _
  after_results_simp <;> rfl

/-- A grid point's block of rows. -/
abbrev gi : Fin 4 := grid0.coords t 0
/-- A grid point's block of columns. -/
abbrev gj : Fin 4 := grid0.coords t 1

/-- The row of the arrays a row of a grid point's block is. -/
def at_row (r : Fin 2048) : Fin 8192 := ⟨(gi t).val * 2048 + r.val, by have := (gi t).isLt; omega⟩
/-- The column a column of a grid point's block is. -/
def at_col (j : Fin 512) : Fin 2048 := ⟨(gj t).val * 512 + j.val, by have := (gj t).isLt; omega⟩
/-- The chunk of the result a chunk of a grid point's block is. -/
def at_chunk (C : Fin 4) : Fin 16 := ⟨(gj t).val * 4 + C.val, by have := (gj t).isLt; omega⟩
/-- The column behind lane `l` of chunk `C` of the result. -/
def chan (C : Fin 16) (l : Fin 128) : Fin 2048 := ⟨C.val * 128 + l.val, by omega⟩
/-- The columns of the weights behind a column: the value's, the gate's. -/
def acol (j : Fin 2048) : Fin 14352 := ⟨j.val, by omega⟩
def gcol (j : Fin 2048) : Fin 14352 := ⟨2048 + j.val, by omega⟩

theorem chan_at (C : Fin 4) (l : Fin 128) : at_col t (lane C l) = chan (at_chunk t C) l :=
  Fin.ext (by show (gj t).val * 512 + (C.val * 128 + l.val) = ((gj t).val * 4 + C.val) * 128 + l.val; omega)

def b0 : Vec Ideal S2048x2048 .bf16 := iblk m c 0 t
def b1 : Vec Ideal S512x2048 .f32 := X0_1 m c t
def b2 : Vec Ideal S512x2048 .f32 := X0_2 m c t
def b3 : Vec Ideal S1x512 .f32 := iblk m c 3 t
def b4 : Vec Ideal S1x512 .f32 := iblk m c 4 t

theorem small_toNat (n : ℕ) (hn : n < 4096) : (BitVec.ofNat 32 n).toNat = n := by
  rw [BitVec.toNat_ofNat, Nat.mod_eq_of_lt (by omega)]

theorem aidx (n : ℕ) (hn : n < 4) : (Scalar.addi 0#32 (BitVec.ofNat 32 n)).toNat = n := by
  show (0#32 + BitVec.ofNat 32 n).toNat = _
  rw [BitVec.toNat_add, BitVec.toNat_ofNat]
  show (0 + n % 2 ^ 32) % 2 ^ 32 = _
  omega

theorem gidx (n : ℕ) (hn : n < 4) : (Scalar.addi 4#32 (BitVec.ofNat 32 n)).toNat = 4 + n := by
  show (4#32 + BitVec.ofNat 32 n).toNat = _
  rw [BitVec.toNat_add, BitVec.toNat_ofNat]
  show (4 + n % 2 ^ 32) % 2 ^ 32 = _
  omega

/-- Where an entry of a grid point's block sits in the result. -/
theorem emb_at (C : Fin 4) (r : Fin 2048) (l : Fin 128) : (((cfg0.win 5).blk t).view.emb (ix3 C r l) : S16x8192x128.Idx) = ix3 (at_chunk t C) (at_row t r) l :=
  funext fun (a : Fin 3) => Fin.ext ((Window.rect_emb_val (cfg0.win 5) t (ix3 C r l) a).trans (by
    match a with
    | 0 =>
      show (BitVec.ofNat 32 (gj t).val).toNat * 4 + C.val = (gj t).val * 4 + C.val
      rw [small_toNat _ (by have := (gj t).isLt; omega)]
    | 1 =>
      show (BitVec.ofNat 32 (gi t).val).toNat * 2048 + r.val = (gi t).val * 2048 + r.val
      rw [small_toNat _ (by have := (gi t).isLt; omega)]
    | 2 => show 0 * 128 + l.val = l.val; omega))

theorem b0_at (r : Fin 2048) (k : Fin 2048) : b0 m c t (ix2 r k) = a0 m c (ix2 (at_row t r) k) :=
  (congrFun (V_main_arg0 m c) _).trans (congrArg (a0 m c) (funext fun (a : Fin 2) => Fin.ext ((Window.rect_emb_val (cfg0.win 0) t (ix2 r k) a).trans (by
    match a with
    | 0 =>
      show (BitVec.ofNat 32 (gi t).val).toNat * 2048 + r.val = (gi t).val * 2048 + r.val
      rw [small_toNat _ (by have := (gi t).isLt; omega)]
    | 1 => show 0 * 2048 + k.val = k.val; omega))))

theorem turned (w : Vec Ideal S2048x14352 .f32) (e : Fin 14352) (k : Fin 2048) :
    transpose S14352x2048 [1, 0] w transposes_S2048x14352_S14352x2048_1_0 (ix2 e k) = w (ix2 k e) := by
  pointwise []

theorem abias (b : Vec Ideal S14352 .f32) (j : Fin 2048) :
    shapeCast S1x2048 (extractStridedSlice S2048 ![0] b slices_S14352_S2048_0) shapeCasts_S2048_S1x2048 (ix2 0 j) = b (ix1 (acol j)) := by
  pointwise []
  first | done | rfl

theorem gbias (b : Vec Ideal S14352 .f32) (j : Fin 2048) :
    shapeCast S1x2048 (extractStridedSlice S2048 ![2048] b slices_S14352_S2048_2048) shapeCasts_S2048_S1x2048 (ix2 0 j) = b (ix1 (gcol j)) := by
  pointwise []
  first | done | rfl

theorem b1_at (j : Fin 512) (k : Fin 2048) : b1 m c t (ix2 j k) = a1 m c (ix2 k (acol (at_col t j))) := by
  unfold b1 X0_1 Window.fill
  rw [dif_pos (moved0_1 t _)]
  exact (congrFun (V_v0 m c) _).trans (Eq.trans (congrArg (a₂ := ix2 (acol (at_col t j)) k) _ (funext fun (a : Fin 2) => Fin.ext ((Window.rect_emb_val (cfg0.win 1) t _ a).trans (by
    match a with
    | 0 =>
      show (Scalar.addi 0#32 (BitVec.ofNat 32 (gj t).val)).toNat * 512 + j.val = (gj t).val * 512 + j.val
      rw [aidx _ (gj t).isLt]
    | 1 => show 0 * 2048 + k.val = k.val; omega)))) (turned (a1 m c) (acol (at_col t j)) k))

theorem b2_at (j : Fin 512) (k : Fin 2048) : b2 m c t (ix2 j k) = a1 m c (ix2 k (gcol (at_col t j))) := by
  unfold b2 X0_2 Window.fill
  rw [dif_pos (moved0_2 t _)]
  exact (congrFun (V_v0 m c) _).trans (Eq.trans (congrArg (a₂ := ix2 (gcol (at_col t j)) k) _ (funext fun (a : Fin 2) => Fin.ext ((Window.rect_emb_val (cfg0.win 2) t _ a).trans (by
    match a with
    | 0 =>
      show (Scalar.addi 4#32 (BitVec.ofNat 32 (gj t).val)).toNat * 512 + j.val = 2048 + ((gj t).val * 512 + j.val)
      rw [gidx _ (gj t).isLt]; omega
    | 1 => show 0 * 2048 + k.val = k.val; omega)))) (turned (a1 m c) (gcol (at_col t j)) k))

theorem b3_at (j : Fin 512) : b3 m c t (ix2 0 j) = a2 m c (ix1 (acol (at_col t j))) :=
  (congrFun (V_v2 m c) _).trans (Eq.trans (congrArg (a₂ := ix2 0 (at_col t j)) _ (funext fun (a : Fin 2) => Fin.ext ((Window.rect_emb_val (cfg0.win 3) t (ix2 0 j) a).trans (by
    match a with
    | 0 => show 0 * 1 + 0 = 0; omega
    | 1 =>
      show (BitVec.ofNat 32 (gj t).val).toNat * 512 + j.val = (gj t).val * 512 + j.val
      rw [small_toNat _ (by have := (gj t).isLt; omega)])))) (abias (a2 m c) (at_col t j)))

theorem b4_at (j : Fin 512) : b4 m c t (ix2 0 j) = a2 m c (ix1 (gcol (at_col t j))) :=
  (congrFun (V_v4 m c) _).trans (Eq.trans (congrArg (a₂ := ix2 0 (at_col t j)) _ (funext fun (a : Fin 2) => Fin.ext ((Window.rect_emb_val (cfg0.win 4) t (ix2 0 j) a).trans (by
    match a with
    | 0 => show 0 * 1 + 0 = 0; omega
    | 1 =>
      show (BitVec.ofNat 32 (gj t).val).toNat * 512 + j.val = (gj t).val * 512 + j.val
      rw [small_toNat _ (by have := (gj t).isLt; omega)])))) (gbias (a2 m c) (at_col t j)))

/-- What the result array is shown to hold. -/
def whole : Buf (Elt Ideal) ((c.tc : Thread nD τ).loc main_v5) :=
  fun y : S16x8192x128.Idx => Cert.Proj.lin (a0 m c) (a1 m c) (a2 m c) (y 1) (acol (chan (y 0) (y 2)))
    * Cert.Proj.sig (Cert.Proj.lin (a0 m c) (a1 m c) (a2 m c) (y 1) (gcol (chan (y 0) (y 2))))

theorem whole_at (C : Fin 16) (Q : Fin 8192) (l : Fin 128) : (whole m c : S16x8192x128.Idx → EReal) (ix3 C Q l)
    = Cert.Proj.lin (a0 m c) (a1 m c) (a2 m c) Q (acol (chan C l)) * Cert.Proj.sig (Cert.Proj.lin (a0 m c) (a1 m c) (a2 m c) Q (gcol (chan C l))) := rfl

/-- An entry of a grid point's block is the result's there. -/
theorem cell_at (C : Fin 4) (r : Fin 2048) (l : Fin 128) : cell (b0 m c t) (b1 m c t) (b2 m c t) (b3 m c t) (b4 m c t) r (lane C l)
    = (whole m c : S16x8192x128.Idx → EReal) (ix3 (at_chunk t C) (at_row t r) l) := by
  rw [whole_at, ← chan_at]
  unfold cell Cert.Proj.lin
  refine congrArg₂ (· * ·) (congrArg₂ (· + ·) (Finset.sum_congr rfl fun k _ => congrArg₂ (· * ·) ?_ ?_) ?_)
    (congrArg Cert.Proj.sig (congrArg₂ (· + ·) (Finset.sum_congr rfl fun k _ => congrArg₂ (· * ·) ?_ ?_) ?_))
  · exact b0_at m c t r k
  · exact b1_at m c t _ k
  · exact b3_at m c t _
  · exact b0_at m c t r k
  · exact b2_at m c t _ k
  · exact b4_at m c t _

/-- What a grid point leaves, named. -/
def left : Vec Ideal S4x2048x128 .f32 := out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (b0 m c t) (b1 m c t) (b2 m c t) (b3 m c t) (b4 m c t)

theorem after_left : (dats m 0 c).after 5 t = left m c t := after0_5 m c t

theorem left_cell (C : Fin 4) (r : Fin 2048) (l : Fin 128) : left m c t (ix3 C r l) = cell (b0 m c t) (b1 m c t) (b2 m c t) (b3 m c t) (b4 m c t) r (lane C l) := by
  unfold left
  exact left_at _ _ _ _ _ _ _ _ _ _ _ _ _ _ _ _ _ _ _ C r l

theorem left_emb (C : Fin 4) (r : Fin 2048) (l : Fin 128) : left m c t (ix3 C r l) = (whole m c : S16x8192x128.Idx → EReal) (((cfg0.win 5).blk t).view.emb (ix3 C r l)) :=
  (left_cell m c t C r l).trans ((cell_at m c t C r l).trans (congrArg (whole m c : S16x8192x128.Idx → EReal) (emb_at t C r l).symm))

theorem left_all (y : S4x2048x128.Idx) : left m c t y = (whole m c : S16x8192x128.Idx → EReal) (((cfg0.win 5).blk t).view.emb y) := by
  idx_vars y
  exact left_emb m c t y0 y1 y2

/-- What a grid point writes back is its block of the result. -/
theorem flushed_eq : (dats m 0 c).flushed 5 t = ((cfg0.win 5).blk t).view.read (Elt Ideal) (whole m c) := by
  show (cfg0.win 5).cut (grid0.coords t) ((dats m 0 c).after 5 t) = _
  rw [after_left]
  exact funext fun (y : S4x2048x128.Idx) => left_all m c t y

/-- Every pair of blocks has its grid point. -/
theorem point_of (i j : Fin 4) : ∃ t : Fin cfg0.N, gi t = i ∧ gj t = j := by
  have H : ∀ i j : Fin 4, ∃ t : Fin grid0.N, (grid0.coords t 0).val = i.val ∧ (grid0.coords t 1).val = j.val := by decide +kernel
  obtain ⟨t, h0, h1⟩ := H i j
  exact ⟨t, Fin.ext h0, Fin.ext h1⟩

/-- The blocks fill the result. -/
theorem cover (i : S16x8192x128.Idx) : ∃ t : Fin cfg0.N, (cfg0.win 5).flush t = true ∧ i ∈ ((cfg0.win 5).blk t).view.set := by
  idx_vars i
  obtain ⟨t, hi, hj⟩ := point_of ⟨i1.val / 2048, by omega⟩ ⟨i0.val / 4, by omega⟩
  have vi : (gi t).val = i1.val / 2048 := congrArg Fin.val hi
  have vj : (gj t).val = i0.val / 4 := congrArg Fin.val hj
  have e0 : at_chunk t ⟨i0.val % 4, Nat.mod_lt _ (by decide)⟩ = i0 := Fin.ext (by show (gj t).val * 4 + i0.val % 4 = i0.val; omega)
  have e1 : at_row t ⟨i1.val % 2048, Nat.mod_lt _ (by decide)⟩ = i1 := Fin.ext (by show (gi t).val * 2048 + i1.val % 2048 = i1.val; omega)
  have h := ((cfg0.win 5).blk t).view.emb_mem_set (ix3 (⟨i0.val % 4, Nat.mod_lt _ (by decide)⟩ : Fin 4) (⟨i1.val % 2048, Nat.mod_lt _ (by decide)⟩ : Fin 2048) i2)
  have h' := emb_at t ⟨i0.val % 4, Nat.mod_lt _ (by decide)⟩ ⟨i1.val % 2048, Nat.mod_lt _ (by decide)⟩ i2
  refine ⟨t, flush0_5 t, ?_⟩
  rw [e0, e1] at h'
  exact h' ▸ h

/-- The result array after the run. -/
theorem final : (dats m 0 c).arrAt 5 cfg0.N = whole m c :=
  (dats m 0 c).arrAt_eq_of_cover 5 (whole m c) (fun t _ => flushed_eq m c t) cover

end Cert.KernelGluIdeal.Glu
end
-- ==== Proof.GluRef.lean ====
/- The reference of the GLU, read at an index. -/
module

public import proofs.«01_k».proof.Proof.Gen.ReferenceGluIdeal.Run
public import proofs.«01_k».proof.Proof.ProjFn
public import Idealize.ShloMosaic.Lib.Pointwise

@[expose] public section

set_option maxRecDepth 16384

noncomputable section

namespace Cert.ReferenceGluIdeal.Glu

open Idealize.ShloMosaic Idealize.ShloMosaic.TcCoe Idealize.ShloMosaic.Tactic
open Cert.ReferenceGluIdeal Cert.ReferenceGluIdeal.Gen

/-- The projection, value and gate side by side. -/
def proj (x : FVec Ideal S8192x2048 .bf16) (w : FVec Ideal S2048x14352 .f32) (b : FVec Ideal S14352 .f32) : FVec Ideal S8192x4096 .f32 :=
  addf (Host.dotGeneral dot_S8192x2048_S2048x4096_S8192x4096_1_0_0_1_n_n none (extf .f32 x bitsLt_bf16_f32) (extractStridedSlice S2048x4096 ![0, 0] w slices_S2048x14352_S2048x4096_0_0)) (broadcastInDim S8192x4096 ![0, 1] bcast_S1x4096_S8192x4096_0_1 (broadcastInDim S1x4096 ![1] bcast_S4096_S1x4096_1 (extractStridedSlice S4096 ![0] b slices_S14352_S4096_0)))

/-- The value times the sigmoid of the gate. -/
def gated (z : FVec Ideal S8192x4096 .f32) : FVec Ideal S8192x2048 .f32 :=
  mulf (extractStridedSlice S8192x2048 ![0, 0] z slices_S8192x4096_S8192x2048_0_0) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 2048] z slices_S8192x4096_S8192x2048_0_2048)))))

/-- The channels in chunks of 128, chunks first. -/
def chunked (u : FVec Ideal S8192x2048 .f32) : FVec Ideal S16x8192x128 .f32 :=
  transpose S16x8192x128 [1, 0, 2] (shapeCast _ u shapeCasts_S8192x2048_S8192x16x128) transposes_S8192x16x128_S16x8192x128_1_0_2

theorem proj_at (x : FVec Ideal S8192x2048 .bf16) (w : FVec Ideal S2048x14352 .f32) (b : FVec Ideal S14352 .f32) (Q : Fin 8192) (j : Fin 4096) :
    proj x w b (ix2 Q j) = Cert.Proj.lin x w b Q ⟨j.val, by omega⟩ := by
  pointwise [proj]
  rfl

theorem gated_at (z : FVec Ideal S8192x4096 .f32) (Q : Fin 8192) (j : Fin 2048) :
    gated z (ix2 Q j) = z (ix2 Q ⟨j.val, by omega⟩) * Cert.Proj.sig (z (ix2 Q ⟨2048 + j.val, by omega⟩)) := by
  pointwise [gated]
  rw [← zero_sub]
  rfl

theorem chunked_at (u : FVec Ideal S8192x2048 .f32) (C : Fin 16) (Q : Fin 8192) (l : Fin 128) :
    chunked u (ix3 C Q l) = u (ix2 Q ⟨C.val * 128 + l.val, by omega⟩) := by
  pointwise [chunked]
  first | done | rfl

/-- The columns of the weights behind lane `l` of chunk `C`: the value's, the gate's. -/
def acol (C : Fin 16) (l : Fin 128) : Fin 14352 := ⟨C.val * 128 + l.val, by omega⟩
def gcol (C : Fin 16) (l : Fin 128) : Fin 14352 := ⟨2048 + (C.val * 128 + l.val), by omega⟩

/-- The reference's result at an index. -/
theorem ref_at (x : FVec Ideal S8192x2048 .bf16) (w : FVec Ideal S2048x14352 .f32) (b : FVec Ideal S14352 .f32) (C : Fin 16) (Q : Fin 8192) (l : Fin 128) :
    chunked (gated (proj x w b)) (ix3 C Q l) = Cert.Proj.lin x w b Q (acol C l) * Cert.Proj.sig (Cert.Proj.lin x w b Q (gcol C l)) := by
  rw [chunked_at, gated_at, proj_at, proj_at]
  rfl

variable (m : (ℓ : Loc nD τ sig) → Buf (Elt Ideal) ℓ) (c : Dev nD)

/-- The reference's result, whole. -/
theorem ref_whole : (chunked (gated (proj (m ((c.tc : Thread nD τ).loc main_arg0)) (m ((c.tc : Thread nD τ).loc main_arg1)) (m ((c.tc : Thread nD τ).loc main_arg2)))) : S16x8192x128.Idx → EReal)
    = fun y : S16x8192x128.Idx => Cert.Proj.lin (m ((c.tc : Thread nD τ).loc main_arg0)) (m ((c.tc : Thread nD τ).loc main_arg1)) (m ((c.tc : Thread nD τ).loc main_arg2)) (y 1) (acol (y 0) (y 2)) * Cert.Proj.sig (Cert.Proj.lin (m ((c.tc : Thread nD τ).loc main_arg0)) (m ((c.tc : Thread nD τ).loc main_arg1)) (m ((c.tc : Thread nD τ).loc main_arg2)) (y 1) (gcol (y 0) (y 2))) := by
  refine funext fun (y : S16x8192x128.Idx) => ?_
  idx_vars y
  exact ref_at (m ((c.tc : Thread nD τ).loc main_arg0)) (m ((c.tc : Thread nD τ).loc main_arg1)) (m ((c.tc : Thread nD τ).loc main_arg2)) y0 y1 y2

/-- Equal arguments give equal results. -/
theorem same_args {a0 b0 : Cert.Proj.X} {a1 b1 : Cert.Proj.W} {a2 b2 : Cert.Proj.B} (h0 : a0 = b0) (h1 : a1 = b1) (h2 : a2 = b2) :
    (fun y : (⟨3, ![16, 8192, 128]⟩ : Shape).Idx => Cert.Proj.lin a0 a1 a2 (y 1) (acol (y 0) (y 2)) * Cert.Proj.sig (Cert.Proj.lin a0 a1 a2 (y 1) (gcol (y 0) (y 2))))
      = fun y => Cert.Proj.lin b0 b1 b2 (y 1) (acol (y 0) (y 2)) * Cert.Proj.sig (Cert.Proj.lin b0 b1 b2 (y 1) (gcol (y 0) (y 2))) := by
  rw [h0, h1, h2]

end Cert.ReferenceGluIdeal.Glu
end
-- ==== Proof.GcVal.lean ====
/- The convolution's gate: what the stores of a block write, and the block they leave. -/
module

public import proofs.«01_k».proof.Proof.Gen.KernelGcIdeal.Value
public import proofs.«01_k».proof.Proof.ProjFn
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.KernelGcIdeal.Gc

open Idealize.ShloMosaic Idealize.ShloMosaic.TcCoe Idealize.ShloMosaic.Tactic
open Idealize.ShloMosaic.Pipeline (Dat Cfg Window)
open Cert.KernelGcIdeal Cert.KernelGcIdeal.Gen

/-- An entry of a block: the gate's function of a row of inputs against a row of weights, plus the bias. -/
def cell (x0 : Vec Ideal S2048x2048 .bf16) (x1 : Vec Ideal S512x2048 .f32) (x2 : Vec Ideal S1x512 .f32) (r : Fin 2048) (j : Fin 512) : EReal :=
  Cert.Proj.silu (∑ k : Fin 2048, x0 (ix2 r k) * x1 (ix2 j k) + x2 (ix2 0 j))

section Payloads
variable (v0 : Vec Ideal S512x2048 .f32) (v3 : Vec Ideal S256x2048 .bf16) (v5 : Vec Ideal S1x512 .f32) (r : Fin 256) (j : Fin 512)

/-- The same of one store of 256 rows. -/
def part : EReal := Cert.Proj.silu (∑ k : Fin 2048, v3 (ix2 r k) * v0 (ix2 j k) + v5 (ix2 0 j))

theorem part0 : k0_pay4 (F := Ideal) v0 v3 v5 (ix2 r j) = part v0 v3 v5 r j := by
  pointwise [k0_pay4, k0_pay3]
  rfl
theorem part1 : k0_pay5 (F := Ideal) v0 v3 v5 (ix2 r j) = part v0 v3 v5 r j := by
  pointwise [k0_pay5, k0_pay3]
  rfl
theorem part2 : k0_pay6 (F := Ideal) (k0_pay3 v0) v3 v5 (ix2 r j) = part v0 v3 v5 r j := by
  pointwise [k0_pay6, k0_pay3]
  rfl
theorem part3 : k0_pay7 (F := Ideal) (k0_pay3 v0) v3 v5 (ix2 r j) = part v0 v3 v5 r j := by
  pointwise [k0_pay7, k0_pay3]
  rfl
theorem part4 : k0_pay10 (F := Ideal) (k0_pay8 (k0_pay3 v0) v3) (k0_pay9 v5) (ix2 r j) = part v0 v3 v5 r j := by
  pointwise [k0_pay10, k0_pay9, k0_pay8, k0_pay3]
  rfl
theorem part5 : k0_pay11 (F := Ideal) (k0_pay3 v0) v3 v5 (ix2 r j) = part v0 v3 v5 r j := by
  pointwise [k0_pay11, k0_pay3]
  rfl
theorem part6 : k0_pay1 (F := Ideal) (k0_pay12 (k0_pay3 v0) v3 v5) (k0_pay13 (k0_pay3 v0) v3 v5) (k0_pay14 (F := Ideal)) (ix2 r j) = part v0 v3 v5 r j := by
  pointwise [k0_pay1, k0_pay14, k0_pay13, k0_pay12, k0_pay3]
  rfl
theorem part7 : k0_pay2 (F := Ideal) (k0_pay3 v0) v3 v5 (ix2 r j) = part v0 v3 v5 r j := by
  pointwise [k0_pay2, k0_pay3]
  rfl

end Payloads

/-- A load of 256 rows. -/
theorem ld_rows (X : Vec Ideal S2048x2048 .bf16) (o : ℕ) (h : ∀ a, (![o, 0] : Fin 2 → ℕ) a + S256x2048.size a ≤ S2048x2048.size a) (r : Fin 256) (k : Fin 2048) (hb : o + r.val < 2048) :
    View.ld X (Rect.unit (s := S2048x2048) ![o, 0] S256x2048.size h) (ix2 r k) = X (ix2 ⟨o + r.val, hb⟩ k) :=
  congrArg X (funext fun (a : Fin 2) => Fin.ext (by
    match a with
    | 0 => show o + 1 * r.val = o + r.val; omega
    | 1 => show 0 + 1 * k.val = k.val; omega))

/-- A load of the block of weights. -/
theorem ld_w (X : Vec Ideal S512x2048 .f32) (h : ∀ a, (![0, 0] : Fin 2 → ℕ) a + S512x2048.size a ≤ S512x2048.size a) (j : Fin 512) (k : Fin 2048) :
    View.ld X (Rect.unit (s := S512x2048) ![0, 0] S512x2048.size h) (ix2 j k) = X (ix2 j k) :=
  congrArg X (funext fun (a : Fin 2) => Fin.ext (by
    match a with
    | 0 => show 0 + 1 * j.val = j.val; omega
    | 1 => show 0 + 1 * k.val = k.val; omega))

/-- A load of the block of biases. -/
theorem ld_b (X : Vec Ideal S1x512 .f32) (h : ∀ a, (![0, 0] : Fin 2 → ℕ) a + S1x512.size a ≤ S1x512.size a) (j : Fin 512) :
    View.ld X (Rect.unit (s := S1x512) ![0, 0] S1x512.size h) (ix2 0 j) = X (ix2 0 j) :=
  congrArg X (funext fun (a : Fin 2) => Fin.ext (by
    match a with
    | 0 => show 0 + 1 * 0 = 0; omega
    | 1 => show 0 + 1 * j.val = j.val; omega))

/-- One store's entries are the block's. -/
theorem part_cell (x0 : Vec Ideal S2048x2048 .bf16) (x1 : Vec Ideal S512x2048 .f32) (x2 : Vec Ideal S1x512 .f32) (o : ℕ) (h0 h1 h2) (r : Fin 256) (j : Fin 512) (R : Fin 2048) (J : Fin 512)
    (hr : R.val = o + r.val) (hj : J.val = 0 + j.val) :
    part (View.ld x1 (Rect.unit (s := S512x2048) ![0, 0] S512x2048.size h1)) (View.ld x0 (Rect.unit (s := S2048x2048) ![o, 0] S256x2048.size h0))
      (View.ld x2 (Rect.unit (s := S1x512) ![0, 0] S1x512.size h2)) r j = cell x0 x1 x2 R J := by
  obtain rfl : J = j := Fin.ext (hj.trans (Nat.zero_add _))
  have hb : o + r.val < 2048 := hr ▸ R.isLt
  obtain rfl : R = ⟨o + r.val, hb⟩ := Fin.ext hr
  unfold part cell
  refine congrArg Cert.Proj.silu (congrArg₂ (· + ·) (Finset.sum_congr rfl fun k _ => congrArg₂ (· * ·) ?_ ?_) ?_)
  · exact ld_rows x0 o h0 r k hb
  · exact ld_w x1 h1 J k
  · exact ld_b x2 h2 J

/-- A store that writes `part` leaves `cell` under its rows. -/
theorem at_part (A : Vec Ideal S2048x2048 .bf16) (B : Vec Ideal S512x2048 .f32) (C : Vec Ideal S1x512 .f32) (o : ℕ) (h0 h1 h2)
    (w : Vec Ideal S512x2048 .f32 → Vec Ideal S256x2048 .bf16 → Vec Ideal S1x512 .f32 → Vec Ideal S256x512 .f32)
    (hw : ∀ v0 v3 v5 r j, w v0 v3 v5 (ix2 r j) = part v0 v3 v5 r j) (R : Fin 2048) (J : Fin 512) (x : S256x512.Idx)
    (hx : ∀ a : Fin 2, ((ix2 R J : S2048x512.Idx) a : ℕ) = (![o, 0] : Fin 2 → ℕ) a + x a) :
    w (View.ld B (Rect.unit (s := S512x2048) ![0, 0] S512x2048.size h1)) (View.ld A (Rect.unit (s := S2048x2048) ![o, 0] S256x2048.size h0))
      (View.ld C (Rect.unit (s := S1x512) ![0, 0] S1x512.size h2)) x = cell A B C R J := by
  idx_vars x
  exact (hw _ _ _ x0 x1).trans (part_cell A B C o h0 h1 h2 _ _ R J (hx 0) (hx 1))

/-- The block the stores leave. -/
theorem left_at (c : Dev nD) (i : grid0.Coords) (arg2 : Memref sig .tc .vmem S2048x2048 .bf16) (harg2 : arg2.IsWhole) (arg3 : Memref sig .tc .vmem S512x2048 .f32) (harg3 : arg3.IsWhole) (arg4 : Memref sig .tc .vmem S1x512 .f32) (harg4 : arg4.IsWhole)
    (arg5 : Memref sig .tc .vmem S2048x512 .f32) (harg5 : arg5.IsWhole) (x0 : Vec Ideal S2048x2048 .bf16) (x1 : Vec Ideal S512x2048 .f32) (x2 : Vec Ideal S1x512 .f32) (r : Fin 2048) (j : Fin 512) :
    out0_A_3 c i arg2 harg2 arg3 harg3 arg4 harg4 arg5 harg5 x0 x1 x2 (ix2 r j) = cell x0 x1 x2 r j := by
  unfold out0_A_3
  rw [View.read_writes_eq_canon _ _ _ (cover0_A_3 c i arg2 harg2 arg3 harg3 arg4 harg4 arg5 harg5 x0 x1 x2)]
  unfold kernelRun0_A
  dsimp only
  sl_unfold_words
  simp only [View.readAt_eq_ld, harg2.read_unread, harg3.read_unread, harg4.read_unread]
  refine View.canon_eq_of_allAt _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))))))
  · refine View.cover_of_tiled (s := S2048x512) _ S256x512.size ?_ _
    rfl
  · exact fun (x : S256x512.Idx) hx => at_part x0 x1 x2 1792 _ _ _ (fun v0 v3 v5 => k0_pay2 (F := Ideal) (k0_pay3 v0) v3 v5) part7 r j x hx
  · exact fun (x : S256x512.Idx) hx => at_part x0 x1 x2 1536 _ _ _ (fun v0 v3 v5 => k0_pay1 (F := Ideal) (k0_pay12 (k0_pay3 v0) v3 v5) (k0_pay13 (k0_pay3 v0) v3 v5) (k0_pay14 (F := Ideal))) part6 r j x hx
  · exact fun (x : S256x512.Idx) hx => at_part x0 x1 x2 1280 _ _ _ (fun v0 v3 v5 => k0_pay11 (F := Ideal) (k0_pay3 v0) v3 v5) part5 r j x hx
  · exact fun (x : S256x512.Idx) hx => at_part x0 x1 x2 1024 _ _ _ (fun v0 v3 v5 => k0_pay10 (F := Ideal) (k0_pay8 (k0_pay3 v0) v3) (k0_pay9 v5)) part4 r j x hx
  · exact fun (x : S256x512.Idx) hx => at_part x0 x1 x2 768 _ _ _ (fun v0 v3 v5 => k0_pay7 (F := Ideal) (k0_pay3 v0) v3 v5) part3 r j x hx
  · exact fun (x : S256x512.Idx) hx => at_part x0 x1 x2 512 _ _ _ (fun v0 v3 v5 => k0_pay6 (F := Ideal) (k0_pay3 v0) v3 v5) part2 r j x hx
  · exact fun (x : S256x512.Idx) hx => at_part x0 x1 x2 256 _ _ _ (fun v0 v3 v5 => k0_pay5 (F := Ideal) v0 v3 v5) part1 r j x hx
  · exact fun (x : S256x512.Idx) hx => at_part x0 x1 x2 0 _ _ _ (fun v0 v3 v5 => k0_pay4 (F := Ideal) v0 v3 v5) part0 r j x hx

end Cert.KernelGcIdeal.Gc
end
-- ==== Proof.GcArr.lean ====
/- The array the convolution's gate leaves: entry by entry the gate of the projection. -/
module

public import proofs.«01_k».proof.Proof.GcVal
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.KernelGcIdeal.Gc

open Idealize.ShloMosaic Idealize.ShloMosaic.TcCoe Idealize.ShloMosaic.Tactic
open Idealize.ShloMosaic.Pipeline (Dat Cfg Window)
open Cert.KernelGcIdeal Cert.KernelGcIdeal.Gen

variable (m : (ℓ : Loc nD τ sig) → Buf (Elt Ideal) ℓ) (c : Dev nD) (t : Fin cfg0.N)

abbrev a0 : Cert.Proj.X := m ((c.tc : Thread nD τ).loc main_arg0)
abbrev a1 : Cert.Proj.W := m ((c.tc : Thread nD τ).loc main_arg1)
abbrev a2 : Cert.Proj.B := m ((c.tc : Thread nD τ).loc main_arg2)

theorem V_v0 : V m c main_v0 = transpose S14352x2048 [1, 0] (m ((c.tc : Thread nD τ).loc main_arg1)) transposes_S2048x14352_S14352x2048_1_0 := by
  show StableHlo.after hostOps0 (fun b => m (c, b)) (Proc.devRef .tc main_v0) = _
  after_results_simp <;> rfl
theorem V_v2 : V m c main_v2 = shapeCast S1x2048 (extractStridedSlice S2048 ![4096] (m ((c.tc : Thread nD τ).loc main_arg2)) slices_S14352_S2048_4096) shapeCasts_S2048_S1x2048 := by
  show StableHlo.after hostOps0 (fun b => m (c, b)) (Proc.devRef .tc main_v2) = _
  after_results_simp <;> rfl

/-- A grid point's block of rows. -/
abbrev gi : Fin 4 := grid0.coords t 0
/-- A grid point's block of columns. -/
abbrev gj : Fin 4 := grid0.coords t 1

/-- The row of the arrays a row of a grid point's block is. -/
def at_row (r : Fin 2048) : Fin 8192 := ⟨(gi t).val * 2048 + r.val, by have := (gi t).isLt; omega⟩
/-- The column of the result a column of a grid point's block is. -/
def at_col (j : Fin 512) : Fin 2048 := ⟨(gj t).val * 512 + j.val, by have := (gj t).isLt; omega⟩
/-- The column of the weights behind a column of the result. -/
def wcol (j : Fin 2048) : Fin 14352 := ⟨4096 + j.val, by omega⟩

def b0 : Vec Ideal S2048x2048 .bf16 := iblk m c 0 t
def b1 : Vec Ideal S512x2048 .f32 := X0_1 m c t
def b2 : Vec Ideal S1x512 .f32 := iblk m c 2 t

theorem small_toNat (n : ℕ) (hn : n < 4096) : (BitVec.ofNat 32 n).toNat = n := by
  rw [BitVec.toNat_ofNat, Nat.mod_eq_of_lt (by omega)]

theorem widx (n : ℕ) (hn : n < 4) : (Scalar.addi 8#32 (BitVec.ofNat 32 n)).toNat = 8 + n := by
  show (8#32 + BitVec.ofNat 32 n).toNat = _
  rw [BitVec.toNat_add, BitVec.toNat_ofNat]
  show (8 + n % 2 ^ 32) % 2 ^ 32 = _
  omega

/-- Where an entry of a grid point's block sits in the result. -/
theorem emb_at (r : Fin 2048) (j : Fin 512) : (((cfg0.win 3).blk t).view.emb (ix2 r j) : S8192x2048.Idx) = ix2 (at_row t r) (at_col t j) :=
  funext fun (a : Fin 2) => Fin.ext ((Window.rect_emb_val (cfg0.win 3) t (ix2 r j) a).trans (by
    match a with
    | 0 =>
      show (BitVec.ofNat 32 (gi t).val).toNat * 2048 + r.val = (gi t).val * 2048 + r.val
      rw [small_toNat _ (by have := (gi t).isLt; omega)]
    | 1 =>
      show (BitVec.ofNat 32 (gj t).val).toNat * 512 + j.val = (gj t).val * 512 + j.val
      rw [small_toNat _ (by have := (gj t).isLt; omega)]))

theorem b0_at (r : Fin 2048) (k : Fin 2048) : b0 m c t (ix2 r k) = a0 m c (ix2 (at_row t r) k) :=
  (congrFun (V_main_arg0 m c) _).trans (congrArg (a0 m c) (funext fun (a : Fin 2) => Fin.ext ((Window.rect_emb_val (cfg0.win 0) t (ix2 r k) a).trans (by
    match a with
    | 0 =>
      show (BitVec.ofNat 32 (gi t).val).toNat * 2048 + r.val = (gi t).val * 2048 + r.val
      rw [small_toNat _ (by have := (gi t).isLt; omega)]
    | 1 => show 0 * 2048 + k.val = k.val; omega))))

theorem turned (w : Vec Ideal S2048x14352 .f32) (e : Fin 14352) (k : Fin 2048) :
    transpose S14352x2048 [1, 0] w transposes_S2048x14352_S14352x2048_1_0 (ix2 e k) = w (ix2 k e) := by
  pointwise []

theorem biased (b : Vec Ideal S14352 .f32) (j : Fin 2048) :
    shapeCast S1x2048 (extractStridedSlice S2048 ![4096] b slices_S14352_S2048_4096) shapeCasts_S2048_S1x2048 (ix2 0 j) = b (ix1 (wcol j)) := by
  pointwise []
  first | done | rfl

theorem b1_at (j : Fin 512) (k : Fin 2048) : b1 m c t (ix2 j k) = a1 m c (ix2 k (wcol (at_col t j))) := by
  unfold b1 X0_1 Window.fill
  rw [dif_pos (moved0_1 t _)]
  exact (congrFun (V_v0 m c) _).trans (Eq.trans (congrArg (a₂ := ix2 (wcol (at_col t j)) k) _ (funext fun (a : Fin 2) => Fin.ext ((Window.rect_emb_val (cfg0.win 1) t _ a).trans (by
    match a with
    | 0 =>
      show (Scalar.addi 8#32 (BitVec.ofNat 32 (gj t).val)).toNat * 512 + j.val = 4096 + ((gj t).val * 512 + j.val)
      rw [widx _ (gj t).isLt]; omega
    | 1 => show 0 * 2048 + k.val = k.val; omega)))) (turned (a1 m c) (wcol (at_col t j)) k))

theorem b2_at (j : Fin 512) : b2 m c t (ix2 0 j) = a2 m c (ix1 (wcol (at_col t j))) :=
  (congrFun (V_v2 m c) _).trans (Eq.trans (congrArg (a₂ := ix2 0 (at_col t j)) _ (funext fun (a : Fin 2) => Fin.ext ((Window.rect_emb_val (cfg0.win 2) t (ix2 0 j) a).trans (by
    match a with
    | 0 => show 0 * 1 + 0 = 0; omega
    | 1 =>
      show (BitVec.ofNat 32 (gj t).val).toNat * 512 + j.val = (gj t).val * 512 + j.val
      rw [small_toNat _ (by have := (gj t).isLt; omega)])))) (biased (a2 m c) (at_col t j)))

/-- What the result array is shown to hold. -/
def whole : Buf (Elt Ideal) ((c.tc : Thread nD τ).loc main_v3) :=
  fun y : S8192x2048.Idx => Cert.Proj.silu (Cert.Proj.lin (a0 m c) (a1 m c) (a2 m c) (y 0) (wcol (y 1)))

theorem whole_at (Q : Fin 8192) (j : Fin 2048) : (whole m c : S8192x2048.Idx → EReal) (ix2 Q j)
    = Cert.Proj.silu (Cert.Proj.lin (a0 m c) (a1 m c) (a2 m c) Q (wcol j)) := rfl

/-- An entry of a grid point's block is the gate there. -/
theorem cell_at (r : Fin 2048) (j : Fin 512) : cell (b0 m c t) (b1 m c t) (b2 m c t) r j = (whole m c : S8192x2048.Idx → EReal) (ix2 (at_row t r) (at_col t j)) := by
  rw [whole_at]
  unfold cell Cert.Proj.lin
  refine congrArg Cert.Proj.silu (congrArg₂ (· + ·) (Finset.sum_congr rfl fun k _ => congrArg₂ (· * ·) ?_ ?_) ?_)
  · exact b0_at m c t r k
  · exact b1_at m c t j k
  · exact b2_at m c t j

/-- What a grid point leaves, named. -/
def left : Vec Ideal S2048x512 .f32 := out0_A_3 c (grid0.coords t) (ms0_0 t) (hs0_0 t) (ms0_1 t) (hs0_1 t) (ms0_2 t) (hs0_2 t) (ms0_3 t) (hs0_3 t) (b0 m c t) (b1 m c t) (b2 m c t)

theorem after_left : (dats m 0 c).after 3 t = left m c t := after0_3 m c t

theorem left_cell (r : Fin 2048) (j : Fin 512) : left m c t (ix2 r j) = cell (b0 m c t) (b1 m c t) (b2 m c t) r j := by
  unfold left
  exact left_at _ _ _ _ _ _ _ _ _ _ _ _ _ r j

theorem left_emb (r : Fin 2048) (j : Fin 512) : left m c t (ix2 r j) = (whole m c : S8192x2048.Idx → EReal) (((cfg0.win 3).blk t).view.emb (ix2 r j)) :=
  (left_cell m c t r j).trans ((cell_at m c t r j).trans (congrArg (whole m c : S8192x2048.Idx → EReal) (emb_at t r j).symm))

theorem left_all (y : S2048x512.Idx) : left m c t y = (whole m c : S8192x2048.Idx → EReal) (((cfg0.win 3).blk t).view.emb y) := by
  idx_vars y
  exact left_emb m c t y0 y1

/-- What a grid point writes back is its block of the result. -/
theorem flushed_eq : (dats m 0 c).flushed 3 t = ((cfg0.win 3).blk t).view.read (Elt Ideal) (whole m c) := by
  show (cfg0.win 3).cut (grid0.coords t) ((dats m 0 c).after 3 t) = _
  rw [after_left]
  exact funext fun (y : S2048x512.Idx) => left_all m c t y

/-- Every pair of blocks has its grid point. -/
theorem point_of (i j : Fin 4) : ∃ t : Fin cfg0.N, gi t = i ∧ gj t = j := by
  have H : ∀ i j : Fin 4, ∃ t : Fin grid0.N, (grid0.coords t 0).val = i.val ∧ (grid0.coords t 1).val = j.val := by decide +kernel
  obtain ⟨t, h0, h1⟩ := H i j
  exact ⟨t, Fin.ext h0, Fin.ext h1⟩

/-- The blocks fill the result. -/
theorem cover (i : S8192x2048.Idx) : ∃ t : Fin cfg0.N, (cfg0.win 3).flush t = true ∧ i ∈ ((cfg0.win 3).blk t).view.set := by
  idx_vars i
  obtain ⟨t, hi, hj⟩ := point_of ⟨i0.val / 2048, by omega⟩ ⟨i1.val / 512, by omega⟩
  have vi : (gi t).val = i0.val / 2048 := congrArg Fin.val hi
  have vj : (gj t).val = i1.val / 512 := congrArg Fin.val hj
  have e0 : at_row t ⟨i0.val % 2048, Nat.mod_lt _ (by decide)⟩ = i0 := Fin.ext (by show (gi t).val * 2048 + i0.val % 2048 = i0.val; omega)
  have e1 : at_col t ⟨i1.val % 512, Nat.mod_lt _ (by decide)⟩ = i1 := Fin.ext (by show (gj t).val * 512 + i1.val % 512 = i1.val; omega)
  have h := ((cfg0.win 3).blk t).view.emb_mem_set (ix2 (⟨i0.val % 2048, Nat.mod_lt _ (by decide)⟩ : Fin 2048) (⟨i1.val % 512, Nat.mod_lt _ (by decide)⟩ : Fin 512))
  have h' := emb_at t ⟨i0.val % 2048, Nat.mod_lt _ (by decide)⟩ ⟨i1.val % 512, Nat.mod_lt _ (by decide)⟩
  refine ⟨t, flush0_3 t, ?_⟩
  rw [e0, e1] at h'
  exact h' ▸ h

/-- The result array after the run. -/
theorem final : (dats m 0 c).arrAt 3 cfg0.N = whole m c :=
  (dats m 0 c).arrAt_eq_of_cover 3 (whole m c) (fun t _ => flushed_eq m c t) cover

end Cert.KernelGcIdeal.Gc
end
-- ==== Proof.GcRef.lean ====
/- The reference of the convolution's gate, read at an index. -/
module

public import proofs.«01_k».proof.Proof.Gen.ReferenceGcIdeal.Run
public import proofs.«01_k».proof.Proof.ProjFn
public import Idealize.ShloMosaic.Lib.Pointwise

@[expose] public section

set_option maxRecDepth 16384

noncomputable section

namespace Cert.ReferenceGcIdeal.Gc

open Idealize.ShloMosaic Idealize.ShloMosaic.TcCoe Idealize.ShloMosaic.Tactic
open Cert.ReferenceGcIdeal Cert.ReferenceGcIdeal.Gen

/-- The projection. -/
def proj (x : FVec Ideal S8192x2048 .bf16) (w : FVec Ideal S2048x14352 .f32) (b : FVec Ideal S14352 .f32) : FVec Ideal S8192x2048 .f32 :=
  addf (Host.dotGeneral dot_S8192x2048_S2048x2048_S8192x2048_1_0_0_1_n_n none (extf .f32 x bitsLt_bf16_f32) (extractStridedSlice S2048x2048 ![0, 4096] w slices_S2048x14352_S2048x2048_0_4096)) (broadcastInDim S8192x2048 ![0, 1] bcast_S1x2048_S8192x2048_0_1 (broadcastInDim S1x2048 ![1] bcast_S2048_S1x2048_1 (extractStridedSlice S2048 ![4096] b slices_S14352_S2048_4096)))

/-- The gate's function, entry by entry. -/
def gated (z : FVec Ideal S8192x2048 .f32) : FVec Ideal S8192x2048 .f32 :=
  mulf z (Host.divf (broadcastInDim S8192x2048 ![] bcast_S_S8192x2048 (constant S_ .f32 0x3F800000#32)) (addf (broadcastInDim S8192x2048 ![] bcast_S_S8192x2048 (constant S_ .f32 0x3F800000#32)) (Host.exp (Host.negf z))))

theorem proj_at (x : FVec Ideal S8192x2048 .bf16) (w : FVec Ideal S2048x14352 .f32) (b : FVec Ideal S14352 .f32) (Q : Fin 8192) (j : Fin 2048) :
    proj x w b (ix2 Q j) = Cert.Proj.lin x w b Q ⟨4096 + j.val, by omega⟩ := by
  pointwise [proj]
  rfl

theorem gated_at (z : FVec Ideal S8192x2048 .f32) (Q : Fin 8192) (j : Fin 2048) : gated z (ix2 Q j) = Cert.Proj.silu (z (ix2 Q j)) := by
  pointwise [gated]
  rw [← zero_sub]
  rfl

/-- The reference's result at an index. -/
theorem ref_at (x : FVec Ideal S8192x2048 .bf16) (w : FVec Ideal S2048x14352 .f32) (b : FVec Ideal S14352 .f32) (Q : Fin 8192) (j : Fin 2048) :
    gated (proj x w b) (ix2 Q j) = Cert.Proj.silu (Cert.Proj.lin x w b Q ⟨4096 + j.val, by omega⟩) := by
  rw [gated_at, proj_at]

variable (m : (ℓ : Loc nD τ sig) → Buf (Elt Ideal) ℓ) (c : Dev nD)

/-- The reference's result, whole. -/
theorem ref_whole : (gated (proj (m ((c.tc : Thread nD τ).loc main_arg0)) (m ((c.tc : Thread nD τ).loc main_arg1)) (m ((c.tc : Thread nD τ).loc main_arg2))) : S8192x2048.Idx → EReal)
    = fun y : S8192x2048.Idx => Cert.Proj.silu (Cert.Proj.lin (m ((c.tc : Thread nD τ).loc main_arg0)) (m ((c.tc : Thread nD τ).loc main_arg1)) (m ((c.tc : Thread nD τ).loc main_arg2)) (y 0) ⟨4096 + (y 1).val, Nat.lt_of_lt_of_le (Nat.add_lt_add_left (y 1).isLt 4096) (by decide)⟩) := by
  refine funext fun (y : S8192x2048.Idx) => ?_
  idx_vars y
  exact ref_at (m ((c.tc : Thread nD τ).loc main_arg0)) (m ((c.tc : Thread nD τ).loc main_arg1)) (m ((c.tc : Thread nD τ).loc main_arg2)) y0 y1

/-- Equal arguments give equal results. -/
theorem same_args {a0 b0 : Cert.Proj.X} {a1 b1 : Cert.Proj.W} {a2 b2 : Cert.Proj.B} (h0 : a0 = b0) (h1 : a1 = b1) (h2 : a2 = b2) :
    (fun y : (⟨2, ![8192, 2048]⟩ : Shape).Idx => Cert.Proj.silu (Cert.Proj.lin a0 a1 a2 (y 0) ⟨4096 + (y 1).val, Nat.lt_of_lt_of_le (Nat.add_lt_add_left (y 1).isLt 4096) (by decide)⟩))
      = fun y => Cert.Proj.silu (Cert.Proj.lin b0 b1 b2 (y 0) ⟨4096 + (y 1).val, Nat.lt_of_lt_of_le (Nat.add_lt_add_left (y 1).isLt 4096) (by decide)⟩) := by
  rw [h0, h1, h2]

end Cert.ReferenceGcIdeal.Gc
end
-- ==== Proof.GaVal.lean ====
/- The attention's gate: what the stores of a block write, and the block they leave. -/
module

public import proofs.«01_k».proof.Proof.Gen.KernelGaIdeal.Value
public import proofs.«01_k».proof.Proof.ProjFn
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.KernelGaIdeal.Ga

open Idealize.ShloMosaic Idealize.ShloMosaic.TcCoe Idealize.ShloMosaic.Tactic
open Idealize.ShloMosaic.Pipeline (Dat Cfg Window)
open Cert.KernelGaIdeal Cert.KernelGaIdeal.Gen

/-- An entry of a block: the gate's function of a row of inputs against a row of weights, plus the bias. -/
def cell (x0 : Vec Ideal S2048x2048 .bf16) (x1 : Vec Ideal S512x2048 .f32) (x2 : Vec Ideal S1x512 .f32) (r : Fin 2048) (j : Fin 512) : EReal :=
  Cert.Proj.silu (∑ k : Fin 2048, x0 (ix2 r k) * x1 (ix2 j k) + x2 (ix2 0 j))

section Payloads
variable (v0 : Vec Ideal S512x2048 .f32) (v3 : Vec Ideal S256x2048 .bf16) (v5 : Vec Ideal S1x512 .f32) (r : Fin 256) (j : Fin 512)

/-- The same of one store of 256 rows. -/
def part : EReal := Cert.Proj.silu (∑ k : Fin 2048, v3 (ix2 r k) * v0 (ix2 j k) + v5 (ix2 0 j))

theorem part0 : k0_pay4 (F := Ideal) v0 v3 v5 (ix2 r j) = part v0 v3 v5 r j := by
  pointwise [k0_pay4, k0_pay3]
  rfl
theorem part1 : k0_pay5 (F := Ideal) v0 v3 v5 (ix2 r j) = part v0 v3 v5 r j := by
  pointwise [k0_pay5, k0_pay3]
  rfl
theorem part2 : k0_pay6 (F := Ideal) (k0_pay3 v0) v3 v5 (ix2 r j) = part v0 v3 v5 r j := by
  pointwise [k0_pay6, k0_pay3]
  rfl
theorem part3 : k0_pay7 (F := Ideal) (k0_pay3 v0) v3 v5 (ix2 r j) = part v0 v3 v5 r j := by
  pointwise [k0_pay7, k0_pay3]
  rfl
theorem part4 : k0_pay10 (F := Ideal) (k0_pay8 (k0_pay3 v0) v3) (k0_pay9 v5) (ix2 r j) = part v0 v3 v5 r j := by
  pointwise [k0_pay10, k0_pay9, k0_pay8, k0_pay3]
  rfl
theorem part5 : k0_pay11 (F := Ideal) (k0_pay3 v0) v3 v5 (ix2 r j) = part v0 v3 v5 r j := by
  pointwise [k0_pay11, k0_pay3]
  rfl
theorem part6 : k0_pay1 (F := Ideal) (k0_pay12 (k0_pay3 v0) v3 v5) (k0_pay13 (k0_pay3 v0) v3 v5) (k0_pay14 (F := Ideal)) (ix2 r j) = part v0 v3 v5 r j := by
  pointwise [k0_pay1, k0_pay14, k0_pay13, k0_pay12, k0_pay3]
  rfl
theorem part7 : k0_pay2 (F := Ideal) (k0_pay3 v0) v3 v5 (ix2 r j) = part v0 v3 v5 r j := by
  pointwise [k0_pay2, k0_pay3]
  rfl

end Payloads

/-- A load of 256 rows. -/
theorem ld_rows (X : Vec Ideal S2048x2048 .bf16) (o : ℕ) (h : ∀ a, (![o, 0] : Fin 2 → ℕ) a + S256x2048.size a ≤ S2048x2048.size a) (r : Fin 256) (k : Fin 2048) (hb : o + r.val < 2048) :
    View.ld X (Rect.unit (s := S2048x2048) ![o, 0] S256x2048.size h) (ix2 r k) = X (ix2 ⟨o + r.val, hb⟩ k) :=
  congrArg X (funext fun (a : Fin 2) => Fin.ext (by
    match a with
    | 0 => show o + 1 * r.val = o + r.val; omega
    | 1 => show 0 + 1 * k.val = k.val; omega))

/-- A load of the block of weights. -/
theorem ld_w (X : Vec Ideal S512x2048 .f32) (h : ∀ a, (![0, 0] : Fin 2 → ℕ) a + S512x2048.size a ≤ S512x2048.size a) (j : Fin 512) (k : Fin 2048) :
    View.ld X (Rect.unit (s := S512x2048) ![0, 0] S512x2048.size h) (ix2 j k) = X (ix2 j k) :=
  congrArg X (funext fun (a : Fin 2) => Fin.ext (by
    match a with
    | 0 => show 0 + 1 * j.val = j.val; omega
    | 1 => show 0 + 1 * k.val = k.val; omega))

/-- A load of the block of biases. -/
theorem ld_b (X : Vec Ideal S1x512 .f32) (h : ∀ a, (![0, 0] : Fin 2 → ℕ) a + S1x512.size a ≤ S1x512.size a) (j : Fin 512) :
    View.ld X (Rect.unit (s := S1x512) ![0, 0] S1x512.size h) (ix2 0 j) = X (ix2 0 j) :=
  congrArg X (funext fun (a : Fin 2) => Fin.ext (by
    match a with
    | 0 => show 0 + 1 * 0 = 0; omega
    | 1 => show 0 + 1 * j.val = j.val; omega))

/-- One store's entries are the block's. -/
theorem part_cell (x0 : Vec Ideal S2048x2048 .bf16) (x1 : Vec Ideal S512x2048 .f32) (x2 : Vec Ideal S1x512 .f32) (o : ℕ) (h0 h1 h2) (r : Fin 256) (j : Fin 512) (R : Fin 2048) (J : Fin 512)
    (hr : R.val = o + r.val) (hj : J.val = 0 + j.val) :
    part (View.ld x1 (Rect.unit (s := S512x2048) ![0, 0] S512x2048.size h1)) (View.ld x0 (Rect.unit (s := S2048x2048) ![o, 0] S256x2048.size h0))
      (View.ld x2 (Rect.unit (s := S1x512) ![0, 0] S1x512.size h2)) r j = cell x0 x1 x2 R J := by
  obtain rfl : J = j := Fin.ext (hj.trans (Nat.zero_add _))
  have hb : o + r.val < 2048 := hr ▸ R.isLt
  obtain rfl : R = ⟨o + r.val, hb⟩ := Fin.ext hr
  unfold part cell
  refine congrArg Cert.Proj.silu (congrArg₂ (· + ·) (Finset.sum_congr rfl fun k _ => congrArg₂ (· * ·) ?_ ?_) ?_)
  · exact ld_rows x0 o h0 r k hb
  · exact ld_w x1 h1 J k
  · exact ld_b x2 h2 J

/-- A store that writes `part` leaves `cell` under its rows. -/
theorem at_part (A : Vec Ideal S2048x2048 .bf16) (B : Vec Ideal S512x2048 .f32) (C : Vec Ideal S1x512 .f32) (o : ℕ) (h0 h1 h2)
    (w : Vec Ideal S512x2048 .f32 → Vec Ideal S256x2048 .bf16 → Vec Ideal S1x512 .f32 → Vec Ideal S256x512 .f32)
    (hw : ∀ v0 v3 v5 r j, w v0 v3 v5 (ix2 r j) = part v0 v3 v5 r j) (R : Fin 2048) (J : Fin 512) (x : S256x512.Idx)
    (hx : ∀ a : Fin 2, ((ix2 R J : S2048x512.Idx) a : ℕ) = (![o, 0] : Fin 2 → ℕ) a + x a) :
    w (View.ld B (Rect.unit (s := S512x2048) ![0, 0] S512x2048.size h1)) (View.ld A (Rect.unit (s := S2048x2048) ![o, 0] S256x2048.size h0))
      (View.ld C (Rect.unit (s := S1x512) ![0, 0] S1x512.size h2)) x = cell A B C R J := by
  idx_vars x
  exact (hw _ _ _ x0 x1).trans (part_cell A B C o h0 h1 h2 _ _ R J (hx 0) (hx 1))

/-- The block the stores leave. -/
theorem left_at (x0 : Vec Ideal S2048x2048 .bf16) (x1 : Vec Ideal S512x2048 .f32) (x2 : Vec Ideal S1x512 .f32) (r : Fin 2048) (j : Fin 512) :
    out0_3 x0 x1 x2 (ix2 r j) = cell x0 x1 x2 r j := by
  unfold out0_3 k0_pay15
  refine View.canon_eq_of_allAt _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))))))
  · refine View.cover_of_tiled (s := S2048x512) _ S256x512.size ?_ _
    rfl
  · exact fun (x : S256x512.Idx) hx => at_part x0 x1 x2 1792 _ _ _ (fun v0 v3 v5 => k0_pay2 (F := Ideal) (k0_pay3 v0) v3 v5) part7 r j x hx
  · exact fun (x : S256x512.Idx) hx => at_part x0 x1 x2 1536 _ _ _ (fun v0 v3 v5 => k0_pay1 (F := Ideal) (k0_pay12 (k0_pay3 v0) v3 v5) (k0_pay13 (k0_pay3 v0) v3 v5) (k0_pay14 (F := Ideal))) part6 r j x hx
  · exact fun (x : S256x512.Idx) hx => at_part x0 x1 x2 1280 _ _ _ (fun v0 v3 v5 => k0_pay11 (F := Ideal) (k0_pay3 v0) v3 v5) part5 r j x hx
  · exact fun (x : S256x512.Idx) hx => at_part x0 x1 x2 1024 _ _ _ (fun v0 v3 v5 => k0_pay10 (F := Ideal) (k0_pay8 (k0_pay3 v0) v3) (k0_pay9 v5)) part4 r j x hx
  · exact fun (x : S256x512.Idx) hx => at_part x0 x1 x2 768 _ _ _ (fun v0 v3 v5 => k0_pay7 (F := Ideal) (k0_pay3 v0) v3 v5) part3 r j x hx
  · exact fun (x : S256x512.Idx) hx => at_part x0 x1 x2 512 _ _ _ (fun v0 v3 v5 => k0_pay6 (F := Ideal) (k0_pay3 v0) v3 v5) part2 r j x hx
  · exact fun (x : S256x512.Idx) hx => at_part x0 x1 x2 256 _ _ _ (fun v0 v3 v5 => k0_pay5 (F := Ideal) v0 v3 v5) part1 r j x hx
  · exact fun (x : S256x512.Idx) hx => at_part x0 x1 x2 0 _ _ _ (fun v0 v3 v5 => k0_pay4 (F := Ideal) v0 v3 v5) part0 r j x hx

end Cert.KernelGaIdeal.Ga
end
-- ==== Proof.GaArr.lean ====
/- The array the attention's gate leaves: entry by entry the gate of the projection. -/
module

public import proofs.«01_k».proof.Proof.GaVal
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.KernelGaIdeal.Ga

open Idealize.ShloMosaic Idealize.ShloMosaic.TcCoe Idealize.ShloMosaic.Tactic
open Idealize.ShloMosaic.Pipeline (Dat Cfg Window)
open Cert.KernelGaIdeal Cert.KernelGaIdeal.Gen

variable (m : (ℓ : Loc nD τ sig) → Buf (Elt Ideal) ℓ) (c : Dev nD) (t : Fin cfg0.N)

abbrev a0 : Cert.Proj.X := m ((c.tc : Thread nD τ).loc main_arg0)
abbrev a1 : Cert.Proj.W := m ((c.tc : Thread nD τ).loc main_arg1)
abbrev a2 : Cert.Proj.B := m ((c.tc : Thread nD τ).loc main_arg2)

theorem V_v0 : V m c main_v0 = transpose S14352x2048 [1, 0] (m ((c.tc : Thread nD τ).loc main_arg1)) transposes_S2048x14352_S14352x2048_1_0 := by
  show StableHlo.after hostOps0 (fun b => m (c, b)) (Proc.devRef .tc main_v0) = _
  after_results_simp <;> rfl
theorem V_v2 : V m c main_v2 = shapeCast S1x2048 (extractStridedSlice S2048 ![12304] (m ((c.tc : Thread nD τ).loc main_arg2)) slices_S14352_S2048_12304) shapeCasts_S2048_S1x2048 := by
  show StableHlo.after hostOps0 (fun b => m (c, b)) (Proc.devRef .tc main_v2) = _
  after_results_simp <;> rfl

/-- A grid point's block of rows. -/
abbrev gi : Fin 4 := grid0.coords t 0
/-- A grid point's block of columns. -/
abbrev gj : Fin 4 := grid0.coords t 1

/-- The row of the arrays a row of a grid point's block is. -/
def at_row (r : Fin 2048) : Fin 8192 := ⟨(gi t).val * 2048 + r.val, by have := (gi t).isLt; omega⟩
/-- The column of the result a column of a grid point's block is. -/
def at_col (j : Fin 512) : Fin 2048 := ⟨(gj t).val * 512 + j.val, by have := (gj t).isLt; omega⟩
/-- The column of the weights behind a column of the result. -/
def wcol (j : Fin 2048) : Fin 14352 := ⟨12304 + j.val, by omega⟩

def b0 : Vec Ideal S2048x2048 .bf16 := iblk m c 0 t
def b1 : Vec Ideal S512x2048 .f32 := iblk m c 1 t
def b2 : Vec Ideal S1x512 .f32 := iblk m c 2 t

theorem small_toNat (n : ℕ) (hn : n < 4096) : (BitVec.ofNat 32 n).toNat = n := by
  rw [BitVec.toNat_ofNat, Nat.mod_eq_of_lt (by omega)]

theorem widx (n : ℕ) (hn : n < 4) : (Scalar.addi 12304#32 (Scalar.muli (BitVec.ofNat 32 n) 512#32)).toNat = 12304 + n * 512 := by
  show (12304#32 + BitVec.ofNat 32 n * 512#32).toNat = _
  rw [BitVec.toNat_add, BitVec.toNat_mul, BitVec.toNat_ofNat]
  show (12304 + n % 2 ^ 32 * 512 % 2 ^ 32) % 2 ^ 32 = _
  omega

/-- Where an entry of a grid point's block sits in the result. -/
theorem emb_at (r : Fin 2048) (j : Fin 512) : (((cfg0.win 3).blk t).view.emb (ix2 r j) : S8192x2048.Idx) = ix2 (at_row t r) (at_col t j) :=
  funext fun (a : Fin 2) => Fin.ext ((Window.rect_emb_val (cfg0.win 3) t (ix2 r j) a).trans (by
    match a with
    | 0 =>
      show (BitVec.ofNat 32 (gi t).val).toNat * 2048 + r.val = (gi t).val * 2048 + r.val
      rw [small_toNat _ (by have := (gi t).isLt; omega)]
    | 1 =>
      show (BitVec.ofNat 32 (gj t).val).toNat * 512 + j.val = (gj t).val * 512 + j.val
      rw [small_toNat _ (by have := (gj t).isLt; omega)]))

theorem b0_at (r : Fin 2048) (k : Fin 2048) : b0 m c t (ix2 r k) = a0 m c (ix2 (at_row t r) k) :=
  (congrFun (V_main_arg0 m c) _).trans (congrArg (a0 m c) (funext fun (a : Fin 2) => Fin.ext ((Window.rect_emb_val (cfg0.win 0) t (ix2 r k) a).trans (by
    match a with
    | 0 =>
      show (BitVec.ofNat 32 (gi t).val).toNat * 2048 + r.val = (gi t).val * 2048 + r.val
      rw [small_toNat _ (by have := (gi t).isLt; omega)]
    | 1 => show 0 * 2048 + k.val = k.val; omega))))

theorem turned (w : Vec Ideal S2048x14352 .f32) (e : Fin 14352) (k : Fin 2048) :
    transpose S14352x2048 [1, 0] w transposes_S2048x14352_S14352x2048_1_0 (ix2 e k) = w (ix2 k e) := by
  pointwise []

theorem biased (b : Vec Ideal S14352 .f32) (j : Fin 2048) :
    shapeCast S1x2048 (extractStridedSlice S2048 ![12304] b slices_S14352_S2048_12304) shapeCasts_S2048_S1x2048 (ix2 0 j) = b (ix1 (wcol j)) := by
  pointwise []
  first | done | rfl

theorem b1_at (j : Fin 512) (k : Fin 2048) : b1 m c t (ix2 j k) = a1 m c (ix2 k (wcol (at_col t j))) :=
  (congrFun (V_v0 m c) _).trans (Eq.trans (congrArg (a₂ := ix2 (wcol (at_col t j)) k) _ (funext fun (a : Fin 2) => Fin.ext ((Window.rect_emb_val_off (cfg0.win 1) t (ix2 j k) a).trans (by
    match a with
    | 0 =>
      show (Scalar.addi 12304#32 (Scalar.muli (BitVec.ofNat 32 (gj t).val) 512#32)).toNat + j.val = 12304 + ((gj t).val * 512 + j.val)
      rw [widx _ (gj t).isLt]; omega
    | 1 => show 0 + k.val = k.val; omega)))) (turned (a1 m c) (wcol (at_col t j)) k))

theorem b2_at (j : Fin 512) : b2 m c t (ix2 0 j) = a2 m c (ix1 (wcol (at_col t j))) :=
  (congrFun (V_v2 m c) _).trans (Eq.trans (congrArg (a₂ := ix2 0 (at_col t j)) _ (funext fun (a : Fin 2) => Fin.ext ((Window.rect_emb_val (cfg0.win 2) t (ix2 0 j) a).trans (by
    match a with
    | 0 => show 0 * 1 + 0 = 0; omega
    | 1 =>
      show (BitVec.ofNat 32 (gj t).val).toNat * 512 + j.val = (gj t).val * 512 + j.val
      rw [small_toNat _ (by have := (gj t).isLt; omega)])))) (biased (a2 m c) (at_col t j)))

/-- What the result array is shown to hold. -/
def whole : Buf (Elt Ideal) ((c.tc : Thread nD τ).loc main_v3) :=
  fun y : S8192x2048.Idx => Cert.Proj.silu (Cert.Proj.lin (a0 m c) (a1 m c) (a2 m c) (y 0) (wcol (y 1)))

theorem whole_at (Q : Fin 8192) (j : Fin 2048) : (whole m c : S8192x2048.Idx → EReal) (ix2 Q j)
    = Cert.Proj.silu (Cert.Proj.lin (a0 m c) (a1 m c) (a2 m c) Q (wcol j)) := rfl

/-- An entry of a grid point's block is the gate there. -/
theorem cell_at (r : Fin 2048) (j : Fin 512) : cell (b0 m c t) (b1 m c t) (b2 m c t) r j = (whole m c : S8192x2048.Idx → EReal) (ix2 (at_row t r) (at_col t j)) := by
  rw [whole_at]
  unfold cell Cert.Proj.lin
  refine congrArg Cert.Proj.silu (congrArg₂ (· + ·) (Finset.sum_congr rfl fun k _ => congrArg₂ (· * ·) ?_ ?_) ?_)
  · exact b0_at m c t r k
  · exact b1_at m c t j k
  · exact b2_at m c t j

/-- What a grid point leaves, named. -/
def left : Vec Ideal S2048x512 .f32 := out0_3 (b0 m c t) (b1 m c t) (b2 m c t)

theorem after_left : (dats m 0 c).after 3 t = left m c t := after0_3 m c t

theorem left_cell (r : Fin 2048) (j : Fin 512) : left m c t (ix2 r j) = cell (b0 m c t) (b1 m c t) (b2 m c t) r j := by
  unfold left
  exact left_at _ _ _ r j

theorem left_emb (r : Fin 2048) (j : Fin 512) : left m c t (ix2 r j) = (whole m c : S8192x2048.Idx → EReal) (((cfg0.win 3).blk t).view.emb (ix2 r j)) :=
  (left_cell m c t r j).trans ((cell_at m c t r j).trans (congrArg (whole m c : S8192x2048.Idx → EReal) (emb_at t r j).symm))

theorem left_all (y : S2048x512.Idx) : left m c t y = (whole m c : S8192x2048.Idx → EReal) (((cfg0.win 3).blk t).view.emb y) := by
  idx_vars y
  exact left_emb m c t y0 y1

/-- What a grid point writes back is its block of the result. -/
theorem flushed_eq : (dats m 0 c).flushed 3 t = ((cfg0.win 3).blk t).view.read (Elt Ideal) (whole m c) := by
  show (cfg0.win 3).cut (grid0.coords t) ((dats m 0 c).after 3 t) = _
  rw [after_left]
  exact funext fun (y : S2048x512.Idx) => left_all m c t y

/-- Every pair of blocks has its grid point. -/
theorem point_of (i j : Fin 4) : ∃ t : Fin cfg0.N, gi t = i ∧ gj t = j := by
  have H : ∀ i j : Fin 4, ∃ t : Fin grid0.N, (grid0.coords t 0).val = i.val ∧ (grid0.coords t 1).val = j.val := by decide +kernel
  obtain ⟨t, h0, h1⟩ := H i j
  exact ⟨t, Fin.ext h0, Fin.ext h1⟩

/-- The blocks fill the result. -/
theorem cover (i : S8192x2048.Idx) : ∃ t : Fin cfg0.N, (cfg0.win 3).flush t = true ∧ i ∈ ((cfg0.win 3).blk t).view.set := by
  idx_vars i
  obtain ⟨t, hi, hj⟩ := point_of ⟨i0.val / 2048, by omega⟩ ⟨i1.val / 512, by omega⟩
  have vi : (gi t).val = i0.val / 2048 := congrArg Fin.val hi
  have vj : (gj t).val = i1.val / 512 := congrArg Fin.val hj
  have e0 : at_row t ⟨i0.val % 2048, Nat.mod_lt _ (by decide)⟩ = i0 := Fin.ext (by show (gi t).val * 2048 + i0.val % 2048 = i0.val; omega)
  have e1 : at_col t ⟨i1.val % 512, Nat.mod_lt _ (by decide)⟩ = i1 := Fin.ext (by show (gj t).val * 512 + i1.val % 512 = i1.val; omega)
  have h := ((cfg0.win 3).blk t).view.emb_mem_set (ix2 (⟨i0.val % 2048, Nat.mod_lt _ (by decide)⟩ : Fin 2048) (⟨i1.val % 512, Nat.mod_lt _ (by decide)⟩ : Fin 512))
  have h' := emb_at t ⟨i0.val % 2048, Nat.mod_lt _ (by decide)⟩ ⟨i1.val % 512, Nat.mod_lt _ (by decide)⟩
  refine ⟨t, flush0_3 t, ?_⟩
  rw [e0, e1] at h'
  exact h' ▸ h

/-- The result array after the run. -/
theorem final : (dats m 0 c).arrAt 3 cfg0.N = whole m c :=
  (dats m 0 c).arrAt_eq_of_cover 3 (whole m c) (fun t _ => flushed_eq m c t) cover

end Cert.KernelGaIdeal.Ga
end
-- ==== Proof.GaRef.lean ====
/- The reference of the attention's gate, read at an index. -/
module

public import proofs.«01_k».proof.Proof.Gen.ReferenceGaIdeal.Run
public import proofs.«01_k».proof.Proof.ProjFn
public import Idealize.ShloMosaic.Lib.Pointwise

@[expose] public section

set_option maxRecDepth 16384

noncomputable section

namespace Cert.ReferenceGaIdeal.Ga

open Idealize.ShloMosaic Idealize.ShloMosaic.TcCoe Idealize.ShloMosaic.Tactic
open Cert.ReferenceGaIdeal Cert.ReferenceGaIdeal.Gen

/-- The projection. -/
def proj (x : FVec Ideal S8192x2048 .bf16) (w : FVec Ideal S2048x14352 .f32) (b : FVec Ideal S14352 .f32) : FVec Ideal S8192x2048 .f32 :=
  addf (Host.dotGeneral dot_S8192x2048_S2048x2048_S8192x2048_1_0_0_1_n_n none (extf .f32 x bitsLt_bf16_f32) (extractStridedSlice S2048x2048 ![0, 12304] w slices_S2048x14352_S2048x2048_0_12304)) (broadcastInDim S8192x2048 ![0, 1] bcast_S1x2048_S8192x2048_0_1 (broadcastInDim S1x2048 ![1] bcast_S2048_S1x2048_1 (extractStridedSlice S2048 ![12304] b slices_S14352_S2048_12304)))

/-- The gate's function, entry by entry. -/
def gated (z : FVec Ideal S8192x2048 .f32) : FVec Ideal S8192x2048 .f32 :=
  mulf z (Host.divf (broadcastInDim S8192x2048 ![] bcast_S_S8192x2048 (constant S_ .f32 0x3F800000#32)) (addf (broadcastInDim S8192x2048 ![] bcast_S_S8192x2048 (constant S_ .f32 0x3F800000#32)) (Host.exp (Host.negf z))))

theorem proj_at (x : FVec Ideal S8192x2048 .bf16) (w : FVec Ideal S2048x14352 .f32) (b : FVec Ideal S14352 .f32) (Q : Fin 8192) (j : Fin 2048) :
    proj x w b (ix2 Q j) = Cert.Proj.lin x w b Q ⟨12304 + j.val, by omega⟩ := by
  pointwise [proj]
  rfl

theorem gated_at (z : FVec Ideal S8192x2048 .f32) (Q : Fin 8192) (j : Fin 2048) : gated z (ix2 Q j) = Cert.Proj.silu (z (ix2 Q j)) := by
  pointwise [gated]
  rw [← zero_sub]
  rfl

/-- The reference's result at an index. -/
theorem ref_at (x : FVec Ideal S8192x2048 .bf16) (w : FVec Ideal S2048x14352 .f32) (b : FVec Ideal S14352 .f32) (Q : Fin 8192) (j : Fin 2048) :
    gated (proj x w b) (ix2 Q j) = Cert.Proj.silu (Cert.Proj.lin x w b Q ⟨12304 + j.val, by omega⟩) := by
  rw [gated_at, proj_at]

variable (m : (ℓ : Loc nD τ sig) → Buf (Elt Ideal) ℓ) (c : Dev nD)

/-- The reference's result, whole. -/
theorem ref_whole : (gated (proj (m ((c.tc : Thread nD τ).loc main_arg0)) (m ((c.tc : Thread nD τ).loc main_arg1)) (m ((c.tc : Thread nD τ).loc main_arg2))) : S8192x2048.Idx → EReal)
    = fun y : S8192x2048.Idx => Cert.Proj.silu (Cert.Proj.lin (m ((c.tc : Thread nD τ).loc main_arg0)) (m ((c.tc : Thread nD τ).loc main_arg1)) (m ((c.tc : Thread nD τ).loc main_arg2)) (y 0) ⟨12304 + (y 1).val, Nat.lt_of_lt_of_le (Nat.add_lt_add_left (y 1).isLt 12304) (by decide)⟩) := by
  refine funext fun (y : S8192x2048.Idx) => ?_
  idx_vars y
  exact ref_at (m ((c.tc : Thread nD τ).loc main_arg0)) (m ((c.tc : Thread nD τ).loc main_arg1)) (m ((c.tc : Thread nD τ).loc main_arg2)) y0 y1

/-- Equal arguments give equal results. -/
theorem same_args {a0 b0 : Cert.Proj.X} {a1 b1 : Cert.Proj.W} {a2 b2 : Cert.Proj.B} (h0 : a0 = b0) (h1 : a1 = b1) (h2 : a2 = b2) :
    (fun y : (⟨2, ![8192, 2048]⟩ : Shape).Idx => Cert.Proj.silu (Cert.Proj.lin a0 a1 a2 (y 0) ⟨12304 + (y 1).val, Nat.lt_of_lt_of_le (Nat.add_lt_add_left (y 1).isLt 12304) (by decide)⟩))
      = fun y => Cert.Proj.silu (Cert.Proj.lin b0 b1 b2 (y 0) ⟨12304 + (y 1).val, Nat.lt_of_lt_of_le (Nat.add_lt_add_left (y 1).isLt 12304) (by decide)⟩) := by
  rw [h0, h1, h2]

end Cert.ReferenceGaIdeal.Ga
end
-- ==== Proof.VVal.lean ====
/- The values' call: what the stores of a block write, the block they leave and the weights kept between points. -/
module

public import proofs.«01_k».proof.Proof.Gen.KernelVIdeal.Value
public import proofs.«01_k».proof.Proof.ProjFn
public import Idealize.ShloMosaic.Lib.Pointwise
public import Idealize.ShloMosaic.Lib.Pipeline.Value
public import Idealize.ShloMosaic.Lib.Pipeline.ValueKit.Tiles
public import Idealize.ShloMosaic.Lib.Pipeline.ValueKit.Acc

@[expose] public section

set_option maxRecDepth 16384

noncomputable section

namespace Cert.KernelVIdeal.V

open Idealize.ShloMosaic Idealize.ShloMosaic.TcCoe Idealize.ShloMosaic.Tactic
open Idealize.ShloMosaic.Pipeline (Dat Cfg Window)
open Cert.KernelVIdeal Cert.KernelVIdeal.Gen

/-- An entry of a block: a row of weights against a row of inputs, plus the bias; group `q` holds rows `512 q` on. -/
def cell (w : Vec Ideal S1024x2048 .bf16) (x1 : Vec Ideal S2048x2048 .bf16) (x2 : Vec Ideal S1024x1 .f32) (q : Fin 4) (e : Fin 1024) (s : Fin 512) : EReal :=
  ∑ k : Fin 2048, w (ix2 e k) * x1 (ix2 ⟨q.val * 512 + s.val, by omega⟩ k) + x2 (ix2 e 0)

section Payloads
variable (w : Vec Ideal S1024x2048 .bf16) (v : Vec Ideal S512x2048 .bf16) (b : Vec Ideal S1024x1 .f32) (e : Fin 1024) (s : Fin 512)

/-- The same of one store of 512 rows of inputs. -/
def part : EReal := ∑ k : Fin 2048, w (ix2 e k) * v (ix2 s k) + b (ix2 e 0)

theorem part0 : k0_pay4 (F := Ideal) w v b (ix3 0 e s) = part w v b e s := by
  pointwise [k0_pay4]
  rfl
theorem part1 : k0_pay5 (F := Ideal) w v b (ix3 0 e s) = part w v b e s := by
  pointwise [k0_pay5]
  rfl
theorem part2 : k0_pay1 (F := Ideal) (k0_pay6 w v) b (ix3 0 e s) = part w v b e s := by
  pointwise [k0_pay1, k0_pay6]
  rfl
theorem part3 : k0_pay2 (F := Ideal) w v b (ix3 0 e s) = part w v b e s := by
  pointwise [k0_pay2]
  rfl
theorem kept (x : Vec Ideal S1024x2048 .f32) (k : Fin 2048) : k0_pay3 (F := Ideal) x (ix2 e k) = x (ix2 e k) := by
  pointwise [k0_pay3]

end Payloads

/-- A load of 512 rows. -/
theorem ld_rows (X : Vec Ideal S2048x2048 .bf16) (o : ℕ) (h : ∀ a, (![o, 0] : Fin 2 → ℕ) a + S512x2048.size a ≤ S2048x2048.size a) (r : Fin 512) (k : Fin 2048) (hb : o + r.val < 2048) :
    View.ld X (Rect.unit (s := S2048x2048) ![o, 0] S512x2048.size h) (ix2 r k) = X (ix2 ⟨o + r.val, hb⟩ k) :=
  congrArg X (funext fun (a : Fin 2) => Fin.ext (by
    match a with
    | 0 => show o + 1 * r.val = o + r.val; omega
    | 1 => show 0 + 1 * k.val = k.val; omega))

/-- A load of the block of biases. -/
theorem ld_b (X : Vec Ideal S1024x1 .f32) (h : ∀ a, (![0, 0] : Fin 2 → ℕ) a + S1024x1.size a ≤ S1024x1.size a) (j : Fin 1024) :
    View.ld X (Rect.unit (s := S1024x1) ![0, 0] S1024x1.size h) (ix2 j 0) = X (ix2 j 0) :=
  congrArg X (funext fun (a : Fin 2) => Fin.ext (by
    match a with
    | 0 => show 0 + 1 * j.val = j.val; omega
    | 1 => show 0 + 1 * 0 = 0; omega))

/-- A load of the whole block of weights, as kept or as fetched. -/
theorem ld_w {f : EltTy} (X : Vec Ideal S1024x2048 f) (h : ∀ a, (![0, 0] : Fin 2 → ℕ) a + S1024x2048.size a ≤ S1024x2048.size a) (j : Fin 1024) (k : Fin 2048) :
    View.ld X (Rect.unit (s := S1024x2048) ![0, 0] S1024x2048.size h) (ix2 j k) = X (ix2 j k) :=
  congrArg X (funext fun (a : Fin 2) => Fin.ext (by
    match a with
    | 0 => show 0 + 1 * j.val = j.val; omega
    | 1 => show 0 + 1 * k.val = k.val; omega))

theorem local_idx (x : S1x1024x512.Idx) : x = ix3 0 (x 1) (x 2) := by
  idx_vars x
  exact funext fun (a : Fin 3) => Fin.ext (by
    match a with
    | 0 => show x0.val = 0; omega
    | 1 => rfl
    | 2 => rfl)

/-- Four stores, one per group, leave what each writes. -/
theorem of_groups (p0 p1 p2 p3 : Vec Ideal S1x1024x512 .bf16) (f : Fin 4 → Fin 1024 → Fin 512 → EReal)
    (h3 : ∀ e s, p3 (ix3 0 e s) = f 3 e s) (h2 : ∀ e s, p2 (ix3 0 e s) = f 2 e s) (h1 : ∀ e s, p1 (ix3 0 e s) = f 1 e s) (h0 : ∀ e s, p0 (ix3 0 e s) = f 0 e s)
    (q : Fin 4) (e : Fin 1024) (s : Fin 512) :
    View.canon (Val := Elt Ideal) (s := S4x1024x512) (e := .bf16)
      [⟨Rect.unit ![3, 0, 0] ![1, 1024, 512] inb_S4x1024x512_S1x1024x512_3_0_0, p3⟩,
        ⟨Rect.unit ![2, 0, 0] ![1, 1024, 512] inb_S4x1024x512_S1x1024x512_2_0_0, p2⟩,
        ⟨Rect.unit ![1, 0, 0] ![1, 1024, 512] inb_S4x1024x512_S1x1024x512_1_0_0, p1⟩,
        ⟨Rect.unit ![0, 0, 0] ![1, 1024, 512] inb_S4x1024x512_S1x1024x512_0_0_0, p0⟩] (ix3 q e s) = f q e s := by
  have H : ∀ (g : ℕ) (hg : g < 4) (p : Vec Ideal S1x1024x512 .bf16) (h : ∀ e s, p (ix3 0 e s) = f ⟨g, hg⟩ e s) (x : S1x1024x512.Idx)
      (hx : ∀ a : Fin 3, ((ix3 q e s : S4x1024x512.Idx) a : ℕ) = (![g, 0, 0] : Fin 3 → ℕ) a + x a), p x = f q e s := by
    intro g hg p h x hx
    have hq : q.val = g + (x 0).val := hx 0
    have he : e.val = 0 + (x 1).val := hx 1
    have hs : s.val = 0 + (x 2).val := hx 2
    have hz : (x 0).val < 1 := (x 0).isLt
    have eq : q = ⟨g, hg⟩ := Fin.ext (by show q.val = g; omega)
    have ee : x 1 = e := Fin.ext (by omega)
    have es : x 2 = s := Fin.ext (by omega)
    rw [eq, ← ee, ← es]
    exact (congrArg p (local_idx x)).trans (h _ _)
  refine View.canon_eq_of_allAt _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))
  · refine View.cover_of_tiled (s := S4x1024x512) _ S1x1024x512.size ?_ _
    rfl
  · exact fun (x : S1x1024x512.Idx) hx => H 3 (by decide) p3 h3 x hx
  · exact fun (x : S1x1024x512.Idx) hx => H 2 (by decide) p2 h2 x hx
  · exact fun (x : S1x1024x512.Idx) hx => H 1 (by decide) p1 h1 x hx
  · exact fun (x : S1x1024x512.Idx) hx => H 0 (by decide) p0 h0 x hx

/-- A store's entries are its group's. -/
theorem part_cell (W : Vec Ideal S1024x2048 .bf16) (W' : Vec Ideal S1024x2048 .bf16) (A : Vec Ideal S2048x2048 .bf16) (C : Vec Ideal S1024x1 .f32) (q : Fin 4) (o : ℕ) (ho : o = q.val * 512) (h0 h2)
    (hW : ∀ (e : Fin 1024) (k : Fin 2048), W (ix2 e k) = W' (ix2 e k)) (e : Fin 1024) (s : Fin 512) :
    part W (View.ld A (Rect.unit (s := S2048x2048) ![o, 0] S512x2048.size h0)) (View.ld C (Rect.unit (s := S1024x1) ![0, 0] S1024x1.size h2)) e s = cell W' A C q e s := by
  have hb : o + s.val < 2048 := by omega
  unfold part cell
  refine congrArg₂ (· + ·) (Finset.sum_congr rfl fun k _ => congrArg₂ (· * ·) (hW e k) ?_) (ld_b C h2 e)
  exact (ld_rows A o h0 s k hb).trans (congrArg A (congrArg (fun r => ix2 r k) (Fin.ext (by show o + s.val = q.val * 512 + s.val; omega))))

/-- A load of the whole block, of the fetched and of the kept kind. -/
theorem whole_w {f : EltTy} (X : Vec Ideal S1024x2048 f) (h : ∀ a, (![0, 0] : Fin 2 → ℕ) a + S1024x2048.size a ≤ S1024x2048.size a) :
    View.ld X (Rect.unit (s := S1024x2048) ![0, 0] S1024x2048.size h) = X :=
  View.ld_unit_lit h X (by decide)

/-- What is read of the kept block after one whole store into it. -/
theorem whole_cov (v : View sig .tc .vmem S1024x2048 .bf16) (w : Vec Ideal S1024x2048 .bf16) (h : ∀ a, (![0, 0] : Fin 2 → ℕ) a + S1024x2048.size a ≤ S1024x2048.size a) :
    v.readCov (Val := Elt Ideal) [⟨Rect.unit (s := S1024x2048) ![0, 0] S1024x2048.size h, w⟩] (Rect.unit (s := S1024x2048) ![0, 0] S1024x2048.size h).toLoadRect = w :=
  View.readCov_unit_lit v h w (by decide)

/-- What is read of the weights just kept. -/
theorem kept_w (v : View sig .tc .vmem S1024x2048 .bf16) (X : Vec Ideal S1024x2048 .f32) {h h'} (e : Fin 1024) (k : Fin 2048) :
    v.readCov (Val := Elt Ideal) [⟨Rect.unit (s := S1024x2048) ![0, 0] S1024x2048.size h, k0_pay3 (F := Ideal) (View.ld X (Rect.unit (s := S1024x2048) ![0, 0] S1024x2048.size h'))⟩]
      (Rect.unit (s := S1024x2048) ![0, 0] S1024x2048.size h).toLoadRect (ix2 e k) = X (ix2 e k) :=
  (congrFun (whole_cov v _ h) (ix2 e k)).trans ((kept e _ k).trans (ld_w X h' e k))

/-- What one whole store leaves. -/
theorem whole_canon (w : Vec Ideal S1024x2048 .bf16) (h : ∀ a, (![0, 0] : Fin 2 → ℕ) a + S1024x2048.size a ≤ S1024x2048.size a) :
    View.canon (Val := Elt Ideal) [⟨Rect.unit (s := S1024x2048) ![0, 0] S1024x2048.size h, w⟩] = w :=
  View.canon_cons_unit_lit h w [] (by decide)

/-- What the first point of a column block keeps: its weights. -/
theorem kept_A (c : Dev nD) (i : grid0.Coords) (arg2 : Memref sig .tc .vmem S1024x2048 .f32) (harg2 : arg2.IsWhole) (arg3 : Memref sig .tc .vmem S2048x2048 .bf16) (harg3 : arg3.IsWhole) (arg4 : Memref sig .tc .vmem S1024x1 .f32) (harg4 : arg4.IsWhole) (arg5 : Memref sig .tc .vmem S4x1024x512 .bf16) (harg5 : arg5.IsWhole) (arg6 : Memref sig .tc .vmem S1024x2048 .bf16) (harg6 : arg6.IsWhole) (hc0 : cond0_0 i)
    (x0 : Vec Ideal S1024x2048 .f32) (x1 : Vec Ideal S2048x2048 .bf16) (x2 : Vec Ideal S1024x1 .f32) (r : Fin 1024) (k : Fin 2048) :
    sout0_A_0 c i arg2 harg2 arg3 harg3 arg4 harg4 arg5 harg5 arg6 harg6 hc0 x0 x1 x2 (ix2 r k) = x0 (ix2 r k) := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  simp only [View.readAt_eq_ld, harg2.read_unread]
  refine (congrFun (whole_canon _ _) (ix2 r k)).trans ?_
  exact (kept _ _ _).trans (ld_w x0 _ r k)

/-- The other points keep what they find. -/
theorem kept_B (c : Dev nD) (i : grid0.Coords) (arg2 : Memref sig .tc .vmem S1024x2048 .f32) (harg2 : arg2.IsWhole) (arg3 : Memref sig .tc .vmem S2048x2048 .bf16) (harg3 : arg3.IsWhole) (arg4 : Memref sig .tc .vmem S1024x1 .f32) (harg4 : arg4.IsWhole) (arg5 : Memref sig .tc .vmem S4x1024x512 .bf16) (harg5 : arg5.IsWhole) (arg6 : Memref sig .tc .vmem S1024x2048 .bf16) (harg6 : arg6.IsWhole) (hc0 : ¬cond0_0 i)
    (x0 : Vec Ideal S1024x2048 .f32) (x1 : Vec Ideal S2048x2048 .bf16) (x2 : Vec Ideal S1024x1 .f32) (xs0 : Vec Ideal S1024x2048 .bf16) :
    sout0_B_0 c i arg2 harg2 arg3 harg3 arg4 harg4 arg5 harg5 arg6 harg6 hc0 x0 x1 x2 xs0 = xs0 := rfl

/-- The block the other points leave: with the weights kept. -/
theorem left_B (c : Dev nD) (i : grid0.Coords) (arg2 : Memref sig .tc .vmem S1024x2048 .f32) (harg2 : arg2.IsWhole) (arg3 : Memref sig .tc .vmem S2048x2048 .bf16) (harg3 : arg3.IsWhole) (arg4 : Memref sig .tc .vmem S1024x1 .f32) (harg4 : arg4.IsWhole) (arg5 : Memref sig .tc .vmem S4x1024x512 .bf16) (harg5 : arg5.IsWhole) (arg6 : Memref sig .tc .vmem S1024x2048 .bf16) (harg6 : arg6.IsWhole) (hc0 : ¬cond0_0 i)
    (x0 : Vec Ideal S1024x2048 .f32) (x1 : Vec Ideal S2048x2048 .bf16) (x2 : Vec Ideal S1024x1 .f32) (xs0 : Vec Ideal S1024x2048 .bf16) (q : Fin 4) (e : Fin 1024) (s : Fin 512) :
    out0_B_3 c i arg2 harg2 arg3 harg3 arg4 harg4 arg5 harg5 arg6 harg6 hc0 x0 x1 x2 xs0 (ix3 q e s) = cell xs0 x1 x2 q e s := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  simp only [View.readAt_eq_ld, harg3.read_unread, harg4.read_unread, harg6.read_unread]
  refine of_groups _ _ _ _ (fun q e s => cell xs0 x1 x2 q e s) ?_ ?_ ?_ ?_ q e s
  · exact fun e s => (part3 _ _ _ e s).trans (part_cell _ xs0 x1 x2 3 1536 rfl _ _ (ld_w xs0 _) e s)
  · exact fun e s => (part2 _ _ _ e s).trans (part_cell _ xs0 x1 x2 2 1024 rfl _ _ (ld_w xs0 _) e s)
  · exact fun e s => (part1 _ _ _ e s).trans (part_cell _ xs0 x1 x2 1 512 rfl _ _ (ld_w xs0 _) e s)
  · exact fun e s => (part0 _ _ _ e s).trans (part_cell _ xs0 x1 x2 0 0 rfl _ _ (ld_w xs0 _) e s)

/-- The block the first point of a column block leaves. -/
theorem left_A (c : Dev nD) (i : grid0.Coords) (arg2 : Memref sig .tc .vmem S1024x2048 .f32) (harg2 : arg2.IsWhole) (arg3 : Memref sig .tc .vmem S2048x2048 .bf16) (harg3 : arg3.IsWhole) (arg4 : Memref sig .tc .vmem S1024x1 .f32) (harg4 : arg4.IsWhole) (arg5 : Memref sig .tc .vmem S4x1024x512 .bf16) (harg5 : arg5.IsWhole) (arg6 : Memref sig .tc .vmem S1024x2048 .bf16) (harg6 : arg6.IsWhole) (hc0 : cond0_0 i)
    (x0 : Vec Ideal S1024x2048 .f32) (x1 : Vec Ideal S2048x2048 .bf16) (x2 : Vec Ideal S1024x1 .f32) (q : Fin 4) (e : Fin 1024) (s : Fin 512) :
    out0_A_3 c i arg2 harg2 arg3 harg3 arg4 harg4 arg5 harg5 arg6 harg6 hc0 x0 x1 x2 (ix3 q e s) = cell x0 x1 x2 q e s := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  simp only [View.readAt_eq_ld, harg2.read_unread, harg3.read_unread, harg4.read_unread]
  refine of_groups _ _ _ _ (fun q e s => cell x0 x1 x2 q e s) ?_ ?_ ?_ ?_ q e s
  · exact fun e s => (part3 _ _ _ e s).trans (part_cell _ x0 x1 x2 3 1536 rfl _ _ (kept_w arg6.view x0) e s)
  · exact fun e s => (part2 _ _ _ e s).trans (part_cell _ x0 x1 x2 2 1024 rfl _ _ (kept_w arg6.view x0) e s)
  · exact fun e s => (part1 _ _ _ e s).trans (part_cell _ x0 x1 x2 1 512 rfl _ _ (kept_w arg6.view x0) e s)
  · exact fun e s => (part0 _ _ _ e s).trans (part_cell _ x0 x1 x2 0 0 rfl _ _ (kept_w arg6.view x0) e s)

end Cert.KernelVIdeal.V
end
-- ==== Proof.VArr.lean ====
/- The array the values' call leaves: the projection, in groups of 512 rows, turned. -/
module

public import proofs.«01_k».proof.Proof.VVal
public import Idealize.ShloMosaic.Lib.Pointwise
public import Idealize.ShloMosaic.Lib.Pipeline.Value
public import Idealize.ShloMosaic.Lib.Pipeline.ValueKit.Tiles
public import Idealize.ShloMosaic.Lib.Pipeline.ValueKit.Acc

@[expose] public section

set_option maxRecDepth 16384

noncomputable section

namespace Cert.KernelVIdeal.V

open Idealize.ShloMosaic Idealize.ShloMosaic.TcCoe Idealize.ShloMosaic.Tactic
open Idealize.ShloMosaic.Pipeline (Dat Cfg Window)
open Cert.KernelVIdeal Cert.KernelVIdeal.Gen

variable (m : (ℓ : Loc nD τ sig) → Buf (Elt Ideal) ℓ) (c : Dev nD) (t : Fin cfg0.N)

abbrev a0 : Cert.Proj.X := m ((c.tc : Thread nD τ).loc main_arg0)
abbrev a1 : Cert.Proj.W := m ((c.tc : Thread nD τ).loc main_arg1)
abbrev a2 : Cert.Proj.B := m ((c.tc : Thread nD τ).loc main_arg2)

theorem V_v0 : V m c main_v0 = transpose S14352x2048 [1, 0] (m ((c.tc : Thread nD τ).loc main_arg1)) transposes_S2048x14352_S14352x2048_1_0 := by
  show StableHlo.after hostOps0 (fun b => m (c, b)) (Proc.devRef .tc main_v0) = _
  after_results_simp <;> rfl
theorem V_v2 : V m c main_v2 = shapeCast S2048x1 (extractStridedSlice S2048 ![10240] (m ((c.tc : Thread nD τ).loc main_arg2)) slices_S14352_S2048_10240) shapeCasts_S2048_S2048x1 := by
  show StableHlo.after hostOps0 (fun b => m (c, b)) (Proc.devRef .tc main_v2) = _
  after_results_simp <;> rfl

/-- A grid point's block of columns. -/
abbrev gj : Fin 2 := grid0.coords t 0
/-- A grid point's block of rows. -/
abbrev gi : Fin 4 := grid0.coords t 1

/-- The row of the inputs a row of a grid point's block is. -/
def at_row (r : Fin 2048) : Fin 8192 := ⟨(gi t).val * 2048 + r.val, by have := (gi t).isLt; omega⟩
/-- The column a row of a grid point's weights is. -/
def at_col (j : Fin 1024) : Fin 2048 := ⟨(gj t).val * 1024 + j.val, by have := (gj t).isLt; omega⟩
/-- The group of the result a group of a grid point's block is. -/
def at_group (q : Fin 4) : Fin 16 := ⟨(gi t).val * 4 + q.val, by have := (gi t).isLt; omega⟩
/-- The row of the inputs behind row `s` of group `q`. -/
def grow (q : Fin 16) (s : Fin 512) : Fin 8192 := ⟨q.val * 512 + s.val, by omega⟩
/-- The column of the weights behind a column. -/
def wcol (j : Fin 2048) : Fin 14352 := ⟨10240 + j.val, by omega⟩

theorem grow_at (q : Fin 4) (s : Fin 512) : at_row t ⟨q.val * 512 + s.val, by omega⟩ = grow (at_group t q) s :=
  Fin.ext (by show (gi t).val * 2048 + (q.val * 512 + s.val) = ((gi t).val * 4 + q.val) * 512 + s.val; omega)

def b0 : Vec Ideal S1024x2048 .f32 := X0_0 m c t
def b1 : Vec Ideal S2048x2048 .bf16 := iblk m c 1 t
def b2 : Vec Ideal S1024x1 .f32 := iblk m c 2 t

theorem small_toNat (n : ℕ) (hn : n < 4096) : (BitVec.ofNat 32 n).toNat = n := by
  rw [BitVec.toNat_ofNat, Nat.mod_eq_of_lt (by omega)]

theorem widx (n : ℕ) (hn : n < 2) : (Scalar.addi 10#32 (BitVec.ofNat 32 n)).toNat = 10 + n := by
  show (10#32 + BitVec.ofNat 32 n).toNat = _
  rw [BitVec.toNat_add, BitVec.toNat_ofNat]
  show (10 + n % 2 ^ 32) % 2 ^ 32 = _
  omega

/-- Where an entry of a grid point's block sits in the result. -/
theorem emb_at (q : Fin 4) (e : Fin 1024) (s : Fin 512) : (((cfg0.win 3).blk t).view.emb (ix3 q e s) : S16x2048x512.Idx) = ix3 (at_group t q) (at_col t e) s :=
  funext fun (a : Fin 3) => Fin.ext ((Window.rect_emb_val (cfg0.win 3) t (ix3 q e s) a).trans (by
    match a with
    | 0 =>
      show (BitVec.ofNat 32 (gi t).val).toNat * 4 + q.val = (gi t).val * 4 + q.val
      rw [small_toNat _ (by have := (gi t).isLt; omega)]
    | 1 =>
      show (BitVec.ofNat 32 (gj t).val).toNat * 1024 + e.val = (gj t).val * 1024 + e.val
      rw [small_toNat _ (by have := (gj t).isLt; omega)]
    | 2 => show 0 * 512 + s.val = s.val; omega))

theorem turned (w : Vec Ideal S2048x14352 .f32) (e : Fin 14352) (k : Fin 2048) :
    transpose S14352x2048 [1, 0] w transposes_S2048x14352_S14352x2048_1_0 (ix2 e k) = w (ix2 k e) := by
  pointwise []

theorem bias_at (b : Vec Ideal S14352 .f32) (j : Fin 2048) :
    shapeCast S2048x1 (extractStridedSlice S2048 ![10240] b slices_S14352_S2048_10240) shapeCasts_S2048_S2048x1 (ix2 j 0) = b (ix1 (wcol j)) := by
  pointwise []
  first | done | rfl

theorem b0_at (j : Fin 1024) (k : Fin 2048) : b0 m c t (ix2 j k) = a1 m c (ix2 k (wcol (at_col t j))) := by
  unfold b0 X0_0 Window.fill
  rw [dif_pos (moved0_0 t _)]
  exact (congrFun (V_v0 m c) _).trans (Eq.trans (congrArg (a₂ := ix2 (wcol (at_col t j)) k) _ (funext fun (a : Fin 2) => Fin.ext ((Window.rect_emb_val (cfg0.win 0) t _ a).trans (by
    match a with
    | 0 =>
      show (Scalar.addi 10#32 (BitVec.ofNat 32 (gj t).val)).toNat * 1024 + j.val = 10240 + ((gj t).val * 1024 + j.val)
      rw [widx _ (gj t).isLt]
      omega
    | 1 => show 0 * 2048 + k.val = k.val; omega)))) (turned (a1 m c) (wcol (at_col t j)) k))

theorem b1_at (r : Fin 2048) (k : Fin 2048) : b1 m c t (ix2 r k) = a0 m c (ix2 (at_row t r) k) :=
  (congrFun (V_main_arg0 m c) _).trans (congrArg (a0 m c) (funext fun (a : Fin 2) => Fin.ext ((Window.rect_emb_val (cfg0.win 1) t (ix2 r k) a).trans (by
    match a with
    | 0 =>
      show (BitVec.ofNat 32 (gi t).val).toNat * 2048 + r.val = (gi t).val * 2048 + r.val
      rw [small_toNat _ (by have := (gi t).isLt; omega)]
    | 1 => show 0 * 2048 + k.val = k.val; omega))))

theorem b2_at (j : Fin 1024) : b2 m c t (ix2 j 0) = a2 m c (ix1 (wcol (at_col t j))) :=
  (congrFun (V_v2 m c) _).trans (Eq.trans (congrArg (a₂ := ix2 (at_col t j) 0) _ (funext fun (a : Fin 2) => Fin.ext ((Window.rect_emb_val (cfg0.win 2) t (ix2 j 0) a).trans (by
    match a with
    | 0 =>
      show (BitVec.ofNat 32 (gj t).val).toNat * 1024 + j.val = (gj t).val * 1024 + j.val
      rw [small_toNat _ (by have := (gj t).isLt; omega)]
    | 1 => show 0 * 1 + 0 = 0; omega)))) (bias_at (a2 m c) (at_col t j)))

/-- Points that do not begin a column block are of the block of the point before. -/
theorem same_block (t u : Fin cfg0.N) (h : ¬t.val % 4 = 0) (hu : u.val = t.val - 1) : gj u = gj t := by
  have H : ∀ t u : Fin grid0.N, ¬t.val % 4 = 0 → u.val = t.val - 1 → (grid0.coords u 0).val = (grid0.coords t 0).val := by decide +kernel
  exact Fin.ext (H t u h hu)

/-- What a point that begins a column block keeps: its weights. -/
theorem snd_A (h : t.val % 4 = 0) (r : Fin 1024) (k : Fin 2048) : (outsAt0 m c t.val t.isLt).2 (ix2 r k) = b0 m c t (ix2 r k) := by
  have e := congrArg Prod.snd (outsAt0_A m c t h)
  dsimp only at e
  rw [e]
  unfold b0
  exact kept_A c (grid0.coords t) (ms0_0 t) (hs0_0 t) (ms0_1 t) (hs0_1 t) (ms0_2 t) (hs0_2 t) (ms0_3 t) (hs0_3 t) scM0_0 (Memref.isWhole_whole _) ((hcond0_0 t).mpr h) (X0_0 m c t) (iblk m c 1 t) (iblk m c 2 t) r k

/-- What the other points keep: what they find. -/
theorem snd_B (h : ¬t.val % 4 = 0) : (outsAt0 m c t.val t.isLt).2 = (outsAt0 m c (t.val - 1) (Nat.lt_of_le_of_lt (Nat.sub_le _ _) t.isLt)).2 := by
  have e := congrArg Prod.snd (outsAt0_B m c t h)
  dsimp only at e
  rw [e]
  exact kept_B c (grid0.coords t) (ms0_0 t) (hs0_0 t) (ms0_1 t) (hs0_1 t) (ms0_2 t) (hs0_2 t) (ms0_3 t) (hs0_3 t) scM0_0 (Memref.isWhole_whole _) (fun h0 => h ((hcond0_0 t).mp h0)) (X0_0 m c t) (iblk m c 1 t) (iblk m c 2 t) _

/-- The block left by a point that begins a column block. -/
theorem fst_A (h : t.val % 4 = 0) (q : Fin 4) (e : Fin 1024) (s : Fin 512) : (outsAt0 m c t.val t.isLt).1 (ix3 q e s) = cell (b0 m c t) (b1 m c t) (b2 m c t) q e s := by
  have e' := congrArg Prod.fst (outsAt0_A m c t h)
  dsimp only at e'
  rw [e']
  unfold b0 b1 b2
  exact left_A c (grid0.coords t) (ms0_0 t) (hs0_0 t) (ms0_1 t) (hs0_1 t) (ms0_2 t) (hs0_2 t) (ms0_3 t) (hs0_3 t) scM0_0 (Memref.isWhole_whole _) ((hcond0_0 t).mpr h) (X0_0 m c t) (iblk m c 1 t) (iblk m c 2 t) q e s

/-- The block left by another point. -/
theorem fst_B (h : ¬t.val % 4 = 0) (q : Fin 4) (e : Fin 1024) (s : Fin 512) : (outsAt0 m c t.val t.isLt).1 (ix3 q e s) = cell (outsAt0 m c (t.val - 1) (Nat.lt_of_le_of_lt (Nat.sub_le _ _) t.isLt)).2 (b1 m c t) (b2 m c t) q e s := by
  have e' := congrArg Prod.fst (outsAt0_B m c t h)
  dsimp only at e'
  rw [e']
  unfold b1 b2
  exact left_B c (grid0.coords t) (ms0_0 t) (hs0_0 t) (ms0_1 t) (hs0_1 t) (ms0_2 t) (hs0_2 t) (ms0_3 t) (hs0_3 t) scM0_0 (Memref.isWhole_whole _) (fun h0 => h ((hcond0_0 t).mp h0)) (X0_0 m c t) (iblk m c 1 t) (iblk m c 2 t) _ q e s

/-- The weights kept after a point are those of its column block. -/
theorem kept_at : ∀ (n : ℕ) (hn : n < cfg0.N) (r : Fin 1024) (k : Fin 2048), (outsAt0 m c n hn).2 (ix2 r k) = a1 m c (ix2 k (wcol (at_col ⟨n, hn⟩ r))) := by
  intro n
  induction n with
  | zero => exact fun hn r k => (snd_A m c ⟨0, hn⟩ (Nat.zero_mod _) r k).trans (b0_at m c ⟨0, hn⟩ r k)
  | succ n ih =>
    intro hn r k
    by_cases h : (n + 1) % 4 = 0
    · exact (snd_A m c ⟨n + 1, hn⟩ h r k).trans (b0_at m c ⟨n + 1, hn⟩ r k)
    · refine (congrFun (snd_B m c ⟨n + 1, hn⟩ h) (ix2 r k)).trans ?_
      refine (ih (Nat.lt_of_succ_lt hn) r k).trans ?_
      have e' : at_col ⟨n, Nat.lt_of_succ_lt hn⟩ r = at_col ⟨n + 1, hn⟩ r :=
        Fin.ext (congrArg (fun g : Fin 2 => g.val * 1024 + r.val) (same_block ⟨n + 1, hn⟩ ⟨n, Nat.lt_of_succ_lt hn⟩ h rfl))
      rw [e']

/-- What the result array is shown to hold. -/
def whole : Buf (Elt Ideal) ((c.tc : Thread nD τ).loc main_v3) :=
  fun y : S16x2048x512.Idx => Cert.Proj.lin (a0 m c) (a1 m c) (a2 m c) (grow (y 0) (y 2)) (wcol (y 1))

theorem whole_at (q : Fin 16) (e : Fin 2048) (s : Fin 512) : (whole m c : S16x2048x512.Idx → EReal) (ix3 q e s)
    = Cert.Proj.lin (a0 m c) (a1 m c) (a2 m c) (grow q s) (wcol e) := rfl

/-- An entry of a grid point's block is the result's there, if its weights are. -/
theorem cell_at (w : Vec Ideal S1024x2048 .bf16) (hw : ∀ (r : Fin 1024) (k : Fin 2048), w (ix2 r k) = a1 m c (ix2 k (wcol (at_col t r)))) (q : Fin 4) (e : Fin 1024) (s : Fin 512) :
    cell w (b1 m c t) (b2 m c t) q e s = (whole m c : S16x2048x512.Idx → EReal) (ix3 (at_group t q) (at_col t e) s) := by
  rw [whole_at, ← grow_at]
  unfold cell Cert.Proj.lin
  refine congrArg₂ (· + ·) (Finset.sum_congr rfl fun k _ => ?_) (b2_at m c t e)
  rw [mul_comm]
  exact congrArg₂ (· * ·) (b1_at m c t _ k) (hw e k)

/-- What a grid point leaves, named. -/
def left : Vec Ideal S4x1024x512 .bf16 := (outsAt0 m c t.val t.isLt).1

theorem after_left : (dats m 0 c).after 3 t = left m c t := after0_3 m c t

theorem left_cell (q : Fin 4) (e : Fin 1024) (s : Fin 512) : left m c t (ix3 q e s) = (whole m c : S16x2048x512.Idx → EReal) (ix3 (at_group t q) (at_col t e) s) := by
  unfold left
  by_cases h : t.val % 4 = 0
  · exact (fst_A m c t h q e s).trans (cell_at m c t _ (b0_at m c t) q e s)
  · refine (fst_B m c t h q e s).trans (cell_at m c t _ ?_ q e s)
    intro r k
    have hb : t.val - 1 < cfg0.N := Nat.lt_of_le_of_lt (Nat.sub_le _ _) t.isLt
    refine (kept_at m c (t.val - 1) hb r k).trans ?_
    have e' : at_col ⟨t.val - 1, hb⟩ r = at_col t r := Fin.ext (congrArg (fun g : Fin 2 => g.val * 1024 + r.val) (same_block t ⟨t.val - 1, hb⟩ h rfl))
    rw [e']

theorem left_emb (q : Fin 4) (e : Fin 1024) (s : Fin 512) : left m c t (ix3 q e s) = (whole m c : S16x2048x512.Idx → EReal) (((cfg0.win 3).blk t).view.emb (ix3 q e s)) :=
  (left_cell m c t q e s).trans (congrArg (whole m c : S16x2048x512.Idx → EReal) (emb_at t q e s).symm)

theorem left_all (y : S4x1024x512.Idx) : left m c t y = (whole m c : S16x2048x512.Idx → EReal) (((cfg0.win 3).blk t).view.emb y) := by
  idx_vars y
  exact left_emb m c t y0 y1 y2

/-- What a grid point writes back is its block of the result. -/
theorem flushed_eq : (dats m 0 c).flushed 3 t = ((cfg0.win 3).blk t).view.read (Elt Ideal) (whole m c) := by
  show (cfg0.win 3).cut (grid0.coords t) ((dats m 0 c).after 3 t) = _
  rw [after_left]
  exact funext fun (y : S4x1024x512.Idx) => left_all m c t y

/-- Every pair of blocks has its grid point. -/
theorem point_of (i : Fin 4) (j : Fin 2) : ∃ t : Fin cfg0.N, gi t = i ∧ gj t = j := by
  have H : ∀ (i : Fin 4) (j : Fin 2), ∃ t : Fin grid0.N, (grid0.coords t 1).val = i.val ∧ (grid0.coords t 0).val = j.val := by decide +kernel
  obtain ⟨t, h0, h1⟩ := H i j
  exact ⟨t, Fin.ext h0, Fin.ext h1⟩

/-- The blocks fill the result. -/
theorem cover (i : S16x2048x512.Idx) : ∃ t : Fin cfg0.N, (cfg0.win 3).flush t = true ∧ i ∈ ((cfg0.win 3).blk t).view.set := by
  idx_vars i
  obtain ⟨t, hi, hj⟩ := point_of ⟨i0.val / 4, by omega⟩ ⟨i1.val / 1024, by omega⟩
  have vi : (gi t).val = i0.val / 4 := congrArg Fin.val hi
  have vj : (gj t).val = i1.val / 1024 := congrArg Fin.val hj
  have e0 : at_group t ⟨i0.val % 4, Nat.mod_lt _ (by decide)⟩ = i0 := Fin.ext (by show (gi t).val * 4 + i0.val % 4 = i0.val; omega)
  have e1 : at_col t ⟨i1.val % 1024, Nat.mod_lt _ (by decide)⟩ = i1 := Fin.ext (by show (gj t).val * 1024 + i1.val % 1024 = i1.val; omega)
  have h := ((cfg0.win 3).blk t).view.emb_mem_set (ix3 (⟨i0.val % 4, Nat.mod_lt _ (by decide)⟩ : Fin 4) (⟨i1.val % 1024, Nat.mod_lt _ (by decide)⟩ : Fin 1024) i2)
  have h' := emb_at t ⟨i0.val % 4, Nat.mod_lt _ (by decide)⟩ ⟨i1.val % 1024, Nat.mod_lt _ (by decide)⟩ i2
  refine ⟨t, flush0_3 t, ?_⟩
  rw [e0, e1] at h'
  exact h' ▸ h

/-- The result array after the run. -/
theorem final : (dats m 0 c).arrAt 3 cfg0.N = whole m c :=
  (dats m 0 c).arrAt_eq_of_cover 3 (whole m c) (fun t _ => flushed_eq m c t) cover

end Cert.KernelVIdeal.V
end
-- ==== Proof.VRef.lean ====
/- The reference of the values, read at an index. -/
module

public import proofs.«01_k».proof.Proof.Gen.ReferenceVIdeal.Run
public import proofs.«01_k».proof.Proof.ProjFn
public import Idealize.ShloMosaic.Lib.Pointwise

@[expose] public section

set_option maxRecDepth 16384

noncomputable section

namespace Cert.ReferenceVIdeal.V

open Idealize.ShloMosaic Idealize.ShloMosaic.TcCoe Idealize.ShloMosaic.Tactic
open Cert.ReferenceVIdeal Cert.ReferenceVIdeal.Gen

/-- The projection. -/
def proj (x : FVec Ideal S8192x2048 .bf16) (w : FVec Ideal S2048x14352 .f32) (b : FVec Ideal S14352 .f32) : FVec Ideal S8192x2048 .f32 :=
  addf (Host.dotGeneral dot_S8192x2048_S2048x2048_S8192x2048_1_0_0_1_n_n none (extf .f32 x bitsLt_bf16_f32) (extractStridedSlice S2048x2048 ![0, 10240] w slices_S2048x14352_S2048x2048_0_10240)) (broadcastInDim S8192x2048 ![0, 1] bcast_S1x2048_S8192x2048_0_1 (broadcastInDim S1x2048 ![1] bcast_S2048_S1x2048_1 (extractStridedSlice S2048 ![10240] b slices_S14352_S2048_10240)))

/-- Groups of 512 rows, each turned. -/
def grouped (u : FVec Ideal S8192x2048 .f32) : FVec Ideal S16x2048x512 .bf16 :=
  truncf .bf16 (transpose S16x2048x512 [0, 2, 1] (shapeCast _ u shapeCasts_S8192x2048_S16x512x2048) transposes_S16x512x2048_S16x2048x512_0_2_1) bitsLt_bf16_f32

/-- The row behind row `s` of group `q`. -/
def grow (q : Fin 16) (s : Fin 512) : Fin 8192 := ⟨q.val * 512 + s.val, by omega⟩
/-- The column of the weights behind a column. -/
def wcol (j : Fin 2048) : Fin 14352 := ⟨10240 + j.val, by omega⟩

theorem proj_at (x : FVec Ideal S8192x2048 .bf16) (w : FVec Ideal S2048x14352 .f32) (b : FVec Ideal S14352 .f32) (Q : Fin 8192) (j : Fin 2048) :
    proj x w b (ix2 Q j) = Cert.Proj.lin x w b Q (wcol j) := by
  pointwise [proj]
  rfl

theorem grouped_at (u : FVec Ideal S8192x2048 .f32) (q : Fin 16) (e : Fin 2048) (s : Fin 512) :
    grouped u (ix3 q e s) = u (ix2 (grow q s) e) := by
  pointwise [grouped]
  first | done | rfl

/-- The reference's result at an index. -/
theorem ref_at (x : FVec Ideal S8192x2048 .bf16) (w : FVec Ideal S2048x14352 .f32) (b : FVec Ideal S14352 .f32) (q : Fin 16) (e : Fin 2048) (s : Fin 512) :
    grouped (proj x w b) (ix3 q e s) = Cert.Proj.lin x w b (grow q s) (wcol e) := by
  rw [grouped_at, proj_at]

variable (m : (ℓ : Loc nD τ sig) → Buf (Elt Ideal) ℓ) (c : Dev nD)

/-- The reference's result, whole. -/
theorem ref_whole : (grouped (proj (m ((c.tc : Thread nD τ).loc main_arg0)) (m ((c.tc : Thread nD τ).loc main_arg1)) (m ((c.tc : Thread nD τ).loc main_arg2))) : S16x2048x512.Idx → EReal)
    = fun y : S16x2048x512.Idx => Cert.Proj.lin (m ((c.tc : Thread nD τ).loc main_arg0)) (m ((c.tc : Thread nD τ).loc main_arg1)) (m ((c.tc : Thread nD τ).loc main_arg2)) (grow (y 0) (y 2)) (wcol (y 1)) := by
  refine funext fun (y : S16x2048x512.Idx) => ?_
  idx_vars y
  exact ref_at (m ((c.tc : Thread nD τ).loc main_arg0)) (m ((c.tc : Thread nD τ).loc main_arg1)) (m ((c.tc : Thread nD τ).loc main_arg2)) y0 y1 y2

/-- Equal arguments give equal results. -/
theorem same_args {a0 b0 : Cert.Proj.X} {a1 b1 : Cert.Proj.W} {a2 b2 : Cert.Proj.B} (h0 : a0 = b0) (h1 : a1 = b1) (h2 : a2 = b2) :
    (fun y : (⟨3, ![16, 2048, 512]⟩ : Shape).Idx => Cert.Proj.lin a0 a1 a2 (grow (y 0) (y 2)) (wcol (y 1))) = fun y => Cert.Proj.lin b0 b1 b2 (grow (y 0) (y 2)) (wcol (y 1)) := by
  rw [h0, h1, h2]

end Cert.ReferenceVIdeal.V
end
-- ==== Proof.Val.lean ====
/- The values the attention kernel computes, as functions of the arrays it reads: one query block's queries, the scores
   of one key block, the running softmax over full key blocks, the two key blocks on the diagonal and the rows written. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.VecWindow
public import Idealize.ShloMosaic.Lib.Pointwise

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- `n` rows of an array of 8192 rows, from row `o` on. -/
def rows {α : Type} (n : ℕ) (x : (⟨2, ![8192, 128]⟩ : Shape).Idx → α) (o : ℕ) : (⟨2, ![n, 128]⟩ : Shape).Idx → α :=
  fun j => x (ix2 (Fin.ofNat 8192 (o + (j 0).val)) (j 1))

/-- Block `b` of the 16 blocks of values. -/
def vblk {α : Type} (x : (⟨3, ![16, 128, 512]⟩ : Shape).Idx → α) (b : ℕ) : (⟨3, ![1, 128, 512]⟩ : Shape).Idx → α :=
  fun j => x (ix3 (Fin.ofNat 16 b) (j 1) (j 2))

/-- A load of `n` whole rows from row `o` on. -/
theorem readAt_rows {κ : Kind} {sp : Space} {e : EltTy} {Val : EltTy → Type} {n : ℕ} (v : View sig κ sp ⟨2, ![8192, 128]⟩ e) (f : v.ty.Contents Val)
    {off : Fin 2 → ℕ} (inb : ∀ a, off a + (⟨2, ![n, 128]⟩ : Shape).size a ≤ (⟨2, ![8192, 128]⟩ : Shape).size a) {o : ℕ} (h : off = ![o, 0]) :
    v.readAt Val (Rect.unit (s := ⟨2, ![8192, 128]⟩) off (⟨2, ![n, 128]⟩ : Shape).size inb).toLoadRect f = rows n (v.read Val f) o := by
  subst h
  funext y
  refine congrArg (v.read Val f) (funext fun a => Fin.ext ?_)
  have h0 := inb 0
  have hy : (y 0).val < n := (y 0).isLt
  match a with
  | 0 =>
    show o + 1 * (y 0).val = (o + (y 0).val) % 8192
    have : o + n ≤ 8192 := h0
    rw [Nat.mod_eq_of_lt (by omega)]; omega
  | 1 =>
    show 0 + 1 * (y 1).val = (y 1).val
    omega

/-- A load of one block of values. -/
theorem readAt_vblk {κ : Kind} {sp : Space} {e : EltTy} {Val : EltTy → Type} (v : View sig κ sp ⟨3, ![16, 128, 512]⟩ e) (f : v.ty.Contents Val)
    {off : Fin 3 → ℕ} (inb : ∀ a, off a + (⟨3, ![1, 128, 512]⟩ : Shape).size a ≤ (⟨3, ![16, 128, 512]⟩ : Shape).size a) {b : ℕ} (h : off = ![b, 0, 0]) :
    v.readAt Val (Rect.unit (s := ⟨3, ![16, 128, 512]⟩) off (⟨3, ![1, 128, 512]⟩ : Shape).size inb).toLoadRect f = vblk (v.read Val f) b := by
  subst h
  funext y
  refine congrArg (v.read Val f) (funext fun a => Fin.ext ?_)
  have h0 := inb 0
  have hy : (y 0).val < 1 := (y 0).isLt
  match a with
  | 0 =>
    show b + 1 * (y 0).val = b % 16
    have : b + 1 ≤ 16 := h0
    rw [Nat.mod_eq_of_lt (by omega)]; omega
  | 1 => show 0 + 1 * (y 1).val = (y 1).val; omega
  | 2 => show 0 + 1 * (y 2).val = (y 2).val; omega

/-- A load of a whole 512 by 1024 buffer reads all of it. -/
theorem load_512x1024 {κ : Kind} {sp : Space} {e : EltTy} {Val : EltTy → Type} (v : View sig κ sp S512x1024 e) (f : v.ty.Contents Val)
    (inb : ∀ a, ![0, 0] a + S512x1024.size a ≤ S512x1024.size a) :
    v.readAt Val (Rect.unit (s := S512x1024) ![0, 0] S512x1024.size inb).toLoadRect f = v.read Val f := View.readAt_full v f inb

/-- A store over a whole 512 by 1024 buffer leaves what was stored. -/
theorem stored_512x1024 {κ : Kind} {sp : Space} {e : EltTy} {Val : EltTy → Type} (v : View sig κ sp S512x1024 e) (f : v.ty.Contents Val)
    (inb : ∀ a, ![0, 0] a + S512x1024.size a ≤ S512x1024.size a)
    (w : (Rect.unit (s := S512x1024) ![0, 0] S512x1024.size inb).shape.Idx → Val e) (L : List (View.Piece Val S512x1024 e)) :
    v.read Val (v.writes Val f (⟨Rect.unit (s := S512x1024) ![0, 0] S512x1024.size inb, w⟩ :: L)) = w := View.read_writes_full v f inb w L

/-- A load of a whole 512 by 1024 buffer after a store over all of it reads what was stored. -/
theorem reload_512x1024 {κ : Kind} {sp : Space} {e : EltTy} {Val : EltTy → Type} [∀ e, Nonempty (Val e)] (v : View sig κ sp S512x1024 e)
    (inb : ∀ a, ![0, 0] a + S512x1024.size a ≤ S512x1024.size a) (inb' : ∀ a, ![0, 0] a + S512x1024.size a ≤ S512x1024.size a)
    (w : (Rect.unit (s := S512x1024) ![0, 0] S512x1024.size inb').shape.Idx → Val e) (L : List (View.Piece Val S512x1024 e)) :
    v.readCov (⟨Rect.unit (s := S512x1024) ![0, 0] S512x1024.size inb', w⟩ :: L) (Rect.unit (s := S512x1024) ![0, 0] S512x1024.size inb).toLoadRect = w := View.readCov_full v inb inb' w L

/-- A load of a whole 1 by 1024 buffer reads all of it. -/
theorem load_1x1024 {κ : Kind} {sp : Space} {e : EltTy} {Val : EltTy → Type} (v : View sig κ sp S1x1024 e) (f : v.ty.Contents Val)
    (inb : ∀ a, ![0, 0] a + S1x1024.size a ≤ S1x1024.size a) :
    v.readAt Val (Rect.unit (s := S1x1024) ![0, 0] S1x1024.size inb).toLoadRect f = v.read Val f := View.readAt_full v f inb

/-- A store over a whole 1 by 1024 buffer leaves what was stored. -/
theorem stored_1x1024 {κ : Kind} {sp : Space} {e : EltTy} {Val : EltTy → Type} (v : View sig κ sp S1x1024 e) (f : v.ty.Contents Val)
    (inb : ∀ a, ![0, 0] a + S1x1024.size a ≤ S1x1024.size a)
    (w : (Rect.unit (s := S1x1024) ![0, 0] S1x1024.size inb).shape.Idx → Val e) (L : List (View.Piece Val S1x1024 e)) :
    v.read Val (v.writes Val f (⟨Rect.unit (s := S1x1024) ![0, 0] S1x1024.size inb, w⟩ :: L)) = w := View.read_writes_full v f inb w L

/-- A load of a whole 1 by 1024 buffer after a store over all of it reads what was stored. -/
theorem reload_1x1024 {κ : Kind} {sp : Space} {e : EltTy} {Val : EltTy → Type} [∀ e, Nonempty (Val e)] (v : View sig κ sp S1x1024 e)
    (inb : ∀ a, ![0, 0] a + S1x1024.size a ≤ S1x1024.size a) (inb' : ∀ a, ![0, 0] a + S1x1024.size a ≤ S1x1024.size a)
    (w : (Rect.unit (s := S1x1024) ![0, 0] S1x1024.size inb').shape.Idx → Val e) (L : List (View.Piece Val S1x1024 e)) :
    v.readCov (⟨Rect.unit (s := S1x1024) ![0, 0] S1x1024.size inb', w⟩ :: L) (Rect.unit (s := S1x1024) ![0, 0] S1x1024.size inb).toLoadRect = w := View.readCov_full v inb inb' w L

/-- A load of a whole 128 by 1024 buffer reads all of it. -/
theorem load_128x1024 {κ : Kind} {sp : Space} {e : EltTy} {Val : EltTy → Type} (v : View sig κ sp S128x1024 e) (f : v.ty.Contents Val)
    (inb : ∀ a, ![0, 0] a + S128x1024.size a ≤ S128x1024.size a) :
    v.readAt Val (Rect.unit (s := S128x1024) ![0, 0] S128x1024.size inb).toLoadRect f = v.read Val f := View.readAt_full v f inb

/-- A store over a whole 128 by 1024 buffer leaves what was stored. -/
theorem stored_128x1024 {κ : Kind} {sp : Space} {e : EltTy} {Val : EltTy → Type} (v : View sig κ sp S128x1024 e) (f : v.ty.Contents Val)
    (inb : ∀ a, ![0, 0] a + S128x1024.size a ≤ S128x1024.size a)
    (w : (Rect.unit (s := S128x1024) ![0, 0] S128x1024.size inb).shape.Idx → Val e) (L : List (View.Piece Val S128x1024 e)) :
    v.read Val (v.writes Val f (⟨Rect.unit (s := S128x1024) ![0, 0] S128x1024.size inb, w⟩ :: L)) = w := View.read_writes_full v f inb w L

/-- A load of a whole 128 by 1024 buffer after a store over all of it reads what was stored. -/
theorem reload_128x1024 {κ : Kind} {sp : Space} {e : EltTy} {Val : EltTy → Type} [∀ e, Nonempty (Val e)] (v : View sig κ sp S128x1024 e)
    (inb : ∀ a, ![0, 0] a + S128x1024.size a ≤ S128x1024.size a) (inb' : ∀ a, ![0, 0] a + S128x1024.size a ≤ S128x1024.size a)
    (w : (Rect.unit (s := S128x1024) ![0, 0] S128x1024.size inb').shape.Idx → Val e) (L : List (View.Piece Val S128x1024 e)) :
    v.readCov (⟨Rect.unit (s := S128x1024) ![0, 0] S128x1024.size inb', w⟩ :: L) (Rect.unit (s := S128x1024) ![0, 0] S128x1024.size inb).toLoadRect = w := View.readCov_full v inb inb' w L

/-- A load of a whole 1024 by 256 buffer reads all of it. -/
theorem load_1024x256 {κ : Kind} {sp : Space} {e : EltTy} {Val : EltTy → Type} (v : View sig κ sp S1024x256 e) (f : v.ty.Contents Val)
    (inb : ∀ a, ![0, 0] a + S1024x256.size a ≤ S1024x256.size a) :
    v.readAt Val (Rect.unit (s := S1024x256) ![0, 0] S1024x256.size inb).toLoadRect f = v.read Val f := View.readAt_full v f inb

/-- A store over a whole 1024 by 256 buffer leaves what was stored. -/
theorem stored_1024x256 {κ : Kind} {sp : Space} {e : EltTy} {Val : EltTy → Type} (v : View sig κ sp S1024x256 e) (f : v.ty.Contents Val)
    (inb : ∀ a, ![0, 0] a + S1024x256.size a ≤ S1024x256.size a)
    (w : (Rect.unit (s := S1024x256) ![0, 0] S1024x256.size inb).shape.Idx → Val e) (L : List (View.Piece Val S1024x256 e)) :
    v.read Val (v.writes Val f (⟨Rect.unit (s := S1024x256) ![0, 0] S1024x256.size inb, w⟩ :: L)) = w := View.read_writes_full v f inb w L

/-- A load of a whole 1024 by 256 buffer after a store over all of it reads what was stored. -/
theorem reload_1024x256 {κ : Kind} {sp : Space} {e : EltTy} {Val : EltTy → Type} [∀ e, Nonempty (Val e)] (v : View sig κ sp S1024x256 e)
    (inb : ∀ a, ![0, 0] a + S1024x256.size a ≤ S1024x256.size a) (inb' : ∀ a, ![0, 0] a + S1024x256.size a ≤ S1024x256.size a)
    (w : (Rect.unit (s := S1024x256) ![0, 0] S1024x256.size inb').shape.Idx → Val e) (L : List (View.Piece Val S1024x256 e)) :
    v.readCov (⟨Rect.unit (s := S1024x256) ![0, 0] S1024x256.size inb', w⟩ :: L) (Rect.unit (s := S1024x256) ![0, 0] S1024x256.size inb).toLoadRect = w := View.readCov_full v inb inb' w L

/-- The running softmax of one query block: per query the largest score so far, the sum of the exponentials, and the
    sum of the values they weigh. -/
structure St (F : FTy → Type) where
  m : Vec F S1x1024 .f32
  l : Vec F S1x1024 .f32
  a : Vec F S128x1024 .f32

/-- The running softmax before the first key. -/
def St.init : St F := ⟨k0_pay49, k0_pay50, k0_pay51⟩

/-- The running softmax after one more key block with scores `s` and values `v`. -/
def St.upd (s : Vec F S512x1024 .f32) (v : Vec F S1x128x512 .bf16) (t : St F) : St F :=
  ⟨k0_pay8 (k0_pay2 s t.m), k0_pay5 s t.m t.l, k0_pay7 (k0_pay3 s t.m) (k0_pay4 s t.m) (k0_pay6 v) t.a⟩

/-- The scores of key block `b` against the queries `q`. -/
def scs (x4 x5 : Vec F S8192x128 .bf16) (q : Vec F S1024x256 .bf16) (b : ℕ) : Vec F S512x1024 .f32 :=
  k0_pay1 (rows 512 x4 (512 * b)) (rows 512 x5 (512 * b)) q

/-- The running softmax after `n` key blocks from block `b` on. -/
def stN (x4 x5 : Vec F S8192x128 .bf16) (x6 : Vec F S16x128x512 .bf16) (q : Vec F S1024x256 .bf16) (b : ℕ) : ℕ → St F
  | 0 => St.init
  | n + 1 => (stN x4 x5 x6 q b n).upd (scs x4 x5 q (b + n)) (vblk x6 (b + n))

section Halves

variable {α : Type} {n : ℕ}

/-- The first 512 columns. -/
def lo (x : (⟨2, ![n, 1024]⟩ : Shape).Idx → α) : (⟨2, ![n, 512]⟩ : Shape).Idx → α :=
  fun y => x (ValueIdx.ix2 (y 0 : Fin n) (⟨(y 1).val, by have : (y 1).val < 512 := (y 1).isLt; omega⟩ : Fin 1024))

/-- The last 512 columns. -/
def hi (x : (⟨2, ![n, 1024]⟩ : Shape).Idx → α) : (⟨2, ![n, 512]⟩ : Shape).Idx → α :=
  fun y => x (ValueIdx.ix2 (y 0 : Fin n) (⟨512 + (y 1).val, by have : (y 1).val < 512 := (y 1).isLt; omega⟩ : Fin 1024))

/-- `x` with its first 512 columns replaced. -/
def setLo (w : (⟨2, ![n, 512]⟩ : Shape).Idx → α) (x : (⟨2, ![n, 1024]⟩ : Shape).Idx → α) : (⟨2, ![n, 1024]⟩ : Shape).Idx → α :=
  fun y => if h : (y 1).val < 512 then w (ValueIdx.ix2 (y 0 : Fin n) (⟨(y 1).val, h⟩ : Fin 512)) else x y

/-- `x` with its last 512 columns replaced. -/
def setHi (w : (⟨2, ![n, 512]⟩ : Shape).Idx → α) (x : (⟨2, ![n, 1024]⟩ : Shape).Idx → α) : (⟨2, ![n, 1024]⟩ : Shape).Idx → α :=
  fun y => if h : (y 1).val < 512 then x y else w (ValueIdx.ix2 (y 0 : Fin n) (⟨(y 1).val - 512, by have : (y 1).val < 1024 := (y 1).isLt; omega⟩ : Fin 512))

/-- Two column halves side by side. -/
def join (a b : (⟨2, ![n, 512]⟩ : Shape).Idx → α) : (⟨2, ![n, 1024]⟩ : Shape).Idx → α :=
  fun y => if h : (y 1).val < 512 then a (ValueIdx.ix2 (y 0 : Fin n) (⟨(y 1).val, h⟩ : Fin 512))
    else b (ValueIdx.ix2 (y 0 : Fin n) (⟨(y 1).val - 512, by have : (y 1).val < 1024 := (y 1).isLt; omega⟩ : Fin 512))

variable (w w' : (⟨2, ![n, 512]⟩ : Shape).Idx → α) (x : (⟨2, ![n, 1024]⟩ : Shape).Idx → α)

theorem lo_setLo : lo (setLo w x) = w := by
  funext y
  have h : (y 1).val < 512 := (y 1).isLt
  show (if h : (y 1).val < 512 then _ else _) = _
  rw [dif_pos h]
  exact congrArg w (funext fun a => by match a with | 0 => rfl | 1 => rfl)

theorem lo_setHi : lo (setHi w x) = lo x := by
  funext y
  have h : (y 1).val < 512 := (y 1).isLt
  show (if h : (y 1).val < 512 then _ else _) = _
  rw [dif_pos h]; rfl

theorem hi_setLo : hi (setLo w x) = hi x := by
  funext y
  have h : ¬ 512 + (y 1).val < 512 := by omega
  show (if h : 512 + (y 1).val < 512 then _ else _) = _
  rw [dif_neg h]; rfl

theorem hi_setHi : hi (setHi w x) = w := by
  funext y
  have h : ¬ 512 + (y 1).val < 512 := by omega
  show (if h : 512 + (y 1).val < 512 then _ else _) = _
  rw [dif_neg h]
  exact congrArg w (funext fun a => by
    match a with
    | 0 => rfl
    | 1 => exact Fin.ext (show 512 + (y 1).val - 512 = (y 1).val by omega))

theorem setHi_setHi : setHi w (setHi w' x) = setHi w x := by
  funext y
  unfold setHi
  by_cases h : (y 1).val < 512
  · rw [dif_pos h, dif_pos h, dif_pos h]
  · rw [dif_neg h, dif_neg h]

theorem setHi_setLo : setHi w (setLo w' x) = join w' w := by
  funext y
  unfold setHi setLo join
  by_cases h : (y 1).val < 512
  · rw [dif_pos h, dif_pos h, dif_pos h]
  · rw [dif_neg h, dif_neg h]

theorem hi_join : hi (join w' w) = w := by
  funext y
  have h : ¬ 512 + (y 1).val < 512 := by omega
  show (if h : 512 + (y 1).val < 512 then _ else _) = _
  rw [dif_neg h]
  exact congrArg w (funext fun a => by
    match a with
    | 0 => rfl
    | 1 => exact Fin.ext (show 512 + (y 1).val - 512 = (y 1).val by omega))

theorem setHi_join (u : (⟨2, ![n, 512]⟩ : Shape).Idx → α) : setHi u (join w' w) = join w' u := by
  funext y
  unfold setHi join
  by_cases h : (y 1).val < 512
  · rw [dif_pos h, dif_pos h, dif_pos h]
  · rw [dif_neg h, dif_neg h]

variable {κ : Kind} {sp : Space} {e : EltTy} {Val : EltTy → Type}

theorem load_lo (v : View sig κ sp ⟨2, ![n, 1024]⟩ e) (f : v.ty.Contents Val)
    (inb : ∀ a, ![0, 0] a + (⟨2, ![n, 512]⟩ : Shape).size a ≤ (⟨2, ![n, 1024]⟩ : Shape).size a) :
    v.readAt Val (Rect.unit (s := ⟨2, ![n, 1024]⟩) ![0, 0] (⟨2, ![n, 512]⟩ : Shape).size inb).toLoadRect f = lo (v.read Val f) := by
  funext y
  exact congrArg (v.read Val f) (funext fun a => Fin.ext (by
    match a with
    | 0 => show 0 + 1 * (y 0).val = (y 0).val; omega
    | 1 => show 0 + 1 * (y 1).val = (y 1).val; omega))

theorem load_hi (v : View sig κ sp ⟨2, ![n, 1024]⟩ e) (f : v.ty.Contents Val)
    (inb : ∀ a, ![0, 512] a + (⟨2, ![n, 512]⟩ : Shape).size a ≤ (⟨2, ![n, 1024]⟩ : Shape).size a) :
    v.readAt Val (Rect.unit (s := ⟨2, ![n, 1024]⟩) ![0, 512] (⟨2, ![n, 512]⟩ : Shape).size inb).toLoadRect f = hi (v.read Val f) := by
  funext y
  exact congrArg (v.read Val f) (funext fun a => Fin.ext (by
    match a with
    | 0 => show 0 + 1 * (y 0).val = (y 0).val; omega
    | 1 => show 512 + 1 * (y 1).val = 512 + (y 1).val; omega))

theorem stored_lo (v : View sig κ sp ⟨2, ![n, 1024]⟩ e) (f : v.ty.Contents Val)
    (inb : ∀ a, ![0, 0] a + (⟨2, ![n, 512]⟩ : Shape).size a ≤ (⟨2, ![n, 1024]⟩ : Shape).size a)
    (w : (Rect.unit (s := ⟨2, ![n, 1024]⟩) ![0, 0] (⟨2, ![n, 512]⟩ : Shape).size inb).shape.Idx → Val e) (L : List (View.Piece Val ⟨2, ![n, 1024]⟩ e)) :
    v.read Val (v.writes Val f (⟨Rect.unit (s := ⟨2, ![n, 1024]⟩) ![0, 0] (⟨2, ![n, 512]⟩ : Shape).size inb, w⟩ :: L)) = setLo w (v.read Val (v.writes Val f L)) := by
  rw [View.read_writes_cons_put v f inb w L rfl]
  funext y
  unfold VecWindow.put setLo
  by_cases h : (y 1).val < 512
  · rw [dif_pos h, dif_pos (fun a => by
      have h0 : (y 0).val < n := (y 0).isLt
      match a with
      | 0 => exact ⟨Nat.zero_le _, by show (y 0).val < 0 + n; omega⟩
      | 1 => exact ⟨Nat.zero_le _, by show (y 1).val < 0 + 512; omega⟩)]
    exact congrArg w (funext fun a => by match a with | 0 => rfl | 1 => rfl)
  · rw [dif_neg h, dif_neg (fun hall => h (by have : (y 1).val < 0 + 512 := (hall 1).2; omega))]

theorem stored_hi (v : View sig κ sp ⟨2, ![n, 1024]⟩ e) (f : v.ty.Contents Val)
    (inb : ∀ a, ![0, 512] a + (⟨2, ![n, 512]⟩ : Shape).size a ≤ (⟨2, ![n, 1024]⟩ : Shape).size a)
    (w : (Rect.unit (s := ⟨2, ![n, 1024]⟩) ![0, 512] (⟨2, ![n, 512]⟩ : Shape).size inb).shape.Idx → Val e) (L : List (View.Piece Val ⟨2, ![n, 1024]⟩ e)) :
    v.read Val (v.writes Val f (⟨Rect.unit (s := ⟨2, ![n, 1024]⟩) ![0, 512] (⟨2, ![n, 512]⟩ : Shape).size inb, w⟩ :: L)) = setHi w (v.read Val (v.writes Val f L)) := by
  rw [View.read_writes_cons_put v f inb w L rfl]
  funext y
  unfold VecWindow.put setHi
  have h1 : (y 1).val < 1024 := (y 1).isLt
  by_cases h : (y 1).val < 512
  · rw [dif_pos h, dif_neg (fun hall => by have : 512 ≤ (y 1).val := (hall 1).1; omega)]
  · rw [dif_neg h, dif_pos (fun a => by
      have h0 : (y 0).val < n := (y 0).isLt
      match a with
      | 0 => exact ⟨Nat.zero_le _, by show (y 0).val < 0 + n; omega⟩
      | 1 => exact ⟨by show 512 ≤ (y 1).val; omega, by show (y 1).val < 512 + 512; omega⟩)]
    exact congrArg w (funext fun a => by match a with | 0 => rfl | 1 => rfl)

end Halves

/-- The last 512 rows of a query block. -/
def bot {α : Type} (q : S1024x256.Idx → α) : S512x256.Idx → α :=
  fun y => q (ValueIdx.ix2 (⟨512 + (y 0).val, by have : (y 0).val < 512 := (y 0).isLt; omega⟩ : Fin 1024) (y 1 : Fin 256))

theorem load_bot {κ : Kind} {sp : Space} {e : EltTy} {Val : EltTy → Type} (v : View sig κ sp S1024x256 e) (f : v.ty.Contents Val)
    (inb : ∀ a, ![512, 0] a + S512x256.size a ≤ S1024x256.size a) :
    v.readAt Val (Rect.unit (s := S1024x256) ![512, 0] S512x256.size inb).toLoadRect f = bot (v.read Val f) := by
  funext y
  exact congrArg (v.read Val f) (funext fun a => Fin.ext (by
    match a with
    | 0 => show 512 + 1 * (y 0).val = 512 + (y 0).val; omega
    | 1 => show 0 + 1 * (y 1).val = (y 1).val; omega))

/-- The rows of a block just stored, and those of any other block. -/
theorem rows_stored {κ : Kind} {sp : Space} {e : EltTy} {Val : EltTy → Type} (v : View sig κ sp S8192x128 e) (f : v.ty.Contents Val)
    {off : Fin 2 → ℕ} (inb : ∀ a, off a + S1024x128.size a ≤ S8192x128.size a) (b : ℕ) (h : off = ![1024 * b, 0])
    (w : (Rect.unit (s := S8192x128) off S1024x128.size inb).shape.Idx → Val e) (L : List (View.Piece Val S8192x128 e)) (b' : ℕ) (hb' : b' < 8) :
    rows 1024 (v.read Val (v.writes Val f (⟨Rect.unit (s := S8192x128) off S1024x128.size inb, w⟩ :: L))) (1024 * b')
      = if b' = b then w else rows 1024 (v.read Val (v.writes Val f L)) (1024 * b') := by
  rw [View.read_writes_cons_put v f inb w L h]
  have hb : b < 8 := by have := inb 0; rw [h] at this; have : 1024 * b + 1024 ≤ 8192 := this; omega
  funext y
  have hy : (y 0).val < 1024 := (y 0).isLt
  have hy1 : (y 1).val < 128 := (y 1).isLt
  have hm : (1024 * b' + (y 0).val) % 8192 = 1024 * b' + (y 0).val := Nat.mod_eq_of_lt (by omega)
  by_cases hbb : b' = b
  · subst hbb
    rw [if_pos rfl]
    unfold rows VecWindow.put
    rw [dif_pos (fun a => by
      match a with
      | 0 => exact ⟨by show 1024 * b' ≤ (1024 * b' + (y 0).val) % 8192; omega, by show (1024 * b' + (y 0).val) % 8192 < 1024 * b' + 1024; omega⟩
      | 1 => exact ⟨Nat.zero_le _, by show (y 1).val < 0 + 128; omega⟩)]
    exact congrArg w (funext fun a => by
      match a with
      | 0 => exact Fin.ext (show (1024 * b' + (y 0).val) % 8192 - 1024 * b' = (y 0).val by omega)
      | 1 => rfl)
  · rw [if_neg hbb]
    unfold rows VecWindow.put
    rw [dif_neg (fun hall => by
      have h1 : 1024 * b ≤ (1024 * b' + (y 0).val) % 8192 := (hall 0).1
      have h2 : (1024 * b' + (y 0).val) % 8192 < 1024 * b + 1024 := (hall 0).2
      omega)]

/-- The queries of block `b` with their bias lanes. -/
def qry (i : grid0.Coords) (x2 x3 : Vec F S8192x128 .bf16) (b : ℕ) : Vec F S1024x256 .bf16 :=
  k0_pay124 i (rows 1024 x3 (1024 * b)) (rows 1024 x2 (1024 * b))

/-- The scores of key block `b` against the last 512 queries of `q`. -/
def scsB (x4 x5 : Vec F S8192x128 .bf16) (q : Vec F S1024x256 .bf16) (b : ℕ) : Vec F S512x512 .f32 :=
  k0_pay61 (k0_pay60 (rows 512 x4 (512 * b)) (rows 512 x5 (512 * b))) (bot q)

/-- The first 512 queries after the two diagonal key blocks: sum of weights and weighted values. -/
def lA (s : Vec F S512x1024 .f32) (t : St F) : Vec F S1x512 .f32 := k0_pay68 (lo s) (lo t.m) (lo t.l)
def aA (s : Vec F S512x1024 .f32) (v : Vec F S1x128x512 .bf16) (t : St F) : Vec F S128x512 .f32 := k0_pay70 (k0_pay69 (lo s) (lo t.m) v (lo t.a))

/-- The last 512 queries after the first diagonal key block. -/
def mB (s : Vec F S512x1024 .f32) (t : St F) : Vec F S1x512 .f32 := k0_pay77 (k0_pay72 (hi s) (hi t.m))
def lB (s : Vec F S512x1024 .f32) (t : St F) : Vec F S1x512 .f32 := k0_pay75 (hi s) (hi t.m) (hi t.l)
def aB (s : Vec F S512x1024 .f32) (v : Vec F S1x128x512 .bf16) (t : St F) : Vec F S128x512 .f32 := k0_pay76 (hi s) (hi t.m) v (hi t.a)

/-- The last 512 queries after the second. -/
def lC (s : Vec F S512x1024 .f32) (s' : Vec F S512x512 .f32) (t : St F) : Vec F S1x512 .f32 := k0_pay82 s' (mB s t) (lB s t)
def aC (s : Vec F S512x1024 .f32) (s' : Vec F S512x512 .f32) (v v' : Vec F S1x128x512 .bf16) (t : St F) : Vec F S128x512 .f32 :=
  k0_pay84 (k0_pay80 s' (mB s t)) (k0_pay83 s' (mB s t) v') (aB s v t)

/-- What query block `b` writes, its first key block being `2 n`. -/
def outBlk (x4 x5 : Vec F S8192x128 .bf16) (x6 : Vec F S16x128x512 .bf16) (x7 : Vec F S8192x128 .f32) (q : Vec F S1024x256 .bf16) (b n : ℕ) : Vec F S1024x128 .bf16 :=
  let t := stN x4 x5 x6 q (2 * n) (2 * (b - n))
  let s := scs x4 x5 q (2 * b)
  let s' := scsB x4 x5 q (2 * b + 1)
  k0_pay86 (join (aA s (vblk x6 (2 * b)) t) (aC s s' (vblk x6 (2 * b)) (vblk x6 (2 * b + 1)) t)) (join (lA s t) (lC s s' t)) (rows 1024 x7 (1024 * b))

end Cert.KernelIdeal.Att
end
-- ==== Proof.Trip.lean ====
module

public import proofs.«01_k».proof.Proof.Val
public import Idealize.ShloMosaic.Lib.Tactic.RunNames

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

theorem t2_off4 : ∀ (t : Fin k0_t1_loop.trips) (n : Fin 8), n.val ≤ 2 * t.val → ∀ (k : Fin (k0_t2_loop t (BitVec.ofNat 32 n.val)).trips),
    k0_off4 t (BitVec.ofNat 32 n.val) k 1#32 = ![512 * (2 * n.val + (2 * k.val + 1)), 0] := by decide +kernel
theorem t2_off4' : ∀ (t : Fin k0_t1_loop.trips) (n : Fin 8), n.val ≤ 2 * t.val → ∀ (k : Fin (k0_t2_loop t (BitVec.ofNat 32 n.val)).trips),
    k0_off4 t (BitVec.ofNat 32 n.val) k 2#32 = ![512 * (2 * n.val + (2 * k.val + 2)), 0] := by decide +kernel
theorem t2_off5 : ∀ (t : Fin k0_t1_loop.trips) (n : Fin 8), n.val ≤ 2 * t.val → ∀ (k : Fin (k0_t2_loop t (BitVec.ofNat 32 n.val)).trips),
    k0_off5 t (BitVec.ofNat 32 n.val) k = ![2 * n.val + 2 * k.val, 0, 0] := by decide +kernel
theorem t2_off6 : ∀ (t : Fin k0_t1_loop.trips) (n : Fin 8), n.val ≤ 2 * t.val → ∀ (k : Fin (k0_t2_loop t (BitVec.ofNat 32 n.val)).trips),
    k0_off6 t (BitVec.ofNat 32 n.val) k = ![2 * n.val + (2 * k.val + 1), 0, 0] := by decide +kernel
theorem t2_trips : ∀ (t : Fin k0_t1_loop.trips) (n : Fin 8), n.val ≤ 2 * t.val → (k0_t2_loop t (BitVec.ofNat 32 n.val)).trips = 2 * t.val - n.val := by decide +kernel
theorem t3_trips : ∀ (t : Fin k0_t1_loop.trips) (n : Fin 8), n.val ≤ 2 * t.val → (k0_t3_loop t (BitVec.ofNat 32 n.val)).trips = 0 := by decide +kernel

/-- Word `n` of the plan may be used by query block `2 t` where `n ≤ 2 t`: every load it offsets is inside its array. -/
theorem chk2_ok : ∀ (t : Fin k0_t1_loop.trips) (n : Fin 8), n.val ≤ 2 * t.val → k0_chk2 t (BitVec.ofNat 32 n.val) := by decide +kernel
theorem chk4_ok : ∀ (t : Fin k0_t1_loop.trips) (n : Fin 8), n.val ≤ 2 * t.val + 1 → k0_chk4 t (BitVec.ofNat 32 n.val) := by decide +kernel
theorem chk1_ok : ∀ n : Fin 8, k0_chk1 (BitVec.ofNat 32 n.val) := by decide +kernel
theorem chk3_ok : ∀ n : Fin 8, k0_chk3 (BitVec.ofNat 32 n.val) := by decide +kernel
theorem chk5_ok : ∀ n : Fin 8, k0_chk5 (BitVec.ofNat 32 n.val) := by decide +kernel
theorem off2_eq : ∀ n : Fin 8, k0_off2 (BitVec.ofNat 32 n.val) = ![512 * (2 * n.val), 0] := by decide +kernel
theorem off13_eq : ∀ n : Fin 8, k0_off13 (BitVec.ofNat 32 n.val) = ![512 * (2 * n.val), 0] := by decide +kernel
theorem off27_eq : ∀ n : Fin 8, k0_off27 (BitVec.ofNat 32 n.val) = ![512 * (2 * n.val), 0] := by decide +kernel
theorem off10_eq : ∀ t : Fin k0_t1_loop.trips, k0_off10 t = ![512 * (2 * (2 * t.val) + 1), 0] := by decide +kernel
theorem off24_eq : ∀ t : Fin k0_t1_loop.trips, k0_off24 t = ![512 * (2 * (2 * t.val + 1) + 1), 0] := by decide +kernel
theorem off11_eq : ∀ t : Fin k0_t1_loop.trips, k0_off11 t = ![1024 * (2 * t.val + 1), 0] := by decide +kernel
theorem off25_eq : ∀ t : Fin k0_t1_loop.trips, k0_off25 t = ![1024 * min (2 * t.val + 2) 7, 0] := by decide +kernel
theorem off16_eq : ∀ t : Fin k0_t1_loop.trips, k0_off16 t = ![1024 * (2 * t.val), 0] := by decide +kernel
theorem off30_eq : ∀ t : Fin k0_t1_loop.trips, k0_off30 t = ![1024 * (2 * t.val + 1), 0] := by decide +kernel
theorem off14_eq : ∀ t : Fin k0_t1_loop.trips, k0_off14 t = ![2 * (2 * t.val), 0, 0] := by decide +kernel
theorem off15_eq : ∀ t : Fin k0_t1_loop.trips, k0_off15 t = ![2 * (2 * t.val) + 1, 0, 0] := by decide +kernel
theorem off28_eq : ∀ t : Fin k0_t1_loop.trips, k0_off28 t = ![2 * (2 * t.val + 1), 0, 0] := by decide +kernel
theorem off29_eq : ∀ t : Fin k0_t1_loop.trips, k0_off29 t = ![2 * (2 * t.val + 1) + 1, 0, 0] := by decide +kernel
theorem off1_eq : ∀ i : grid0.Coords, k0_off1 i = ![8 * (i 0).val] := by decide +kernel
theorem off3_eq : ∀ (i : grid0.Coords) (t : Fin k0_t1_loop.trips), k0_off3 i t = ![8 * (i 0).val + 2 * t.val] := by decide +kernel
theorem off12_eq : ∀ (i : grid0.Coords) (t : Fin k0_t1_loop.trips), k0_off12 i t = ![8 * (i 0).val + (2 * t.val + 1)] := by decide +kernel
theorem off17_eq : ∀ (i : grid0.Coords) (t : Fin k0_t1_loop.trips), k0_off17 i t = ![8 * (i 0).val + (2 * t.val + 1)] := by decide +kernel
theorem off26_eq : ∀ (i : grid0.Coords) (t : Fin k0_t1_loop.trips), k0_off26 i t = ![8 * (i 0).val + min (2 * t.val + 2) 7] := by decide +kernel

def inv2 (c : Dev nD) (arg4 : Memref sig .tc .vmem S8192x128 .bf16) (arg5 : Memref sig .tc .vmem S8192x128 .bf16) (arg6 : Memref sig .tc .vmem S16x128x512 .bf16)
  (arg9 : Memref sig .tc .vmem S1024x256 .bf16) (arg11 arg12 : Memref sig .tc .vmem S512x1024 .f32) (arg14 : Memref sig .tc .vmem S128x1024 .f32) (arg15 arg16 : Memref sig .tc .vmem S1x1024 .f32)
  (f4 : BufTy.Contents (Elt F) arg4.view.ty) (f5 : BufTy.Contents (Elt F) arg5.view.ty) (f6 : BufTy.Contents (Elt F) arg6.view.ty) (f9 : BufTy.Contents (Elt F) arg9.view.ty) (n k : ℕ) : sProp 𝕄G :=
  iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ ∃ g11, (arg11.view.loc (c : Thread nD τ) ↦[arg11.view.set]{fullShare} g11) ∗ ∃ g12, (arg12.view.loc (c : Thread nD τ) ↦[arg12.view.set]{fullShare} g12) ∗ ∃ g14, (arg14.view.loc (c : Thread nD τ) ↦[arg14.view.set]{fullShare} g14) ∗ ∃ g15, (arg15.view.loc (c : Thread nD τ) ↦[arg15.view.set]{fullShare} g15) ∗ ∃ g16, (arg16.view.loc (c : Thread nD τ) ↦[arg16.view.set]{fullShare} g16) ∗
   ⌜arg11.view.read (Elt F) g11 = scs (arg4.view.read (Elt F) f4) (arg5.view.read (Elt F) f5) (arg9.view.read (Elt F) f9) (2 * n + 2 * k) ∧
     St.mk (arg15.view.read (Elt F) g15) (arg16.view.read (Elt F) g16) (arg14.view.read (Elt F) g14) =
      stN (arg4.view.read (Elt F) f4) (arg5.view.read (Elt F) f5) (arg6.view.read (Elt F) f6) (arg9.view.read (Elt F) f9) (2 * n) (2 * k)⌝)

theorem trip2 (𝒱 : Variants) (c : Dev nD) (bd : Option 𝒱.V) (i : grid0.Coords) (arg1 : Memref sig .tc .smem S128 .i32) (harg1 : arg1.IsWhole) (arg2 : Memref sig .tc .vmem S8192x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S16x128x512 .bf16) (harg6 : arg6.IsWhole) (arg7 : Memref sig .tc .vmem S8192x128 .f32) (harg7 : arg7.IsWhole) (arg8 : Memref sig .tc .vmem S8192x128 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S128x1024 .f32) (harg14 : arg14.IsWhole) (arg15 : Memref sig .tc .vmem S1x1024 .f32) (harg15 : arg15.IsWhole) (arg16 : Memref sig .tc .vmem S1x1024 .f32) (harg16 : arg16.IsWhole) (arg0 c0_i32_11 c1_i32 : BitVec 32) (k0_t1 : Fin k0_t1_loop.trips) (n : Fin 8) (hn : n.val ≤ 2 * k0_t1.val) (w : Elt F .i32) (hw : w = BitVec.ofNat 32 n.val) (k0_hw2 : k0_chk2 k0_t1 w) (k : Fin (k0_t2_loop k0_t1 w).trips) (E : Set ℕ)
   (f4 : BufTy.Contents (Elt F) arg4.view.ty) (f5 : BufTy.Contents (Elt F) arg5.view.ty) (f6 : BufTy.Contents (Elt F) arg6.view.ty) (f9 : BufTy.Contents (Elt F) arg9.view.ty) :
   inv2 c arg4 arg5 arg6 arg9 arg11 arg12 arg14 arg15 arg16 f4 f5 f6 f9 n.val k.val
   ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 c0_i32_11 c1_i32 k0_t1 w k0_hw2 k PUnit.unit)
     (fun _ => inv2 c arg4 arg5 arg6 arg9 arg11 arg12 arg14 arg15 arg16 f4 f5 f6 f9 n.val (k.val + 1)) := by
  subst hw
  have o1 := t2_off4 k0_t1 n hn k
  have o2 := t2_off4' k0_t1 n hn k
  have o5 := t2_off5 k0_t1 n hn k
  have o6 := t2_off6 k0_t1 n hn k
  unfold k0_t2_body inv2
  iintro ⟨H4, H5, H6, H9, ⟨%f11, H11, %f12, H12, %f14, H14, %f15, H15, %f16, H16, %h⟩⟩
  sl_exec
  sl_step
  isplitl [H4]; · iexact H4
  isplitl [H5]; · iexact H5
  isplitl [H6]; · iexact H6
  isplitl [H9]; · iexact H9
  iexists _; isplitl [H11]; · iexact H11
  iexists _; isplitl [H12]; · iexact H12
  iexists _; isplitl [H14]; · iexact H14
  iexists _; isplitl [H15]; · iexact H15
  iexists _; isplitl [H16]; · iexact H16
  ipureintro
  sl_unfold_run_names
  simp only [load_1024x256 arg9.view f9, load_512x1024 arg11.view f11, load_128x1024 arg14.view f14, load_1x1024 arg15.view f15, load_1x1024 arg16.view f16, stored_512x1024 arg11.view, reload_512x1024 arg11.view, stored_512x1024 arg12.view, reload_512x1024 arg12.view, stored_128x1024 arg14.view, reload_128x1024 arg14.view, stored_1x1024 arg15.view, reload_1x1024 arg15.view, stored_1x1024 arg16.view, reload_1x1024 arg16.view, readAt_rows _ _ _ o1, readAt_rows _ _ _ o2, readAt_vblk _ _ _ o5, readAt_vblk _ _ _ o6]
  obtain ⟨h11, hst⟩ := h
  have hm := congrArg St.m hst
  have hl := congrArg St.l hst
  have ha := congrArg St.a hst
  dsimp only at hm hl ha
  rw [h11, hm, hl, ha]
  exact ⟨rfl, rfl⟩

theorem t4_off4 : ∀ (t : Fin k0_t1_loop.trips) (n : Fin 8), n.val ≤ 2 * t.val + 1 → ∀ (k : Fin (k0_t4_loop t (BitVec.ofNat 32 n.val)).trips),
    k0_off18 t (BitVec.ofNat 32 n.val) k 1#32 = ![512 * (2 * n.val + (2 * k.val + 1)), 0] := by decide +kernel
theorem t4_off4' : ∀ (t : Fin k0_t1_loop.trips) (n : Fin 8), n.val ≤ 2 * t.val + 1 → ∀ (k : Fin (k0_t4_loop t (BitVec.ofNat 32 n.val)).trips),
    k0_off18 t (BitVec.ofNat 32 n.val) k 2#32 = ![512 * (2 * n.val + (2 * k.val + 2)), 0] := by decide +kernel
theorem t4_off5 : ∀ (t : Fin k0_t1_loop.trips) (n : Fin 8), n.val ≤ 2 * t.val + 1 → ∀ (k : Fin (k0_t4_loop t (BitVec.ofNat 32 n.val)).trips),
    k0_off19 t (BitVec.ofNat 32 n.val) k = ![2 * n.val + 2 * k.val, 0, 0] := by decide +kernel
theorem t4_off6 : ∀ (t : Fin k0_t1_loop.trips) (n : Fin 8), n.val ≤ 2 * t.val + 1 → ∀ (k : Fin (k0_t4_loop t (BitVec.ofNat 32 n.val)).trips),
    k0_off20 t (BitVec.ofNat 32 n.val) k = ![2 * n.val + (2 * k.val + 1), 0, 0] := by decide +kernel
theorem t4_trips : ∀ (t : Fin k0_t1_loop.trips) (n : Fin 8), n.val ≤ 2 * t.val + 1 → (k0_t4_loop t (BitVec.ofNat 32 n.val)).trips = 2 * t.val + 1 - n.val := by decide +kernel
theorem t5_trips : ∀ (t : Fin k0_t1_loop.trips) (n : Fin 8), n.val ≤ 2 * t.val + 1 → (k0_t5_loop t (BitVec.ofNat 32 n.val)).trips = 0 := by decide +kernel

theorem trip4 (𝒱 : Variants) (c : Dev nD) (bd : Option 𝒱.V) (i : grid0.Coords) (arg1 : Memref sig .tc .smem S128 .i32) (harg1 : arg1.IsWhole) (arg2 : Memref sig .tc .vmem S8192x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S16x128x512 .bf16) (harg6 : arg6.IsWhole) (arg7 : Memref sig .tc .vmem S8192x128 .f32) (harg7 : arg7.IsWhole) (arg8 : Memref sig .tc .vmem S8192x128 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S128x1024 .f32) (harg14 : arg14.IsWhole) (arg15 : Memref sig .tc .vmem S1x1024 .f32) (harg15 : arg15.IsWhole) (arg16 : Memref sig .tc .vmem S1x1024 .f32) (harg16 : arg16.IsWhole) (arg0 : BitVec 32) (k0_t1 : Fin k0_t1_loop.trips) (v236 : BitVec 32) (cst_135 : F .f32) (n : Fin 8) (hn : n.val ≤ 2 * k0_t1.val + 1) (w : Elt F .i32) (hw : w = BitVec.ofNat 32 n.val) (k0_hw4 : k0_chk4 k0_t1 w) (k : Fin (k0_t4_loop k0_t1 w).trips) (E : Set ℕ)
   (f4 : BufTy.Contents (Elt F) arg4.view.ty) (f5 : BufTy.Contents (Elt F) arg5.view.ty) (f6 : BufTy.Contents (Elt F) arg6.view.ty) (f10 : BufTy.Contents (Elt F) arg10.view.ty) :
   inv2 c arg4 arg5 arg6 arg10 arg13 arg12 arg14 arg15 arg16 f4 f5 f6 f10 n.val k.val
   ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_t1 v236 cst_135 w k0_hw4 k PUnit.unit)
     (fun _ => inv2 c arg4 arg5 arg6 arg10 arg13 arg12 arg14 arg15 arg16 f4 f5 f6 f10 n.val (k.val + 1)) := by
  subst hw
  have o1 := t4_off4 k0_t1 n hn k
  have o2 := t4_off4' k0_t1 n hn k
  have o5 := t4_off5 k0_t1 n hn k
  have o6 := t4_off6 k0_t1 n hn k
  unfold k0_t4_body inv2
  iintro ⟨H4, H5, H6, H10, ⟨%f13, H13, %f12, H12, %f14, H14, %f15, H15, %f16, H16, %h⟩⟩
  sl_exec
  sl_step
  isplitl [H4]; · iexact H4
  isplitl [H5]; · iexact H5
  isplitl [H6]; · iexact H6
  isplitl [H10]; · iexact H10
  iexists _; isplitl [H13]; · iexact H13
  iexists _; isplitl [H12]; · iexact H12
  iexists _; isplitl [H14]; · iexact H14
  iexists _; isplitl [H15]; · iexact H15
  iexists _; isplitl [H16]; · iexact H16
  ipureintro
  sl_unfold_run_names
  simp only [load_1024x256 arg10.view f10, load_512x1024 arg13.view f13, load_128x1024 arg14.view f14, load_1x1024 arg15.view f15, load_1x1024 arg16.view f16, stored_512x1024 arg13.view, reload_512x1024 arg13.view, stored_512x1024 arg12.view, reload_512x1024 arg12.view, stored_128x1024 arg14.view, reload_128x1024 arg14.view, stored_1x1024 arg15.view, reload_1x1024 arg15.view, stored_1x1024 arg16.view, reload_1x1024 arg16.view, readAt_rows _ _ _ o1, readAt_rows _ _ _ o2, readAt_vblk _ _ _ o5, readAt_vblk _ _ _ o6]
  obtain ⟨h11, hst⟩ := h
  have hm := congrArg St.m hst
  have hl := congrArg St.l hst
  have ha := congrArg St.a hst
  dsimp only at hm hl ha
  rw [h11, hm, hl, ha]
  exact ⟨rfl, rfl⟩

end Cert.KernelIdeal.Att
end
-- ==== Proof.Outer.lean ====
module

public import proofs.«01_k».proof.Proof.Trip

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- The table's buffer, held at half the full share: the pipeline keeps the other half. -/
abbrev tblAt (c : Dev nD) (arg1 : Memref sig .tc .smem S128 .i32) (f : BufTy.Contents (Elt F) arg1.view.ty) : sProp 𝕄G :=
  arg1.view.loc (c : Thread nD τ) ↦{fullShare.right} f

/-- The plan's words of head `i`: query block `b` starts at key block `2 (fp b)`. -/
def Words (i : grid0.Coords) (arg1 : Memref sig .tc .smem S128 .i32) (f1 : BufTy.Contents (Elt F) arg1.view.ty) (fp : ℕ → Fin 8) : Prop :=
  ∀ b < 8, ∀ (off : Fin 1 → ℕ) (inb : ∀ a, off a + S1.size a ≤ S128.size a) (x : (Rect.unit (s := S128) off S1.size inb).toLoadRect.shape.Idx),
    off = ![8 * (i 0).val + b] → arg1.view.readAt (Elt F) (Rect.unit (s := S128) off S1.size inb).toLoadRect f1 x = BitVec.ofNat 32 (fp b).val

/-- Before outer trip `t`: the queries of block `2 t` and the scores of its first key block are ready, and every earlier
    query block's rows are written. -/
def inv1 (c : Dev nD) (i : grid0.Coords) (arg1 : Memref sig .tc .smem S128 .i32) (arg2 arg3 arg4 arg5 : Memref sig .tc .vmem S8192x128 .bf16) (arg6 : Memref sig .tc .vmem S16x128x512 .bf16)
  (arg7 : Memref sig .tc .vmem S8192x128 .f32) (arg8 : Memref sig .tc .vmem S8192x128 .bf16)
  (arg9 arg10 : Memref sig .tc .vmem S1024x256 .bf16) (arg11 arg12 arg13 : Memref sig .tc .vmem S512x1024 .f32) (arg14 : Memref sig .tc .vmem S128x1024 .f32) (arg15 arg16 : Memref sig .tc .vmem S1x1024 .f32)
  (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (fp : ℕ → Fin 8) (t : ℕ) : sProp 𝕄G :=
  iprop(tblAt c arg1 f1 ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ ∃ g8, (arg8.view.loc (c : Thread nD τ) ↦[arg8.view.set]{fullShare} g8) ∗ ∃ g9, (arg9.view.loc (c : Thread nD τ) ↦[arg9.view.set]{fullShare} g9) ∗ ∃ g10, (arg10.view.loc (c : Thread nD τ) ↦[arg10.view.set]{fullShare} g10) ∗ ∃ g11, (arg11.view.loc (c : Thread nD τ) ↦[arg11.view.set]{fullShare} g11) ∗ ∃ g12, (arg12.view.loc (c : Thread nD τ) ↦[arg12.view.set]{fullShare} g12) ∗ ∃ g13, (arg13.view.loc (c : Thread nD τ) ↦[arg13.view.set]{fullShare} g13) ∗ ∃ g14, (arg14.view.loc (c : Thread nD τ) ↦[arg14.view.set]{fullShare} g14) ∗ ∃ g15, (arg15.view.loc (c : Thread nD τ) ↦[arg15.view.set]{fullShare} g15) ∗ ∃ g16, (arg16.view.loc (c : Thread nD τ) ↦[arg16.view.set]{fullShare} g16) ∗
   ⌜arg9.view.read (Elt F) g9 = qry i (arg2.view.read (Elt F) f2) (arg3.view.read (Elt F) f3) (min (2 * t) 7) ∧
     arg11.view.read (Elt F) g11 = scs (arg4.view.read (Elt F) f4) (arg5.view.read (Elt F) f5) (qry i (arg2.view.read (Elt F) f2) (arg3.view.read (Elt F) f3) (min (2 * t) 7)) (2 * (fp (min (2 * t) 7)).val) ∧
     ∀ b < 2 * t, rows 1024 (arg8.view.read (Elt F) g8) (1024 * b) = outBlk (arg4.view.read (Elt F) f4) (arg5.view.read (Elt F) f5) (arg6.view.read (Elt F) f6) (arg7.view.read (Elt F) f7) (qry i (arg2.view.read (Elt F) f2) (arg3.view.read (Elt F) f3) b) b (fp b).val⌝)

set_option maxHeartbeats 4000000 in
theorem trip1 (𝒱 : Variants) (c : Dev nD) (bd : Option 𝒱.V) (i : grid0.Coords) (arg1 : Memref sig .tc .smem S128 .i32) (harg1 : arg1.IsWhole) (arg2 : Memref sig .tc .vmem S8192x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S16x128x512 .bf16) (harg6 : arg6.IsWhole) (arg7 : Memref sig .tc .vmem S8192x128 .f32) (harg7 : arg7.IsWhole) (arg8 : Memref sig .tc .vmem S8192x128 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S128x1024 .f32) (harg14 : arg14.IsWhole) (arg15 : Memref sig .tc .vmem S1x1024 .f32) (harg15 : arg15.IsWhole) (arg16 : Memref sig .tc .vmem S1x1024 .f32) (harg16 : arg16.IsWhole) (arg0 : BitVec 32) (k0_t1 : Fin k0_t1_loop.trips) (E : Set ℕ)
   (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (fp : ℕ → Fin 8) (hw : Words i arg1 f1 fp) (hfp : ∀ b < 8, (fp b).val ≤ b) :
   inv1 c i arg1 arg2 arg3 arg4 arg5 arg6 arg7 arg8 arg9 arg10 arg11 arg12 arg13 arg14 arg15 arg16 f1 f2 f3 f4 f5 f6 f7 fp k0_t1.val
   ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_t1 PUnit.unit)
     (fun _ => inv1 c i arg1 arg2 arg3 arg4 arg5 arg6 arg7 arg8 arg9 arg10 arg11 arg12 arg13 arg14 arg15 arg16 f1 f2 f3 f4 f5 f6 f7 fp (k0_t1.val + 1)) := by
  have ht : k0_t1.val < 4 := k0_t1.isLt
  have w2 := fun x => hw (2 * k0_t1.val) (by omega) _ (k0_off3_inb i k0_t1) x (off3_eq i k0_t1)
  have w3 := fun x => hw (2 * k0_t1.val + 1) (by omega) _ (k0_off12_inb i k0_t1) x (off12_eq i k0_t1)
  have w4 := fun x => hw (2 * k0_t1.val + 1) (by omega) _ (k0_off17_inb i k0_t1) x (off17_eq i k0_t1)
  have w5 := fun x => hw (min (2 * k0_t1.val + 2) 7) (by omega) _ (k0_off26_inb i k0_t1) x (off26_eq i k0_t1)
  have n2 := hfp (2 * k0_t1.val) (by omega)
  have n4 := hfp (2 * k0_t1.val + 1) (by omega)
  have c2 : ∀ w, w = BitVec.ofNat 32 (fp (2 * k0_t1.val)).val → k0_chk2 k0_t1 w := fun w e => e ▸ chk2_ok k0_t1 _ n2
  have c3 : ∀ w, w = BitVec.ofNat 32 (fp (2 * k0_t1.val + 1)).val → k0_chk3 w := fun w e => e ▸ chk3_ok _
  have c4 : ∀ w, w = BitVec.ofNat 32 (fp (2 * k0_t1.val + 1)).val → k0_chk4 k0_t1 w := fun w e => e ▸ chk4_ok k0_t1 _ n4
  have c5 : ∀ w, w = BitVec.ofNat 32 (fp (min (2 * k0_t1.val + 2) 7)).val → k0_chk5 w := fun w e => e ▸ chk5_ok _
  unfold k0_t1_body inv1
  iintro ⟨H1, H2, H3, H4, H5, H6, H7, ⟨%f8, H8, %f9, H9, %f10, H10, %f11, H11, %f12, H12, %f13, H13, %f14, H14, %f15, H15, %f16, H16, %h⟩⟩
  sl_exec (disch := exact c2 _ (w2 _))
  have hv : trip1.sl.r i arg1 k0_t1 f1 = BitVec.ofNat 32 (fp (2 * k0_t1.val)).val := w2 _
  have hb0 : min (2 * k0_t1.val) 7 = 2 * k0_t1.val := by omega
  rw [hb0] at h
  obtain ⟨h9, h11, h8⟩ := h
  sl_for (fun k _ => inv2 c arg4 arg5 arg6 arg9 arg11 arg12 arg14 arg15 arg16 f4 f5 f6 f9 (fp (2 * k0_t1.val)).val k) $$ [H4 H5 H6 H9 H11 H12 H14 H15 H16]
  · intro k acc
    exact trip2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 _ _ k0_t1 _ n2 _ hv _ k E f4 f5 f6 f9
  · unfold inv2
    isplitl [H4]; · iexact H4
    isplitl [H5]; · iexact H5
    isplitl [H6]; · iexact H6
    isplitl [H9]; · iexact H9
    iexists _; isplitl [H11]; · iexact H11
    iexists _; isplitl [H12]; · iexact H12
    iexists _; isplitl [H14]; · iexact H14
    iexists _; isplitl [H15]; · iexact H15
    iexists _; isplitl [H16]; · iexact H16
    ipureintro
    sl_unfold_run_names
    simp only [stored_128x1024 arg14.view, stored_1x1024 arg15.view, stored_1x1024 arg16.view]
    rw [h11, h9]
    exact ⟨rfl, rfl⟩
  iintro %acc HI
  have e2 : Scf.trips (k0_t2_loop k0_t1 (trip1.sl.r i arg1 k0_t1 f1)).lb (k0_t2_loop k0_t1 (trip1.sl.r i arg1 k0_t1 f1)).ub (k0_t2_loop k0_t1 (trip1.sl.r i arg1 k0_t1 f1)).st = 2 * k0_t1.val - (fp (2 * k0_t1.val)).val := by rw [hv]; exact t2_trips k0_t1 _ n2
  have e3 : (k0_t3_loop k0_t1 (trip1.sl.r i arg1 k0_t1 f1)).trips = 0 := by rw [hv]; exact t3_trips k0_t1 _ n2
  rw [e2]
  unfold inv2
  icases HI with ⟨H4, H5, H6, H9, ⟨%g11, H11, %g12, H12, %g14, H14, %g15, H15, %g16, H16, %hI⟩⟩
  sl_for0 e3
  sl_exec (disch := first | exact c3 _ (w3 _) | exact c4 _ (w4 _))
  have hv4 : trip1.sl.r_11 i arg1 k0_t1 f1 = BitVec.ofNat 32 (fp (2 * k0_t1.val + 1)).val := w4 _
  have o13 := fun x => (congrArg k0_off13 (w3 x)).trans (off13_eq _)
  sl_for (fun k _ => inv2 c arg4 arg5 arg6 arg10 arg13 arg12 arg14 arg15 arg16 f4 f5 f6 (arg10.view.writes (Elt F) arg10.view.junk (trip1.sl.H10_1 i arg2 arg3 k0_t1 f2 f3)) (fp (2 * k0_t1.val + 1)).val k) $$ [H4 H5 H6 H10 H13 H12 H14 H15 H16]
  · intro k acc
    exact trip4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_t1 _ _ _ n4 _ hv4 _ k E f4 f5 f6 (arg10.view.writes (Elt F) arg10.view.junk (trip1.sl.H10_1 i arg2 arg3 k0_t1 f2 f3))
  · unfold inv2
    isplitl [H4]; · iexact H4
    isplitl [H5]; · iexact H5
    isplitl [H6]; · iexact H6
    isplitl [H10]; · iexact H10
    iexists _; isplitl [H13]; · iexact H13
    iexists _; isplitl [H12]; · iexact H12
    iexists _; isplitl [H14]; · iexact H14
    iexists _; isplitl [H15]; · iexact H15
    iexists _; isplitl [H16]; · iexact H16
    ipureintro
    sl_unfold_run_names
    simp only [stored_128x1024 arg14.view, stored_1x1024 arg15.view, stored_1x1024 arg16.view, stored_512x1024 arg13.view, stored_1024x256 arg10.view, reload_1024x256 arg10.view, readAt_rows _ _ _ (off11_eq k0_t1), readAt_rows _ _ _ (o13 _)]
    exact ⟨rfl, rfl⟩
  iintro %acc' HI
  have e4 : Scf.trips (k0_t4_loop k0_t1 (trip1.sl.r_11 i arg1 k0_t1 f1)).lb (k0_t4_loop k0_t1 (trip1.sl.r_11 i arg1 k0_t1 f1)).ub (k0_t4_loop k0_t1 (trip1.sl.r_11 i arg1 k0_t1 f1)).st = 2 * k0_t1.val + 1 - (fp (2 * k0_t1.val + 1)).val := by rw [hv4]; exact t4_trips k0_t1 _ n4
  have e5 : (k0_t5_loop k0_t1 (trip1.sl.r_11 i arg1 k0_t1 f1)).trips = 0 := by rw [hv4]; exact t5_trips k0_t1 _ n4
  rw [e4]
  unfold inv2
  icases HI with ⟨H4, H5, H6, H10, ⟨%d13, H13, %d12, H12, %d14, H14, %d15, H15, %d16, H16, %hJ⟩⟩
  sl_for0 e5
  sl_exec (disch := exact c5 _ (w5 _))
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; isplitl [H8]; · iexact H8
  iexists _; isplitl [H9]; · iexact H9
  iexists _; isplitl [H10]; · iexact H10
  iexists _; isplitl [H11]; · iexact H11
  iexists _; isplitl [H12]; · iexact H12
  iexists _; isplitl [H13]; · iexact H13
  iexists _; isplitl [H14]; · iexact H14
  iexists _; isplitl [H15]; · iexact H15
  iexists _; isplitl [H16]; · iexact H16
  ipureintro
  have h10 : arg10.view.read (Elt F) (arg10.view.writes (Elt F) arg10.view.junk (trip1.sl.H10_1 i arg2 arg3 k0_t1 f2 f3)) = qry i (arg2.view.read (Elt F) f2) (arg3.view.read (Elt F) f3) (2 * k0_t1.val + 1) := by
    sl_unfold_run_names
    simp only [stored_1024x256 arg10.view, readAt_rows _ _ _ (off11_eq k0_t1)]
    rfl
  rw [h10] at hJ
  rw [h9] at hI
  have hx0 : 2 * (fp (2 * k0_t1.val)).val + 2 * (2 * k0_t1.val - (fp (2 * k0_t1.val)).val) = 2 * (2 * k0_t1.val) := by omega
  have hx1 : 2 * (fp (2 * k0_t1.val + 1)).val + 2 * (2 * k0_t1.val + 1 - (fp (2 * k0_t1.val + 1)).val) = 2 * (2 * k0_t1.val + 1) := by omega
  rw [hx0] at hI
  rw [hx1] at hJ
  have hb2 : min (2 * (k0_t1.val + 1)) 7 = min (2 * k0_t1.val + 2) 7 := by congr 1
  have o27 := fun x => (congrArg k0_off27 (w5 x)).trans (off27_eq _)
  rw [hb2]
  refine ⟨?_, ?_, ?_⟩
  · clear hI hJ h8
    sl_unfold_run_names
    simp only [stored_1024x256 arg9.view, readAt_rows _ _ _ (off25_eq k0_t1)]
    rfl
  · clear hI hJ h8
    sl_unfold_run_names
    simp only [stored_1024x256 arg9.view, reload_1024x256 arg9.view, stored_512x1024 arg11.view, readAt_rows _ _ _ (off25_eq k0_t1), readAt_rows _ _ _ (o27 _)]
    rfl
  · obtain ⟨hI1, hI2⟩ := hI
    obtain ⟨hJ1, hJ2⟩ := hJ
    intro b hb
    rw [rows_stored _ _ _ _ (off30_eq k0_t1) _ _ _ (by omega)]
    split
    · next hbb =>
      subst hbb
      have hm := congrArg St.m hJ2
      have hl := congrArg St.l hJ2
      have ha := congrArg St.a hJ2
      dsimp only at hm hl ha
      sl_unfold_run_names
      simp only [View.readCov, View.writes_nil, load_lo arg11.view, load_hi arg11.view, stored_lo arg11.view, stored_hi arg11.view, load_lo arg12.view, load_hi arg12.view, stored_lo arg12.view, stored_hi arg12.view, load_lo arg13.view, load_hi arg13.view, stored_lo arg13.view, stored_hi arg13.view, load_lo arg14.view, load_hi arg14.view, stored_lo arg14.view, stored_hi arg14.view, load_lo arg15.view, load_hi arg15.view, stored_lo arg15.view, stored_hi arg15.view, load_lo arg16.view, load_hi arg16.view, stored_lo arg16.view, stored_hi arg16.view, load_128x1024 arg14.view, load_1x1024 arg16.view, stored_1024x256 arg10.view, load_bot arg10.view, load_bot arg9.view, lo_setLo, lo_setHi, hi_setLo, hi_setHi, hi_join, setHi_join, setHi_setLo, readAt_rows _ _ _ (off11_eq k0_t1), readAt_rows _ _ _ (off24_eq k0_t1), readAt_rows _ _ _ (off30_eq k0_t1), readAt_vblk _ _ _ (off28_eq k0_t1), readAt_vblk _ _ _ (off29_eq k0_t1)]
      rw [hm, hl, ha, hJ1]
      rfl
    · next hbb =>
      rw [rows_stored _ _ _ _ (off16_eq k0_t1) _ _ _ (by omega)]
      split
      · next hbc =>
        subst hbc
        have hm := congrArg St.m hI2
        have hl := congrArg St.l hI2
        have ha := congrArg St.a hI2
        dsimp only at hm hl ha
        sl_unfold_run_names
        simp only [View.readCov, View.writes_nil, load_lo arg11.view, load_hi arg11.view, stored_lo arg11.view, stored_hi arg11.view, load_lo arg12.view, load_hi arg12.view, stored_lo arg12.view, stored_hi arg12.view, load_lo arg13.view, load_hi arg13.view, stored_lo arg13.view, stored_hi arg13.view, load_lo arg14.view, load_hi arg14.view, stored_lo arg14.view, stored_hi arg14.view, load_lo arg15.view, load_hi arg15.view, stored_lo arg15.view, stored_hi arg15.view, load_lo arg16.view, load_hi arg16.view, stored_lo arg16.view, stored_hi arg16.view, load_128x1024 arg14.view, load_1x1024 arg16.view, stored_1024x256 arg10.view, load_bot arg10.view, load_bot arg9.view, lo_setLo, lo_setHi, hi_setLo, hi_setHi, hi_join, setHi_join, setHi_setLo, readAt_rows _ _ _ (off10_eq k0_t1), readAt_rows _ _ _ (off16_eq k0_t1), readAt_vblk _ _ _ (off14_eq k0_t1), readAt_vblk _ _ _ (off15_eq k0_t1)]
        rw [hm, hl, ha, hI1, h9]
        rfl
      · next hbc =>
        exact h8 b (by omega)

end Cert.KernelIdeal.Att
end
-- ==== Proof.Body.lean ====
module

public import proofs.«01_k».proof.Proof.Outer

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- What the body leaves in the rows of one head: query block `b` of 1024 rows is `outBlk` at its first key block. -/
def outHead (i : grid0.Coords) (x2 x3 x4 x5 : Vec F S8192x128 .bf16) (x6 : Vec F S16x128x512 .bf16) (x7 : Vec F S8192x128 .f32) (fp : ℕ → Fin 8) : Vec F S8192x128 .bf16 :=
  fun y => outBlk x4 x5 x6 x7 (qry i x2 x3 ((y 0).val / 1024)) ((y 0).val / 1024) (fp ((y 0).val / 1024)).val (ix2 (Fin.ofNat 1024 (y 0).val) (y 1))

/-- An array of 8192 rows whose 8 blocks of 1024 rows are `outBlk` is `outHead`. -/
theorem eq_outHead (i : grid0.Coords) (x2 x3 x4 x5 : Vec F S8192x128 .bf16) (x6 : Vec F S16x128x512 .bf16) (x7 : Vec F S8192x128 .f32) (fp : ℕ → Fin 8)
    (z : Vec F S8192x128 .bf16) (h : ∀ b < 8, rows 1024 z (1024 * b) = outBlk x4 x5 x6 x7 (qry i x2 x3 b) b (fp b).val) : z = outHead i x2 x3 x4 x5 x6 x7 fp := by
  funext y
  have hy : (y 0).val < 8192 := (y 0).isLt
  unfold outHead
  rw [← h _ (by omega)]
  unfold rows
  refine congrArg z (funext fun a => Fin.ext ?_)
  match a with
  | 0 =>
    show (y 0).val = (1024 * ((y 0).val / 1024) + (y 0).val % 1024) % 8192
    omega
  | 1 => rfl

set_option maxHeartbeats 4000000 in
/-- The body of one head: on whole staging buffers holding the head's blocks, and on the plan's words, it ends with the
    head's rows in the output's buffer and everything it reads as it was. -/
theorem body_run (𝒱 : Variants) (c : Dev nD) (bd : Option 𝒱.V) (i : grid0.Coords) (arg1 : Memref sig .tc .smem S128 .i32) (harg1 : arg1.IsWhole) (arg2 : Memref sig .tc .vmem S8192x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S16x128x512 .bf16) (harg6 : arg6.IsWhole) (arg7 : Memref sig .tc .vmem S8192x128 .f32) (harg7 : arg7.IsWhole) (arg8 : Memref sig .tc .vmem S8192x128 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S128x1024 .f32) (harg14 : arg14.IsWhole) (arg15 : Memref sig .tc .vmem S1x1024 .f32) (harg15 : arg15.IsWhole) (arg16 : Memref sig .tc .vmem S1x1024 .f32) (harg16 : arg16.IsWhole) (E : Set ℕ) (K : PUnit → sProp 𝕄G)
   (x2 : S8192x128.Idx → Elt F .bf16) (x3 : S8192x128.Idx → Elt F .bf16) (x4 : S8192x128.Idx → Elt F .bf16) (x5 : S8192x128.Idx → Elt F .bf16) (x6 : S16x128x512.Idx → Elt F .bf16) (x7 : S8192x128.Idx → Elt F .f32) (f1 : BufTy.Contents (Elt F) arg1.view.ty) (fp : ℕ → Fin 8) (hw : Words i arg1 f1 fp) (hfp : ∀ b < 8, (fp b).val ≤ b) :
   iprop(tblAt c arg1 f1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
     ∗ (iprop(tblAt c arg1 f1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outHead i x2 x3 x4 x5 x6 x7 fp) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
   ⊢ wp frame (wpE (defs₀ (F := F)) 𝒱 (c : Thread nD τ) bd) E (cc0_forgetting_attention (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have r0 : (![0, 0] : Fin 2 → ℕ) = ![1024 * 0, 0] := rfl
  have t1_trips : Scf.trips k0_t1_loop.lb k0_t1_loop.ub k0_t1_loop.st = 4 := by decide +kernel
  have w1 := fun x => hw 0 (by omega) _ (k0_off1_inb i) x (off1_eq i)
  have c1 : ∀ w, w = BitVec.ofNat 32 (fp 0).val → k0_chk1 w := fun w e => e ▸ chk1_ok _
  have o2 := fun x => (congrArg k0_off2 (w1 x)).trans (off2_eq _)
  simp only [cc0_forgetting_attention_eq_skeleton]; unfold cc0_forgetting_attention_skel
  simp only [k0_part20_eq_skeleton]; unfold k0_part20_skel
  unfold owns
  iintro ⟨H1, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  sl_exec (disch := exact c1 _ (w1 _))
  rw [Prog.bind_assoc]
  sl_for (fun k _ => inv1 c i arg1 arg2 arg3 arg4 arg5 arg6 arg7 arg8 arg9 arg10 arg11 arg12 arg13 arg14 arg15 arg16 f1 f2 f3 f4 f5 f6 f7 fp k) $$ [H1 H2 H3 H4 H5 H6 H7 H8 H9 H10 H11 H12 H13 H14 H15 H16]
  · intro k acc
    exact trip1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ k E f1 f2 f3 f4 f5 f6 f7 fp hw hfp
  · unfold inv1
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; isplitl [H8]; · iexact H8
    iexists _; isplitl [H9]; · iexact H9
    iexists _; isplitl [H10]; · iexact H10
    iexists _; isplitl [H11]; · iexact H11
    iexists _; isplitl [H12]; · iexact H12
    iexists _; isplitl [H13]; · iexact H13
    iexists _; isplitl [H14]; · iexact H14
    iexists _; isplitl [H15]; · iexact H15
    iexists _; isplitl [H16]; · iexact H16
    ipureintro
    refine ⟨?_, ?_, fun b hb => absurd hb (by omega)⟩
    · sl_unfold_run_names
      simp only [stored_1024x256 arg9.view, readAt_rows _ _ _ r0]
      rfl
    · sl_unfold_run_names
      simp only [stored_1024x256 arg9.view, reload_1024x256 arg9.view, stored_512x1024 arg11.view, readAt_rows _ _ _ r0, readAt_rows _ _ _ (o2 _)]
      rfl
  iintro %acc HI
  unfold inv1
  icases HI with ⟨H1, H2, H3, H4, H5, H6, H7, ⟨%g8, H8, %g9, H9, %g10, H10, %g11, H11, %g12, H12, %g13, H13, %g14, H14, %g15, H15, %g16, H16, %h⟩⟩
  sl_exec
  sl_step
  iapply Hk
  isplitl [H1]; · iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    refine eq_outHead _ _ _ _ _ _ _ _ _ fun b hb => ?_
    rw [← hf2, ← hf3, ← hf4, ← hf5, ← hf6, ← hf7]
    exact h.2.2 b (by rw [t1_trips]; omega)
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  iexists _; iexists _; isplitr
  swap; · iexact H16
  ipureintro; rfl

end Cert.KernelIdeal.Att
end
-- ==== Proof.Run.lean ====
module

public import proofs.«01_k».proof.Proof.Body
public import proofs.«01_k».proof.Proof.Gen.KernelIdeal.Launch
public import Idealize.ShloMosaic.Lib.Pipeline.FrameBody
public import Idealize.ShloMosaic.Lib.Claim
public import Idealize.ShloMosaic.Lib.Tactic

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-! ## The launch: the entry contents, the table, the windows' blocks -/

/-- Core `c`'s buffers when the region is entered: as launched. -/
abbrev V (c : Dev nD) (b : Ref sig .tc) : Buf (Elt F) ((c : Thread nD τ).loc b) := m ((c : Thread nD τ).loc b)

set_option maxHeartbeats 800000 in
/-- The program is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table's contents when the region is entered. -/
def tbl : pre0.Contents (Elt F) := fun j => V m (0 : Dev nD) (pre0.ref j)
/-- There is one device. -/
theorem V_pre (c : Dev nD) (j : Fin 1) : V m c (pre0.ref j) = tbl m j := by
  obtain rfl : c = 0 := Subsingleton.elim _ _; rfl
/-- Any contents of the table are admissible: no window's index reads it. -/
abbrev adm : (pcfg0 (F := F)).Adm := ⟨tbl m, trivial⟩
abbrev cfgM : Pipeline.Cfg sig Λ₀ := cfg0 (adm m)

/-- The table as the body is handed it. -/
abbrev tbM : Memref sig .tc .smem S128 .i32 := Memref.whole main_arg0
abbrev htbM : tbM.IsWhole := Memref.isWhole_whole _

/-- The half of the table the region hands the body. -/
theorem PhiT_eq (c : Dev nD) : (Pipeline.ΦT pre0 (tbl m) c : sProp 𝕄G) = iprop(tblAt c tbM (tbl m 0)) := by
  unfold Pipeline.ΦT Pipeline.prefHeld
  rw [show (Finset.univ : Finset (Fin 1)) = {(0 : Fin 1)} from by decide, bigSep_singleton]
  rfl

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's staging buffer holds its block at every point. -/
theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point. -/
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point. -/
theorem before2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point. -/
theorem before3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point. -/
theorem before4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point. -/
theorem before5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Window 0's current staging buffer at point `t`. -/
abbrev ms0 (t : Fin (cfgM m).N) : Memref sig .tc .vmem S8192x128 .bf16 := spec0_0.stage ((cfgM m).slots t 0)
/-- Window 1's current staging buffer at point `t`. -/
abbrev ms1 (t : Fin (cfgM m).N) : Memref sig .tc .vmem S8192x128 .bf16 := spec0_1.stage ((cfgM m).slots t 1)
/-- Window 2's current staging buffer at point `t`. -/
abbrev ms2 (t : Fin (cfgM m).N) : Memref sig .tc .vmem S8192x128 .bf16 := spec0_2.stage ((cfgM m).slots t 2)
/-- Window 3's current staging buffer at point `t`. -/
abbrev ms3 (t : Fin (cfgM m).N) : Memref sig .tc .vmem S8192x128 .bf16 := spec0_3.stage ((cfgM m).slots t 3)
/-- Window 4's current staging buffer at point `t`. -/
abbrev ms4 (t : Fin (cfgM m).N) : Memref sig .tc .vmem S16x128x512 .bf16 := spec0_4.stage ((cfgM m).slots t 4)
/-- Window 5's current staging buffer at point `t`. -/
abbrev ms5 (t : Fin (cfgM m).N) : Memref sig .tc .vmem S8192x128 .f32 := spec0_5.stage ((cfgM m).slots t 5)
/-- Window 6's current staging buffer at point `t`. -/
abbrev ms6 (t : Fin (cfgM m).N) : Memref sig .tc .vmem S8192x128 .bf16 := spec0_6.stage ((cfgM m).slots t 6)
abbrev scM0 : Memref sig .tc .vmem S1024x256 .bf16 := Memref.whole cc0_scratch0
abbrev scM1 : Memref sig .tc .vmem S1024x256 .bf16 := Memref.whole cc0_scratch1
abbrev scM2 : Memref sig .tc .vmem S512x1024 .f32 := Memref.whole cc0_scratch2
abbrev scM3 : Memref sig .tc .vmem S512x1024 .f32 := Memref.whole cc0_scratch3
abbrev scM4 : Memref sig .tc .vmem S512x1024 .f32 := Memref.whole cc0_scratch4
abbrev scM5 : Memref sig .tc .vmem S128x1024 .f32 := Memref.whole cc0_scratch5
abbrev scM6 : Memref sig .tc .vmem S1x1024 .f32 := Memref.whole cc0_scratch6
abbrev scM7 : Memref sig .tc .vmem S1x1024 .f32 := Memref.whole cc0_scratch7

/-- The scratch buffers as memrefs owned at some contents. -/
theorem PhiA_eq (c : Dev nD) :
    (Pipeline.ΦA spec0 c : sProp 𝕄G)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) := by
  unfold Pipeline.ΦA; rw [scopedRest0_eq]; simp only [scM0, scM1, scM2, scM3, scM4, scM5, scM6, scM7, owns_whole]; try rfl

/-- The kernel body at point `t`, on what the pipeline calls it with. -/
abbrev bodyAt (a : (pcfg0 (F := F)).Adm) (t : Fin (cfg0 a).N) : Prog (TpuEff nD τ sig (Elt F) Λ₀ .tc) PUnit :=
  cc0_forgetting_attention (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

/-! ## The plan's words -/

/-- Word `8 h + b` of the plan. -/
def word (h b : ℕ) : BitVec 32 := (m (((0 : Dev nD) : Thread nD τ).loc main_arg0) : S128.Idx → BitVec 32) (fun | 0 => Fin.ofNat 128 (8 * h + b))
/-- Half the first key block of query block `b` of head `h`. -/
def fpw (h b : ℕ) : Fin 8 := Fin.ofNat 8 (word m h b).toNat
/-- The plan is in range: no query block starts after its own key blocks. -/
def Ok : Prop := ∀ h < 16, ∀ b < 8, (word m h b).toNat ≤ b

theorem fpw_val (hO : Ok m) (h b : ℕ) (hh : h < 16) (hb : b < 8) : (fpw m h b).val = (word m h b).toNat := by
  have := hO h hh b hb
  show (word m h b).toNat % 8 = _
  exact Nat.mod_eq_of_lt (by omega)

/-- The words the body reads at point `i` are the plan's of head `i`. -/
theorem words_ok (hO : Ok m) (i : grid0.Coords) : Words i tbM (tbl m 0) (fpw m (i 0).val) := by
  intro b hb off inb x ho
  subst ho
  have hi : (i 0).val < 16 := (i 0).isLt
  have hx : (x 0).val < 1 := (x 0).isLt
  rw [fpw_val m hO _ _ hi hb, BitVec.ofNat_toNat, BitVec.setWidth_eq]
  unfold word
  refine congrArg (m (((0 : Dev nD) : Thread nD τ).loc main_arg0) : S128.Idx → BitVec 32) (funext fun a => Fin.ext ?_)
  match a with
  | 0 =>
    show 8 * (i 0).val + b + 1 * (x 0).val = (8 * (i 0).val + b) % 128
    rw [Nat.mod_eq_of_lt (by omega)]; omega

theorem fpw_le (hO : Ok m) (i : grid0.Coords) : ∀ b < 8, (fpw m (i 0).val b).val ≤ b := fun b hb => by
  have hi : (i 0).val < 16 := (i 0).isLt
  rw [fpw_val m hO _ _ hi hb]; exact hO _ hi b hb

/-! ## The proof data -/

/-- What the output's buffer holds after point `t`. -/
def outAt (c : Dev nD) (t : Fin (cfgM m).N) : Vec F S8192x128 .bf16 :=
  outHead (grid0.coords t) (iblk m c 0 t) (iblk m c 1 t) (iblk m c 2 t) (iblk m c 3 t) (iblk m c 4 t) (iblk m c 5 t) (fpw m (grid0.coords t 0).val)

/-- The proof data: the arrays as the region finds them, each input's buffer at its block after every point, the output's at
    `outAt`; windows on one array share it. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := iprop(Pipeline.ΦA spec0 c ∗ Pipeline.ΦT pre0 (tbl m) c)
  q w := Pipeline.shareOf spec0 w
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl
theorem after5 (c : Dev nD) (t : Fin (cfgM m).N) : (dats m 0 c).after 5 t = iblk m c 5 t := by dsimp only [dats]; try rfl
theorem after6 (c : Dev nD) (t : Fin (cfgM m).N) : (dats m 0 c).after 6 t = outAt m c t := by dsimp only [dats]; try rfl
theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d
theorem before2 (c : Dev nD) (t : Fin (cfgM m).N) (d) : (dats m 0 c).before 2 t d = iblk m c 2 t :=
  before2_of m (dats m 0 c) (A_eq m c 2) (after2 m c) t d
theorem before3 (c : Dev nD) (t : Fin (cfgM m).N) (d) : (dats m 0 c).before 3 t d = iblk m c 3 t :=
  before3_of m (dats m 0 c) (A_eq m c 3) (after3 m c) t d
theorem before4 (c : Dev nD) (t : Fin (cfgM m).N) (d) : (dats m 0 c).before 4 t d = iblk m c 4 t :=
  before4_of m (dats m 0 c) (A_eq m c 4) (after4 m c) t d
theorem before5 (c : Dev nD) (t : Fin (cfgM m).N) (d) : (dats m 0 c).before 5 t d = iblk m c 5 t :=
  before5_of m (dats m 0 c) (A_eq m c 5) (after5 m c) t d

/-! ## The body obligation -/

/-- What the body is called with at point `t`, -/
def bodyPre (c : Dev nD) (t : Fin (cfgM m).N) : sProp 𝕄G :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d)))
/-- and what it returns. -/
def bodyPost (c : Dev nD) (t : Fin (cfgM m).N) : sProp 𝕄G :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t))

set_option maxHeartbeats 2000000 in
theorem sound_body (hO : Ok m) (c : Dev nD) (t : Fin (cfgM m).N) :
    bodyPre m c t ⊢ wp frame (wpE (defs₀ (F := F)) Variants.none c none) Set.univ (bodyAt (adm m) t) (fun _ => bodyPost m c t) := by
  unfold bodyPre bodyPost bodyAt
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = iprop(Pipeline.ΦA spec0 c ∗ Pipeline.ΦT pre0 (tbl m) c) from rfl, PhiT_eq, PhiA_eq]
  unfold outAt
  iintro ⟨⟨⟨⟨HS0, HS1, HS2, HS3, HS4, HS5, HS6, HS7⟩, Hg⟩, HT⟩, Ho, ⟨%d0, H0⟩, ⟨%d1, H1⟩, ⟨%d2, H2⟩, ⟨%d3, H3⟩, ⟨%d4, H4⟩, ⟨%d5, H5⟩, ⟨%d6, H6⟩⟩
  iapply (body_run Variants.none c none (grid0.coords t) _ _ _ _ _ _ _ _ _ _ _ _ _ _ _ _ _ _ _ _ _ _ _ _ _ _ _ _ _ _ _ _ Set.univ _ (iblk m c 0 t) (iblk m c 1 t) (iblk m c 2 t) (iblk m c 3 t) (iblk m c 4 t) (iblk m c 5 t) (tbl m 0) _ (words_ok m hO _) (fpw_le m hO _))
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨HT, H0, H1, H2, H3, H4, H5, H6, HS0, HS1, HS2, HS3, HS4, HS5, HS6, HS7⟩
  isplitl [HS0 HS1 HS2 HS3 HS4 HS5 HS6 HS7 Hg HT]
  · isplitl [HS0 HS1 HS2 HS3 HS4 HS5 HS6 HS7 Hg]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin (cfgM m).N) :
    defs₀ (F := F) .tc (cfgM m).body ((cfgM m).bodyArgs t ((cfgM m).slots t)) = bodyAt (adm m) t := by
  unfold defs₀; rw [Defs.onTc_tc]

theorem body_obligation (hO : Ok m) (c : Dev nD) : BodyObligation (dats (F := F) m 0 c) (defs₀ (F := F)) Variants.none () Set.univ := fun t => by
  rw [bigSep_W0, bigSep_W0, defs₀_row m]
  exact triple_restated (sound_body m hO c t) rfl .rfl fun _ => .rfl

/-! ## The run -/

set_option backward.isDefEq.respectTransparency.types false in
/-- Every execution ends with each array of the call at what the proof data name, and every semaphore counter at zero. -/
theorem run_main (hO : Ok m) : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP_shared (Q' := _) pcfgs (fun _ => adm m) (dats m) (0 : Fin 1) launch₀0 defs₀ Variants.none m ρ main
    (hbody := fun c => (body_obligation m hO c).loose) (hq := fun c w _ => rfl)
    (howed := fun _ _ => rfl) (V := V m) (hmain := hmain m Variants.none) (hA := A_eq m) (hpf := V_pre m)
    (hΦ := fun _ _ => rfl)

/-- The argument arrays end unchanged, the result is the output window's array, every counter is zero. -/
theorem run_args (hO : Ok m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v0) = (dats m 0 c).arrAt 6 (cfgM m).N)
      ∧ r.2.sem = fun _ => 0) :=
  (θ_run defs _ _).mono (fun _ h => ⟨fun c => ⟨⟨((h.1 c).2 main_arg0 (by decide : main_arg0 ∈ Pipeline.restRefs sig spec0)),
      ((h.1 c).1 0).trans (((dats m 0 c).arrAt_in 0 rfl _).trans (A_eq m c 0)),
      ((h.1 c).1 4).trans (((dats m 0 c).arrAt_in 4 rfl _).trans (A_eq m c 4)),
      ((h.1 c).1 1).trans (((dats m 0 c).arrAt_in 1 rfl _).trans (A_eq m c 1)),
      ((h.1 c).1 3).trans (((dats m 0 c).arrAt_in 3 rfl _).trans (A_eq m c 3)),
      ((h.1 c).1 5).trans (((dats m 0 c).arrAt_in 5 rfl _).trans (A_eq m c 5))⟩, (h.1 c).1 6⟩, h.2⟩) (run_main m ρ hO)

end Cert.KernelIdeal.Att
end
-- ==== Proof.Pre.lean ====
/- The precondition read: every word of the plan lies between 0 and its query block's number. -/
module

public import proofs.«01_k».proof.Defs
public import proofs.«01_k».proof.Proof.Gen.Pre_first_pair_in_range
public import proofs.«01_k».proof.Proof.Run
public import Idealize.ShloMosaic.Lib.StableHlo.Predicate

@[expose] public section

noncomputable section

namespace Cert.KernelIdeal.Att

open Idealize.ShloMosaic Idealize.ShloMosaic.TcCoe Idealize.SL.Sem

/-- The number of its block that the precondition computes for each entry, entry by entry. -/
theorem block_number : ∀ n : Fin 128, Cert.Pre_first_pair_in_range.fn_remainder (F := Bits) (iotaInDim Cert.Pre_first_pair_in_range.S128 32 0)
    (constantI Cert.Pre_first_pair_in_range.S_ 32 8#32) (fun | 0 => n) = BitVec.ofNat 32 (n.val % 8) := by decide +kernel

/-- A word that is at least zero and at most a small number, both signed, is that small as a natural number. -/
theorem small_word (x : BitVec 32) (k : ℕ) (hk : k < 8) (h0 : IntOp.cmpi .sge x 0#32 = 1#1) (h1 : IntOp.cmpi .sle x (BitVec.ofNat 32 k) = 1#1) :
    x.toNat ≤ k := by
  unfold IntOp.cmpi at h0 h1
  simp only [StableHlo.Predicate.ofBool_eq_one_iff, BitVec.sle, decide_eq_true_eq] at h0 h1
  rw [StableHlo.Predicate.toInt_ofNat_small k (by omega)] at h1
  have h2 : (0#32 : BitVec 32).toInt = 0 := by decide
  have hx := BitVec.toInt_eq_toNat_cond x
  have hb := x.isLt
  split at hx <;> omega

/-- Two bits whose conjunction is one are both one. -/
theorem both_bits : ∀ a b : BitVec 1, IntOp.andi a b = 1#1 → a = 1#1 ∧ b = 1#1 := by decide

/-- Where the precondition holds of a plan, its entry `n` is at most the number of its query block. -/
theorem words_small {F : FTy → Type} [FloatOps F] (a : IVec S128 32) (x1 : FVec F S8192x4096 .bf16) (x2 : FVec F S16x2048x512 .bf16)
    (x3 x4 : FVec F S8192x128 .bf16) (x5 : FVec F S8192x2048 .f32)
    (h : Cert.Pre_first_pair_in_range.fn (F := F) a x1 x2 x3 x4 x5 = fun _ => 1#1) (n : Fin 128) : (a (fun | 0 => n)).toNat ≤ n.val % 8 := by
  have hn := congrFun h (fun | 0 => n)
  have hb : Cert.Pre_first_pair_in_range.fn_remainder (F := F) (iotaInDim Cert.Pre_first_pair_in_range.S128 32 0)
    (constantI Cert.Pre_first_pair_in_range.S_ 32 8#32) (fun | 0 => n) = BitVec.ofNat 32 (n.val % 8) := block_number n
  obtain ⟨h0, h1⟩ := both_bits _ _ hn
  refine small_word _ _ (Nat.mod_lt _ (by decide)) h0 ?_
  rw [← hb]
  exact h1

/-- The precondition puts the plan in range. -/
theorem ok_of {F : FTy → Type} [FloatOps F] (m : (ℓ : Loc nD τ sig) → Buf (Elt F) ℓ)
    (h : Cert.Pre_first_pair_in_range.fn (F := F) (m (((0 : Dev nD) : Thread nD τ).loc main_arg0)) (m (((0 : Dev nD) : Thread nD τ).loc main_arg1))
      (m (((0 : Dev nD) : Thread nD τ).loc main_arg2)) (m (((0 : Dev nD) : Thread nD τ).loc main_arg3))
      (m (((0 : Dev nD) : Thread nD τ).loc main_arg4)) (m (((0 : Dev nD) : Thread nD τ).loc main_arg5)) = fun _ => 1#1) : Ok m := by
  intro k hk b hb
  have := words_small _ _ _ _ _ _ h (Fin.ofNat 128 (8 * k + b))
  have e : (Fin.ofNat 128 (8 * k + b)).val % 8 = b := by
    rw [Fin.val_ofNat]; omega
  rw [e] at this
  exact this

end Cert.KernelIdeal.Att
end
-- ==== Proof.Same.lean ====
/- The program as printed and its idealization are one text: read at the machine's floats their definitions are equal. -/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

/-- The kernel body of the two. -/
theorem body_same : @Cert.Kernel.cc0_forgetting_attention Bits _ _ = @Cert.KernelIdeal.cc0_forgetting_attention Bits _ _ := rfl

/-- Their body tables. -/
theorem defs₀_same : @Cert.Kernel.defs₀ Bits _ _ = @Cert.KernelIdeal.defs₀ Bits _ _ := by
  unfold Cert.Kernel.defs₀ Cert.KernelIdeal.defs₀
  refine congrArg Defs.onTc (funext fun l => funext fun a => ?_)
  match l, a with
  | 0, (t, s) =>
    show Cert.Kernel.cc0_forgetting_attention _ _ _ _ _ _ _ _ _ _ _ _ _ _ _ _ _ _ _ _ _ _ _ _ _ _ _ _ _ _ _ _ _ = _
    rw [body_same]; rfl

/-- Their definitions. -/
theorem defs_same : @Cert.Kernel.defs Bits _ _ = @Cert.KernelIdeal.defs Bits _ _ := by
  unfold Cert.Kernel.defs Cert.KernelIdeal.defs
  rw [defs₀_same]
  rfl

/-- Their entry points. -/
theorem main_same : @Cert.Kernel.main Bits _ _ = @Cert.KernelIdeal.main Bits _ _ := rfl

end Cert.Proof
end
-- ==== Proof.Fin.lean ====
/- The precondition of the value claim read: the plan lies in range, and every entry of the queries, of the keys and of the
   two bias factors is a real number. -/
module

public import proofs.«01_k».proof.Defs
public import proofs.«01_k».proof.Proof.Gen.Pre_finite_logits
public import proofs.«01_k».proof.Proof.Pre
public import proofs.«01_k».proof.Proof.Att

@[expose] public section

set_option maxRecDepth 16384

noncomputable section

namespace Cert.KernelIdeal.Att

open Idealize.ShloMosaic Idealize.ShloMosaic.TcCoe Idealize.SL.Sem Idealize.ShloMosaic.Tactic

/-- The number of its block that the precondition computes for each entry, entry by entry. -/
theorem block_number' : ∀ n : Fin 128, Cert.Pre_finite_logits.fn_remainder (F := Bits) (iotaInDim Cert.Pre_finite_logits.S128 32 0)
    (constantI Cert.Pre_finite_logits.S_ 32 8#32) (ix1 n) = BitVec.ofNat 32 (n.val % 8) := by decide +kernel

/-- A number below plus infinity and above minus infinity is real. -/
theorem real_of_bits (x : EReal) (h : IntOp.andi (BitVec.ofBool (decide (x < Ideal.ofBits .f32 2139095040#32))) (BitVec.ofBool (decide (Ideal.ofBits .f32 4286578688#32 < x))) = 1#1) :
    Cert.Att.Real x := by
  have ht : Ideal.ofBits .f32 2139095040#32 = ⊤ := by simp [Ideal.ofBits, Ideal.ieee]
  have hb : Ideal.ofBits .f32 4286578688#32 = ⊥ := by simp [Ideal.ofBits, Ideal.ieee]
  obtain ⟨h1, h2⟩ := both_bits _ _ h
  rw [StableHlo.Predicate.ofBool_eq_one_iff, decide_eq_true_eq] at h1 h2
  rw [ht] at h1
  rw [hb] at h2
  exact ⟨h1.ne, h2.ne'⟩

/-- What the precondition says at an index. -/
theorem fin_at (a : IVec Cert.Pre_finite_logits.S128 32) (x1 : FVec Ideal Cert.Pre_finite_logits.S8192x4096 .bf16) (x2 : FVec Ideal Cert.Pre_finite_logits.S16x2048x512 .bf16)
    (x3 x4 : FVec Ideal Cert.Pre_finite_logits.S8192x128 .bf16) (x5 : FVec Ideal Cert.Pre_finite_logits.S8192x2048 .f32) (r : Fin 8192) (s : Fin 32) (n : Fin 128)
    (h : Cert.Pre_finite_logits.fn (F := Ideal) a x1 x2 x3 x4 x5 (ix3 r s n) = 1#1) :
    (Cert.Att.Real (x1 (ix2 r ⟨s.val * 128 + n.val, by omega⟩)) ∧ Cert.Att.Real (x3 (ix2 r n)) ∧ Cert.Att.Real (x4 (ix2 r n))) ∧ (a (ix1 n)).toNat ≤ n.val % 8 := by
  have hb : Cert.Pre_finite_logits.fn_remainder (F := Ideal) (iotaInDim Cert.Pre_finite_logits.S128 32 0)
    (constantI Cert.Pre_finite_logits.S_ 32 8#32) (ix1 n) = BitVec.ofNat 32 (n.val % 8) := block_number' n
  unfold Cert.Pre_finite_logits.fn Cert.Pre_finite_logits.fn_part1 at h
  revert h
  pointwise
  intro h
  obtain ⟨h, hp⟩ := both_bits _ _ h
  obtain ⟨h1, h⟩ := both_bits _ _ h
  obtain ⟨h3, h4⟩ := both_bits _ _ h
  obtain ⟨p0, p1⟩ := both_bits _ _ hp
  refine ⟨⟨real_of_bits _ h1, real_of_bits _ h3, real_of_bits _ h4⟩, small_word _ _ (Nat.mod_lt _ (by decide)) p0 ?_⟩
  rw [← hb]
  exact p1

/-- A word of the plan, at its index. -/
theorem word_eq {F : FTy → Type} [FloatOps F] (m : (ℓ : Loc nD τ sig) → Buf (Elt F) ℓ) (h b : ℕ) :
    word m h b = (m (((0 : Dev nD) : Thread nD τ).loc main_arg0) : S128.Idx → BitVec 32) (ix1 (Fin.ofNat 128 (8 * h + b))) :=
  congrArg (m (((0 : Dev nD) : Thread nD τ).loc main_arg0) : S128.Idx → BitVec 32) (funext fun a => by
    match a with
    | 0 => rfl)

/-- The precondition puts the plan in range and makes the factors of the logits real. -/
theorem fin_of (m : (ℓ : Loc nD τ sig) → Buf (Elt Ideal) ℓ)
    (h : Cert.Pre_finite_logits.fn (F := Ideal) (m (((0 : Dev nD) : Thread nD τ).loc main_arg0)) (m (((0 : Dev nD) : Thread nD τ).loc main_arg1))
      (m (((0 : Dev nD) : Thread nD τ).loc main_arg2)) (m (((0 : Dev nD) : Thread nD τ).loc main_arg3))
      (m (((0 : Dev nD) : Thread nD τ).loc main_arg4)) (m (((0 : Dev nD) : Thread nD τ).loc main_arg5)) = fun _ => 1#1) :
    Ok m ∧ (∀ i, Cert.Att.Real (m (((0 : Dev nD) : Thread nD τ).loc main_arg1) i)) ∧ (∀ i, Cert.Att.Real (m (((0 : Dev nD) : Thread nD τ).loc main_arg3) i))
      ∧ ∀ i, Cert.Att.Real (m (((0 : Dev nD) : Thread nD τ).loc main_arg4) i) := by
  have H := fun r s n => fin_at _ _ _ _ _ _ r s n (congrFun h (ix3 r s n))
  refine ⟨fun k hk b hb => ?_, fun i => ?_, fun i => ?_, fun i => ?_⟩
  · have := (H 0 0 (Fin.ofNat 128 (8 * k + b))).2
    have e : (Fin.ofNat 128 (8 * k + b)).val % 8 = b := by
      rw [Fin.val_ofNat]; omega
    rw [e] at this
    rw [word_eq]
    exact this
  · idx_vars i
    have := (H i0 ⟨i1.val / 128, by omega⟩ ⟨i1.val % 128, by omega⟩).1.1
    have e : (⟨i1.val / 128 * 128 + i1.val % 128, by omega⟩ : Fin 4096) = i1 := Fin.ext (by show i1.val / 128 * 128 + i1.val % 128 = i1.val; omega)
    rw [e] at this
    exact this
  · idx_vars i
    exact (H i0 0 i1).1.2.1
  · idx_vars i
    exact (H i0 0 i1).1.2.2

end Cert.KernelIdeal.Att
end
-- ==== Proof.Cols.lean ====
/- One column of the running softmax: what a step makes of one query's running values, read at an index. -/
module

public import proofs.«01_k».proof.Proof.Val
public import proofs.«01_k».proof.Proof.Soft
public import Idealize.ShloMosaic.Lib.StableHlo.Predicate

@[expose] public section

set_option maxRecDepth 16384

noncomputable section

namespace Cert.KernelIdeal.Att

open Idealize.ShloMosaic Idealize.ShloMosaic.TcCoe Idealize.ShloMosaic.Tactic
open Cert.KernelIdeal Cert.KernelIdeal.Gen

/-- The word of the mask is minus infinity. -/
theorem neg_inf : Ideal.ofBits .f32 0xFF800000#32 = ⊥ := by
  simp [Ideal.ofBits, Ideal.ieee]

theorem init_m (c : Fin 1024) : (St.init (F := Ideal)).m (ix2 0 c) = (⊥ : EReal) := by
  show k0_pay49 (F := Ideal) (ix2 0 c) = _
  pointwise [k0_pay49]
  exact neg_inf

theorem init_l (c : Fin 1024) : (St.init (F := Ideal)).l (ix2 0 c) = (0 : EReal) := by
  show k0_pay50 (F := Ideal) (ix2 0 c) = _
  pointwise [k0_pay50]

theorem init_a (d : Fin 128) (c : Fin 1024) : (St.init (F := Ideal)).a (ix2 d c) = (0 : EReal) := by
  show k0_pay51 (F := Ideal) (ix2 d c) = _
  pointwise [k0_pay51]

section Step
variable (s : Vec Ideal S512x1024 .f32) (v : Vec Ideal S1x128x512 .bf16) (t : St Ideal) (d : Fin 128) (c : Fin 1024)

/-- A full key block: the new maximum. -/
theorem upd_m : (St.upd s v t).m (ix2 0 c) = max (t.m (ix2 0 c)) (Finset.univ.fold max ⊥ fun j : Fin 512 => (s (ix2 j c) : EReal)) := by
  show k0_pay8 (F := Ideal) (k0_pay2 s t.m) (ix2 0 c) = _
  pointwise [k0_pay8, k0_pay2]
  rw [neg_inf]

/-- A full key block: the new sum of weights. -/
theorem upd_l : (St.upd s v t).l (ix2 0 c) = Ideal.exp2 (t.m (ix2 0 c) - (St.upd s v t).m (ix2 0 c)) * t.l (ix2 0 c)
    + ∑ j : Fin 512, Ideal.exp2 (s (ix2 j c) - (St.upd s v t).m (ix2 0 c)) := by
  show k0_pay5 (F := Ideal) s t.m t.l (ix2 0 c) = Ideal.exp2 (t.m (ix2 0 c) - k0_pay8 (F := Ideal) (k0_pay2 s t.m) (ix2 0 c)) * t.l (ix2 0 c)
    + ∑ j : Fin 512, Ideal.exp2 (s (ix2 j c) - k0_pay8 (F := Ideal) (k0_pay2 s t.m) (ix2 0 c))
  pointwise [k0_pay5, k0_pay3, k0_pay4, k0_pay8]
  rfl

/-- A full key block: the new weighted sum of values. -/
theorem upd_a : (St.upd s v t).a (ix2 d c) = Ideal.exp2 (t.m (ix2 0 c) - (St.upd s v t).m (ix2 0 c)) * t.a (ix2 d c)
    + ∑ j : Fin 512, v (ix3 0 d j) * Ideal.exp2 (s (ix2 j c) - (St.upd s v t).m (ix2 0 c)) := by
  show k0_pay7 (F := Ideal) (k0_pay3 s t.m) (k0_pay4 s t.m) (k0_pay6 v) t.a (ix2 d c) = Ideal.exp2 (t.m (ix2 0 c) - k0_pay8 (F := Ideal) (k0_pay2 s t.m) (ix2 0 c)) * t.a (ix2 d c)
    + ∑ j : Fin 512, v (ix3 0 d j) * Ideal.exp2 (s (ix2 j c) - k0_pay8 (F := Ideal) (k0_pay2 s t.m) (ix2 0 c))
  pointwise [k0_pay7, k0_pay6, k0_pay3, k0_pay4, k0_pay8]
  rfl

end Step

section Diag
variable (s : Vec Ideal S512x512 .f32) (v : Vec Ideal S1x128x512 .bf16) (m l : Vec Ideal S1x512 .f32) (a : Vec Ideal S128x512 .f32) (d : Fin 128) (c : Fin 512)

/-- Two small words added to nothing compare as their numbers. -/
theorem mask_bit (o : ℕ) (ho : o ≤ 512) : ∀ j c : Fin 512, IntOp.cmpi .sle (IntOp.addi (BitVec.ofNat 32 j.val) (BitVec.ofNat 32 o)) (IntOp.addi (BitVec.ofNat 32 c.val) (BitVec.ofNat 32 o)) = 1#1 ↔ j ≤ c := by
  intro j c
  have hj := j.isLt
  have hc := c.isLt
  have e : ∀ n < 512, (IntOp.addi (BitVec.ofNat 32 n) (BitVec.ofNat 32 o)).toNat = n + o := fun n hn => by
    show (BitVec.ofNat 32 n + BitVec.ofNat 32 o).toNat = _
    rw [BitVec.toNat_add, BitVec.toNat_ofNat, BitVec.toNat_ofNat]; omega
  rw [StableHlo.Predicate.sle_iff_toNat (by rw [e _ hj]; omega) (by rw [e _ hc]; omega), e _ hj, e _ hc, Fin.le_def]
  omega

/-- The causal mask of a diagonal block, in its first and its last half. -/
theorem mask_lo (j : Fin 512) : k0_pay64 s (ix2 j c) = if j ≤ c then s (ix2 j c) else (⊥ : EReal) := by
  pointwise [k0_pay64]
  rw [neg_inf, Scalar.select]
  exact if_congr (mask_bit 0 (by omega) j c) rfl rfl

theorem mask_hi (j : Fin 512) : k0_pay78 s (ix2 j c) = if j ≤ c then s (ix2 j c) else (⊥ : EReal) := by
  pointwise [k0_pay78]
  rw [neg_inf, Scalar.select]
  exact if_congr (mask_bit 512 (by omega) j c) rfl rfl

theorem lo_m : k0_pay65 s m (ix2 0 c) = max (m (ix2 0 c)) (Finset.univ.fold max ⊥ fun j : Fin 512 => (k0_pay64 s (ix2 j c) : EReal)) := by
  pointwise [k0_pay65]
  rw [neg_inf]

theorem lo_l : k0_pay68 s m l (ix2 0 c) = Ideal.exp2 (m (ix2 0 c) - k0_pay65 s m (ix2 0 c)) * l (ix2 0 c)
    + ∑ j : Fin 512, Ideal.exp2 (k0_pay64 s (ix2 j c) - k0_pay65 s m (ix2 0 c)) := by
  pointwise [k0_pay68, k0_pay66, k0_pay67]
  rfl

theorem lo_a : k0_pay70 (k0_pay69 s m v a) (ix2 d c) = Ideal.exp2 (m (ix2 0 c) - k0_pay65 s m (ix2 0 c)) * a (ix2 d c)
    + ∑ j : Fin 512, v (ix3 0 d j) * Ideal.exp2 (k0_pay64 s (ix2 j c) - k0_pay65 s m (ix2 0 c)) := by
  pointwise [k0_pay70, k0_pay69, k0_pay66, k0_pay67]
  rfl

theorem mid_m : k0_pay77 (k0_pay72 s m) (ix2 0 c) = max (m (ix2 0 c)) (Finset.univ.fold max ⊥ fun j : Fin 512 => (s (ix2 j c) : EReal)) := by
  pointwise [k0_pay77, k0_pay72]
  rw [neg_inf]

theorem mid_l : k0_pay75 s m l (ix2 0 c) = Ideal.exp2 (m (ix2 0 c) - k0_pay77 (k0_pay72 s m) (ix2 0 c)) * l (ix2 0 c)
    + ∑ j : Fin 512, Ideal.exp2 (s (ix2 j c) - k0_pay77 (k0_pay72 s m) (ix2 0 c)) := by
  pointwise [k0_pay75, k0_pay73, k0_pay74, k0_pay77]
  rfl

theorem mid_a : k0_pay76 s m v a (ix2 d c) = Ideal.exp2 (m (ix2 0 c) - k0_pay77 (k0_pay72 s m) (ix2 0 c)) * a (ix2 d c)
    + ∑ j : Fin 512, v (ix3 0 d j) * Ideal.exp2 (s (ix2 j c) - k0_pay77 (k0_pay72 s m) (ix2 0 c)) := by
  pointwise [k0_pay76, k0_pay73, k0_pay74, k0_pay77]
  rfl

theorem hi_m : k0_pay79 s m (ix2 0 c) = max (m (ix2 0 c)) (Finset.univ.fold max ⊥ fun j : Fin 512 => (k0_pay78 s (ix2 j c) : EReal)) := by
  pointwise [k0_pay79]
  rw [neg_inf]

theorem hi_l : k0_pay82 s m l (ix2 0 c) = Ideal.exp2 (m (ix2 0 c) - k0_pay79 s m (ix2 0 c)) * l (ix2 0 c)
    + ∑ j : Fin 512, Ideal.exp2 (k0_pay78 s (ix2 j c) - k0_pay79 s m (ix2 0 c)) := by
  pointwise [k0_pay82, k0_pay80, k0_pay81]
  rfl

theorem hi_a : k0_pay84 (k0_pay80 s m) (k0_pay83 s m v) a (ix2 d c) = Ideal.exp2 (m (ix2 0 c) - k0_pay79 s m (ix2 0 c)) * a (ix2 d c)
    + ∑ j : Fin 512, v (ix3 0 d j) * Ideal.exp2 (k0_pay78 s (ix2 j c) - k0_pay79 s m (ix2 0 c)) := by
  pointwise [k0_pay84, k0_pay83, k0_pay80, k0_pay81]
  rfl

end Diag

section Out
variable (a : Vec Ideal S128x1024 .f32) (l : Vec Ideal S1x1024 .f32) (g : Vec Ideal S1024x128 .f32) (d : Fin 128) (c : Fin 1024)

/-- The rows written. -/
theorem out_at : k0_pay86 a l g (ix2 c d) = Ideal.div (a (ix2 d c)) (l (ix2 0 c)) * g (ix2 c d) := by
  pointwise [k0_pay86]

end Out

section Scores
variable (ka kb : Vec Ideal S512x128 .bf16) (q : Vec Ideal S1024x256 .bf16) (qh : Vec Ideal S512x256 .bf16) (j : Fin 512)

theorem scores_at (c : Fin 1024) : k0_pay1 ka kb q (ix2 j c) = (∑ d : Fin 128, ka (ix2 j d) * q (ix2 c (d.castAdd 128)) : EReal)
    + ∑ n : Fin 128, kb (ix2 j n) * q (ix2 c (n.natAdd 128)) := by
  pointwise [k0_pay1]
  rfl

theorem scores_half_at (c : Fin 512) : k0_pay61 (k0_pay60 ka kb) qh (ix2 j c) = (∑ d : Fin 128, ka (ix2 j d) * qh (ix2 c (d.castAdd 128)) : EReal)
    + ∑ n : Fin 128, kb (ix2 j n) * qh (ix2 c (n.natAdd 128)) := by
  pointwise [k0_pay61, k0_pay60]
  rfl

end Scores

section Queries
variable (i : grid0.Coords) (x y : Vec Ideal S1024x128 .bf16) (c : Fin 1024) (d : Fin 128)

/-- The low four bits of a lane are the head it belongs to. -/
theorem lane_bit (a b : ℕ) (ha : a < 128) (hb : b < 16) : IntOp.cmpi .eq (IntOp.andi (BitVec.ofNat 32 a) 15#32) (BitVec.ofNat 32 b) = 1#1 ↔ a % 16 = b := by
  have e : (IntOp.andi (BitVec.ofNat 32 a) 15#32).toNat = a % 16 := by
    show (BitVec.ofNat 32 a &&& 15#32).toNat = _
    rw [BitVec.toNat_and, BitVec.toNat_ofNat, Nat.mod_eq_of_lt (by omega : a < 2 ^ 32)]
    exact Nat.and_two_pow_sub_one_eq_mod a 4
  rw [StableHlo.Predicate.cmpi_eq_iff, ← BitVec.toNat_inj, e, BitVec.toNat_ofNat, Nat.mod_eq_of_lt (by omega : b < 2 ^ 32)]

theorem query_lane : k0_pay124 i y x (ix2 c (d.castAdd 128)) = x (ix2 c d) := by
  pointwise [k0_pay124]
  exact dif_pos d.isLt

theorem query_bias : k0_pay124 i y x (ix2 c (d.natAdd 128)) = if d.val % 16 = (i 0).val then y (ix2 c d) else (0 : EReal) := by
  pointwise [k0_pay124, k0_pay123]
  rw [dif_neg (by simp)]
  have hd : (⟨(Fin.natAdd 128 d).val - 128, by simp⟩ : Fin 128) = d := Fin.ext (by simp)
  have hv : (Fin.natAdd 128 d).val - 128 = d.val := by simp
  simp only [hd, hv]
  rw [Scalar.select]
  exact if_congr (lane_bit _ _ d.isLt (i 0).isLt) rfl rfl

end Queries

end Cert.KernelIdeal.Att
end
-- ==== Proof.Col.lean ====
/- One entry of the rows the kernel writes: the running softmax over the key blocks and the two blocks on the diagonal is
   the softmax over all keys, with the mask. -/
module

public import proofs.«01_k».proof.Proof.Cols
public import proofs.«01_k».proof.Proof.Att

@[expose] public section

set_option maxRecDepth 16384

noncomputable section

namespace Cert.KernelIdeal.Att

open Idealize.ShloMosaic Idealize.ShloMosaic.TcCoe Idealize.ShloMosaic.Tactic
open Cert.KernelIdeal Cert.KernelIdeal.Gen Cert.KernelIdeal.Soft

/-- The logit of a query and a key as the kernel forms it: the bias over all 128 lanes, the lanes of other heads put to zero. -/
def klogit (i : grid0.Coords) (x2 x3 x4 x5 : Vec Ideal S8192x128 .bf16) (Q k : ℕ) : EReal :=
  ∑ d : Fin 128, x4 (ix2 (Fin.ofNat 8192 k) d) * x2 (ix2 (Fin.ofNat 8192 Q) d)
    + ∑ n : Fin 128, x5 (ix2 (Fin.ofNat 8192 k) n) * (if n.val % 16 = (i 0).val then x3 (ix2 (Fin.ofNat 8192 Q) n) else (0 : EReal))

/-- Lane `d` of the value of key `k`, in the block of values of one head. -/
def kvalue (x6 : Vec Ideal S16x128x512 .bf16) (d : Fin 128) (k : ℕ) : EReal :=
  x6 (ix3 (Fin.ofNat 16 (k / 512)) d (Fin.ofNat 512 (k % 512)))

/-- The logit with the mask of a query block that starts at key block `n`. -/
def kscore (i : grid0.Coords) (x2 x3 x4 x5 : Vec Ideal S8192x128 .bf16) (n Q k : ℕ) : EReal :=
  if 1024 * n ≤ k ∧ k ≤ Q then klogit i x2 x3 x4 x5 Q k else ⊥

section
variable (i : grid0.Coords) (x2 x3 x4 x5 : Vec Ideal S8192x128 .bf16) (x6 : Vec Ideal S16x128x512 .bf16) (x7 : Vec Ideal S8192x128 .f32) (b : ℕ)

theorem scs_at (B : ℕ) (j : Fin 512) (c : Fin 1024) :
    scs x4 x5 (qry i x2 x3 b) B (ix2 j c) = klogit i x2 x3 x4 x5 (1024 * b + c.val) (512 * B + j.val) := by
  unfold scs qry klogit
  rw [scores_at]
  simp only [query_lane, query_bias]
  rfl

theorem scsB_at (B : ℕ) (j : Fin 512) (c : Fin 512) :
    scsB x4 x5 (qry i x2 x3 b) B (ix2 j c) = klogit i x2 x3 x4 x5 (1024 * b + (512 + c.val)) (512 * B + j.val) := by
  have e : ∀ l : Fin 256, bot (qry i x2 x3 b) (ix2 c l) = qry i x2 x3 b (ix2 ⟨512 + c.val, by omega⟩ l) := fun l =>
    congrArg (qry i x2 x3 b) (funext fun a => by
      match a with
      | 0 => rfl
      | 1 => rfl)
  unfold scsB klogit
  rw [scores_half_at]
  simp only [e]
  unfold qry
  simp only [query_lane, query_bias]
  rfl

theorem vblk_at (B : ℕ) (d : Fin 128) (j : Fin 512) : vblk x6 B (ix3 0 d j) = kvalue x6 d (512 * B + j.val) := by
  have e1 : (512 * B + j.val) / 512 = B := by omega
  have e2 : (512 * B + j.val) % 512 = j.val := by omega
  have e3 : Fin.ofNat 512 j.val = j := Fin.ext (by rw [Fin.val_ofNat]; omega)
  unfold kvalue
  rw [e1, e2, e3]
  rfl

variable {i x2 x3 x4 x5 b}

theorem kscore_ne_top (hr : ∀ Q k, klogit i x2 x3 x4 x5 Q k ≠ ⊤) (n Q k : ℕ) : kscore i x2 x3 x4 x5 n Q k ≠ ⊤ := by
  unfold kscore
  split
  · exact hr _ _
  · exact bot_ne_top

/-- The running values of one query after `N` key blocks. -/
theorem stN_rep (hr : ∀ Q k, klogit i x2 x3 x4 x5 Q k ≠ ⊤) (n : ℕ) (c : Fin 1024) (d : Fin 128) (N : ℕ) (hN : 2 * n + N ≤ 2 * b) :
    Rep (Finset.Ico (1024 * n) (1024 * n + 512 * N)) (kscore i x2 x3 x4 x5 n (1024 * b + c.val)) (kvalue x6 d)
      ((stN x4 x5 x6 (qry i x2 x3 b) (2 * n) N).m (ix2 0 c)) ((stN x4 x5 x6 (qry i x2 x3 b) (2 * n) N).l (ix2 0 c))
      ((stN x4 x5 x6 (qry i x2 x3 b) (2 * n) N).a (ix2 d c)) := by
  induction N with
  | zero =>
    show Rep _ _ _ ((St.init (F := Ideal)).m (ix2 0 c)) ((St.init (F := Ideal)).l (ix2 0 c)) ((St.init (F := Ideal)).a (ix2 d c))
    rw [init_m, init_l, init_a]
    exact Rep.init _ _ _
  | succ N ih =>
    have h := Rep.step 512 (by omega) (kscore_ne_top hr n _) (ih (by omega))
      (sB := fun j => scs x4 x5 (qry i x2 x3 b) (2 * n + N) (ix2 j c)) (vB := fun j => vblk x6 (2 * n + N) (ix3 0 d j))
      (fun j => by
        show scs x4 x5 (qry i x2 x3 b) (2 * n + N) (ix2 j c) = _
        rw [scs_at, kscore, if_pos (by omega), show 1024 * n + 512 * N + j.val = 512 * (2 * n + N) + j.val by omega])
      (fun j => by
        show vblk x6 (2 * n + N) (ix3 0 d j) = _
        rw [vblk_at, show 1024 * n + 512 * N + j.val = 512 * (2 * n + N) + j.val by omega])
      (upd_m (scs x4 x5 (qry i x2 x3 b) (2 * n + N)) (vblk x6 (2 * n + N)) (stN x4 x5 x6 (qry i x2 x3 b) (2 * n) N) c)
    rw [show 1024 * n + 512 * (N + 1) = 1024 * n + 512 * N + 512 by omega]
    show Rep _ _ _ ((St.upd (scs x4 x5 (qry i x2 x3 b) (2 * n + N)) (vblk x6 (2 * n + N)) (stN x4 x5 x6 (qry i x2 x3 b) (2 * n) N)).m (ix2 0 c))
      ((St.upd (scs x4 x5 (qry i x2 x3 b) (2 * n + N)) (vblk x6 (2 * n + N)) (stN x4 x5 x6 (qry i x2 x3 b) (2 * n) N)).l (ix2 0 c))
      ((St.upd (scs x4 x5 (qry i x2 x3 b) (2 * n + N)) (vblk x6 (2 * n + N)) (stN x4 x5 x6 (qry i x2 x3 b) (2 * n) N)).a (ix2 d c))
    rw [upd_l, upd_a]
    exact h

/-- All key blocks before the diagonal. -/
theorem stN_all (hr : ∀ Q k, klogit i x2 x3 x4 x5 Q k ≠ ⊤) (n : ℕ) (hn : n ≤ b) (c : Fin 1024) (d : Fin 128) :
    Rep (Finset.Ico (1024 * n) (1024 * b)) (kscore i x2 x3 x4 x5 n (1024 * b + c.val)) (kvalue x6 d)
      ((stN x4 x5 x6 (qry i x2 x3 b) (2 * n) (2 * (b - n))).m (ix2 0 c)) ((stN x4 x5 x6 (qry i x2 x3 b) (2 * n) (2 * (b - n))).l (ix2 0 c))
      ((stN x4 x5 x6 (qry i x2 x3 b) (2 * n) (2 * (b - n))).a (ix2 d c)) := by
  have h := stN_rep (b := b) x6 hr n c d (2 * (b - n)) (by omega)
  rw [show 1024 * n + 512 * (2 * (b - n)) = 1024 * b by omega] at h
  exact h

theorem lo_at {n : ℕ} (x : (⟨2, ![n, 1024]⟩ : Shape).Idx → EReal) (r : Fin n) (c : Fin 512) : lo x (ix2 r c) = x (ix2 r ⟨c.val, by omega⟩) :=
  congrArg x (funext fun a => by
    match a with
    | 0 => rfl
    | 1 => rfl)

theorem hi_at {n : ℕ} (x : (⟨2, ![n, 1024]⟩ : Shape).Idx → EReal) (r : Fin n) (c : Fin 512) : hi x (ix2 r c) = x (ix2 r ⟨512 + c.val, by omega⟩) :=
  congrArg x (funext fun a => by
    match a with
    | 0 => rfl
    | 1 => rfl)

theorem join_lo {n : ℕ} (u w : (⟨2, ![n, 512]⟩ : Shape).Idx → EReal) (r : Fin n) (c : Fin 512) : join u w (ix2 r ⟨c.val, by omega⟩) = u (ix2 r c) := by
  show (if h : c.val < 512 then _ else _) = _
  rw [dif_pos c.isLt]
  exact congrArg u (funext fun a => by
    match a with
    | 0 => rfl
    | 1 => rfl)

theorem join_hi {n : ℕ} (u w : (⟨2, ![n, 512]⟩ : Shape).Idx → EReal) (r : Fin n) (c : Fin 512) : join u w (ix2 r ⟨512 + c.val, by omega⟩) = w (ix2 r c) := by
  show (if h : 512 + c.val < 512 then _ else _) = _
  rw [dif_neg (by omega)]
  exact congrArg w (funext fun a => by
    match a with
    | 0 => rfl
    | 1 => exact Fin.ext (show 512 + c.val - 512 = c.val by omega))

/-- A query of the first half of its block. -/
theorem first_half (hr : ∀ Q k, klogit i x2 x3 x4 x5 Q k ≠ ⊤) (hb : ∀ Q k, klogit i x2 x3 x4 x5 Q k ≠ ⊥) (n : ℕ) (hn : n ≤ b) (hb8 : b < 8) (c : Fin 512) (d : Fin 128) :
    Ideal.div (aA (scs x4 x5 (qry i x2 x3 b) (2 * b)) (vblk x6 (2 * b)) (stN x4 x5 x6 (qry i x2 x3 b) (2 * n) (2 * (b - n))) (ix2 d c))
        (lA (scs x4 x5 (qry i x2 x3 b) (2 * b)) (stN x4 x5 x6 (qry i x2 x3 b) (2 * n) (2 * (b - n))) (ix2 0 c))
      = Cert.Att.avg (kscore i x2 x3 x4 x5 n (1024 * b + c.val)) (kvalue x6 d) := by
  have h0 : Rep (Finset.Ico (1024 * n) (1024 * b)) (kscore i x2 x3 x4 x5 n (1024 * b + c.val)) (kvalue x6 d)
      (lo (stN x4 x5 x6 (qry i x2 x3 b) (2 * n) (2 * (b - n))).m (ix2 0 c)) (lo (stN x4 x5 x6 (qry i x2 x3 b) (2 * n) (2 * (b - n))).l (ix2 0 c)) (lo (stN x4 x5 x6 (qry i x2 x3 b) (2 * n) (2 * (b - n))).a (ix2 d c)) := by
    rw [lo_at, lo_at, lo_at]
    exact stN_all x6 hr n hn ⟨c.val, by omega⟩ d
  have h := Rep.step 512 (by omega) (kscore_ne_top hr n _) h0
    (sB := fun j => k0_pay64 (lo (scs x4 x5 (qry i x2 x3 b) (2 * b))) (ix2 j c)) (vB := fun j => vblk x6 (2 * b) (ix3 0 d j))
    (fun j => by
      show k0_pay64 (lo (scs x4 x5 (qry i x2 x3 b) (2 * b))) (ix2 j c) = _
      rw [mask_lo, lo_at, scs_at, kscore, show 1024 * b + j.val = 512 * (2 * b) + j.val by omega]
      exact if_congr (by rw [Fin.le_def]; show _ ↔ _ ∧ _ ≤ 1024 * b + c.val; omega) rfl rfl)
    (fun j => by
      show vblk x6 (2 * b) (ix3 0 d j) = _
      rw [vblk_at, show 1024 * b + j.val = 512 * (2 * b) + j.val by omega])
    (lo_m _ _ c)
  unfold aA lA
  rw [lo_l, lo_a]
  exact Rep.final (N := 8192) (by omega) (kscore_ne_top hr n _) h (fun k hk hout => if_neg (by omega)) (kq := 1024 * b + c.val) (by omega)
    (by rw [kscore, if_pos (by constructor <;> omega)]; exact hb _ _) (fun _ => rfl) (fun _ => rfl)

/-- A query of the last half of its block. -/
theorem last_half (hr : ∀ Q k, klogit i x2 x3 x4 x5 Q k ≠ ⊤) (hb : ∀ Q k, klogit i x2 x3 x4 x5 Q k ≠ ⊥) (n : ℕ) (hn : n ≤ b) (hb8 : b < 8) (c : Fin 512) (d : Fin 128) :
    Ideal.div (aC (scs x4 x5 (qry i x2 x3 b) (2 * b)) (scsB x4 x5 (qry i x2 x3 b) (2 * b + 1)) (vblk x6 (2 * b)) (vblk x6 (2 * b + 1)) (stN x4 x5 x6 (qry i x2 x3 b) (2 * n) (2 * (b - n))) (ix2 d c))
        (lC (scs x4 x5 (qry i x2 x3 b) (2 * b)) (scsB x4 x5 (qry i x2 x3 b) (2 * b + 1)) (stN x4 x5 x6 (qry i x2 x3 b) (2 * n) (2 * (b - n))) (ix2 0 c))
      = Cert.Att.avg (kscore i x2 x3 x4 x5 n (1024 * b + (512 + c.val))) (kvalue x6 d) := by
  have h0 : Rep (Finset.Ico (1024 * n) (1024 * b)) (kscore i x2 x3 x4 x5 n (1024 * b + (512 + c.val))) (kvalue x6 d)
      (hi (stN x4 x5 x6 (qry i x2 x3 b) (2 * n) (2 * (b - n))).m (ix2 0 c)) (hi (stN x4 x5 x6 (qry i x2 x3 b) (2 * n) (2 * (b - n))).l (ix2 0 c)) (hi (stN x4 x5 x6 (qry i x2 x3 b) (2 * n) (2 * (b - n))).a (ix2 d c)) := by
    rw [hi_at, hi_at, hi_at]
    exact stN_all x6 hr n hn ⟨512 + c.val, by omega⟩ d
  have h1 := Rep.step 512 (by omega) (kscore_ne_top hr n _) h0
    (sB := fun j => hi (scs x4 x5 (qry i x2 x3 b) (2 * b)) (ix2 j c)) (vB := fun j => vblk x6 (2 * b) (ix3 0 d j))
    (fun j => by
      show hi (scs x4 x5 (qry i x2 x3 b) (2 * b)) (ix2 j c) = _
      rw [hi_at, scs_at, kscore, show 1024 * b + j.val = 512 * (2 * b) + j.val by omega, if_pos (by constructor <;> omega)])
    (fun j => by
      show vblk x6 (2 * b) (ix3 0 d j) = _
      rw [vblk_at, show 1024 * b + j.val = 512 * (2 * b) + j.val by omega])
    (mid_m _ _ c)
  rw [← mid_l, ← mid_a] at h1
  have h2 := Rep.step 512 (by omega) (kscore_ne_top hr n _) h1
    (sB := fun j => k0_pay78 (scsB x4 x5 (qry i x2 x3 b) (2 * b + 1)) (ix2 j c)) (vB := fun j => vblk x6 (2 * b + 1) (ix3 0 d j))
    (fun j => by
      show k0_pay78 (scsB x4 x5 (qry i x2 x3 b) (2 * b + 1)) (ix2 j c) = _
      rw [mask_hi, scsB_at, kscore, show 1024 * b + 512 + j.val = 512 * (2 * b + 1) + j.val by omega]
      exact if_congr (by rw [Fin.le_def]; show _ ↔ _ ∧ _ ≤ 1024 * b + (512 + c.val); omega) rfl rfl)
    (fun j => by
      show vblk x6 (2 * b + 1) (ix3 0 d j) = _
      rw [vblk_at, show 1024 * b + 512 + j.val = 512 * (2 * b + 1) + j.val by omega])
    (hi_m _ _ c)
  unfold aC lC aB lB mB
  rw [hi_l, hi_a]
  exact Rep.final (N := 8192) (by omega) (kscore_ne_top hr n _) h2 (fun k hk hout => if_neg (by omega)) (kq := 1024 * b + (512 + c.val)) (by omega)
    (by rw [kscore, if_pos (by constructor <;> omega)]; exact hb _ _) (fun _ => rfl) (fun _ => rfl)

/-- An entry of the rows written for query block `b`. -/
theorem outBlk_at (hr : ∀ Q k, klogit i x2 x3 x4 x5 Q k ≠ ⊤) (hb : ∀ Q k, klogit i x2 x3 x4 x5 Q k ≠ ⊥) (n : ℕ) (hn : n ≤ b) (hb8 : b < 8) (c : Fin 1024) (d : Fin 128) :
    outBlk x4 x5 x6 x7 (qry i x2 x3 b) b n (ix2 c d)
      = Cert.Att.avg (kscore i x2 x3 x4 x5 n (1024 * b + c.val)) (kvalue x6 d) * x7 (ix2 (Fin.ofNat 8192 (1024 * b + c.val)) d) := by
  unfold outBlk
  rw [out_at]
  refine congrArg (· * x7 (ix2 (Fin.ofNat 8192 (1024 * b + c.val)) d)) ?_
  by_cases h : c.val < 512
  · exact (congrArg₂ Ideal.div (join_lo (n := 128) (aA (scs x4 x5 (qry i x2 x3 b) (2 * b)) (vblk x6 (2 * b)) (stN x4 x5 x6 (qry i x2 x3 b) (2 * n) (2 * (b - n))) : Vec Ideal S128x512 .f32)
        (aC (scs x4 x5 (qry i x2 x3 b) (2 * b)) (scsB x4 x5 (qry i x2 x3 b) (2 * b + 1)) (vblk x6 (2 * b)) (vblk x6 (2 * b + 1)) (stN x4 x5 x6 (qry i x2 x3 b) (2 * n) (2 * (b - n))) : Vec Ideal S128x512 .f32) d ⟨c.val, h⟩)
      (join_lo (n := 1) (lA (scs x4 x5 (qry i x2 x3 b) (2 * b)) (stN x4 x5 x6 (qry i x2 x3 b) (2 * n) (2 * (b - n))) : Vec Ideal S1x512 .f32)
        (lC (scs x4 x5 (qry i x2 x3 b) (2 * b)) (scsB x4 x5 (qry i x2 x3 b) (2 * b + 1)) (stN x4 x5 x6 (qry i x2 x3 b) (2 * n) (2 * (b - n))) : Vec Ideal S1x512 .f32) 0 ⟨c.val, h⟩)).trans (first_half x6 hr hb n hn hb8 ⟨c.val, h⟩ d)
  · have ec : (⟨512 + (c.val - 512), by omega⟩ : Fin 1024) = c := Fin.ext (by show 512 + (c.val - 512) = c.val; omega)
    have hj := (congrArg₂ Ideal.div (join_hi (n := 128) (aA (scs x4 x5 (qry i x2 x3 b) (2 * b)) (vblk x6 (2 * b)) (stN x4 x5 x6 (qry i x2 x3 b) (2 * n) (2 * (b - n))) : Vec Ideal S128x512 .f32)
        (aC (scs x4 x5 (qry i x2 x3 b) (2 * b)) (scsB x4 x5 (qry i x2 x3 b) (2 * b + 1)) (vblk x6 (2 * b)) (vblk x6 (2 * b + 1)) (stN x4 x5 x6 (qry i x2 x3 b) (2 * n) (2 * (b - n))) : Vec Ideal S128x512 .f32) d ⟨c.val - 512, by omega⟩)
      (join_hi (n := 1) (lA (scs x4 x5 (qry i x2 x3 b) (2 * b)) (stN x4 x5 x6 (qry i x2 x3 b) (2 * n) (2 * (b - n))) : Vec Ideal S1x512 .f32)
        (lC (scs x4 x5 (qry i x2 x3 b) (2 * b)) (scsB x4 x5 (qry i x2 x3 b) (2 * b + 1)) (stN x4 x5 x6 (qry i x2 x3 b) (2 * n) (2 * (b - n))) : Vec Ideal S1x512 .f32) 0 ⟨c.val - 512, by omega⟩)).trans (last_half x6 hr hb n hn hb8 ⟨c.val - 512, by omega⟩ d)
    simp only [ec, show 512 + (c.val - 512) = c.val by omega] at hj
    exact hj

end

end Cert.KernelIdeal.Att
end
-- ==== Proof.Arr.lean ====
/- The array the kernel leaves: entry by entry the forgetting attention of the arrays it was launched on. -/
module

public import proofs.«01_k».proof.Proof.Run
public import proofs.«01_k».proof.Proof.Col
public import proofs.«01_k».proof.Proof.Fin
public import Idealize.ShloMosaic.Lib.Pipeline.Value

@[expose] public section

set_option maxRecDepth 16384

noncomputable section

namespace Cert.KernelIdeal.Att

open Idealize.ShloMosaic Idealize.ShloMosaic.TcCoe Idealize.ShloMosaic.Tactic
open Idealize.ShloMosaic.Pipeline (Dat Cfg Window)
open Cert.KernelIdeal Cert.KernelIdeal.Gen

variable (m : (ℓ : Loc nD τ sig) → Buf (Elt Ideal) ℓ) (c : Dev nD) (t : Fin (cfgM m).N)

abbrev a0 : Cert.Att.A0 := m ((c.tc : Thread nD τ).loc main_arg0)
abbrev a1 : Cert.Att.A1 := m ((c.tc : Thread nD τ).loc main_arg1)
abbrev a2 : Cert.Att.A2 := m ((c.tc : Thread nD τ).loc main_arg2)
abbrev a3 : Cert.Att.A3 := m ((c.tc : Thread nD τ).loc main_arg3)
abbrev a4 : Cert.Att.A3 := m ((c.tc : Thread nD τ).loc main_arg4)
abbrev a5 : Cert.Att.A5 := m ((c.tc : Thread nD τ).loc main_arg5)

/-- The head of a grid point. -/
abbrev hd : Fin 16 := grid0.coords t 0

/-- The block of the queries at a grid point. -/
def bq : Vec Ideal S8192x128 .bf16 := iblk m c 0 t
/-- The block of the bias factors on the queries' side at a grid point. -/
def bqa : Vec Ideal S8192x128 .bf16 := iblk m c 1 t
/-- The block of the keys at a grid point. -/
def bk : Vec Ideal S8192x128 .bf16 := iblk m c 2 t
/-- The block of the bias factors on the keys' side at a grid point. -/
def bka : Vec Ideal S8192x128 .bf16 := iblk m c 3 t
/-- The block of the values at a grid point. -/
def bv : Vec Ideal S16x128x512 .bf16 := iblk m c 4 t
/-- The block of the gate at a grid point. -/
def bg : Vec Ideal S8192x128 .f32 := iblk m c 5 t

theorem small_toNat (n : ℕ) (hn : n < 4096) : (BitVec.ofNat 32 n).toNat = n := by
  rw [BitVec.toNat_ofNat, Nat.mod_eq_of_lt (by omega)]

theorem key_block (n : ℕ) (hn : n < 16) : (Scalar.addi 16#32 (BitVec.ofNat 32 n)).toNat = 16 + n := by
  show (16#32 + BitVec.ofNat 32 n).toNat = _
  rw [BitVec.toNat_add, BitVec.toNat_ofNat]
  show (16 + n % 2 ^ 32) % 2 ^ 32 = _
  omega

/-- The queries of the head. -/
theorem bq_at (r : Fin 8192) (d : Fin 128) : bq m c t (ix2 r d) = a1 m c (ix2 r ⟨(hd m t).val * 128 + d.val, by omega⟩) :=
  congrArg (a1 m c) (funext fun (a : Fin 2) => Fin.ext ((Window.rect_emb_val ((cfgM m).win 0) t (ix2 r d) a).trans (by
    match a with
    | 0 => show 0 * 8192 + r.val = r.val; omega
    | 1 =>
      show (BitVec.ofNat 32 (hd m t).val).toNat * 128 + d.val = (hd m t).val * 128 + d.val
      rw [small_toNat _ (by omega)])))

/-- The factors of the bias on the queries' side. -/
theorem bqa_at (r : Fin 8192) (d : Fin 128) : bqa m c t (ix2 r d) = a3 m c (ix2 r d) :=
  congrArg (a3 m c) (funext fun (a : Fin 2) => Fin.ext ((Window.rect_emb_val ((cfgM m).win 1) t (ix2 r d) a).trans (by
    match a with
    | 0 => show 0 * 8192 + r.val = r.val; omega
    | 1 => show 0 * 128 + d.val = d.val; omega)))

/-- The keys of the head. -/
theorem bk_at (r : Fin 8192) (d : Fin 128) : bk m c t (ix2 r d) = a1 m c (ix2 r ⟨2048 + ((hd m t).val * 128 + d.val), by omega⟩) :=
  congrArg (a1 m c) (funext fun (a : Fin 2) => Fin.ext ((Window.rect_emb_val ((cfgM m).win 2) t (ix2 r d) a).trans (by
    match a with
    | 0 => show 0 * 8192 + r.val = r.val; omega
    | 1 =>
      show (Scalar.addi 16#32 (BitVec.ofNat 32 (hd m t).val)).toNat * 128 + d.val = 2048 + ((hd m t).val * 128 + d.val)
      rw [key_block _ (hd m t).isLt]; omega)))

/-- The factors of the bias on the keys' side. -/
theorem bka_at (r : Fin 8192) (d : Fin 128) : bka m c t (ix2 r d) = a4 m c (ix2 r d) :=
  congrArg (a4 m c) (funext fun (a : Fin 2) => Fin.ext ((Window.rect_emb_val ((cfgM m).win 3) t (ix2 r d) a).trans (by
    match a with
    | 0 => show 0 * 8192 + r.val = r.val; omega
    | 1 => show 0 * 128 + d.val = d.val; omega)))

/-- The values of the head. -/
theorem bv_at (p : Fin 16) (d : Fin 128) (q : Fin 512) : bv m c t (ix3 p d q) = a2 m c (ix3 p ⟨(hd m t).val * 128 + d.val, by omega⟩ q) :=
  congrArg (a2 m c) (funext fun (a : Fin 3) => Fin.ext ((Window.rect_emb_val ((cfgM m).win 4) t (ix3 p d q) a).trans (by
    match a with
    | 0 => show 0 * 16 + p.val = p.val; omega
    | 1 =>
      show (BitVec.ofNat 32 (hd m t).val).toNat * 128 + d.val = (hd m t).val * 128 + d.val
      rw [small_toNat _ (by omega)]
    | 2 => show 0 * 512 + q.val = q.val; omega)))

/-- The gate of the head. -/
theorem bg_at (r : Fin 8192) (d : Fin 128) : bg m c t (ix2 r d) = a5 m c (ix2 r ⟨128 * (hd m t).val + d.val, by omega⟩) :=
  congrArg (a5 m c) (funext fun (a : Fin 2) => Fin.ext ((Window.rect_emb_val ((cfgM m).win 5) t (ix2 r d) a).trans (by
    match a with
    | 0 => show 0 * 8192 + r.val = r.val; omega
    | 1 =>
      show (BitVec.ofNat 32 (hd m t).val).toNat * 128 + d.val = 128 * (hd m t).val + d.val
      rw [small_toNat _ (by omega)]; omega)))

/-- A sum over 128 lanes of which only the lanes of one head count. -/
theorem lanes (f g : Fin 128 → EReal) (h : Fin 16) : ∑ n : Fin 128, g n * (if n.val % 16 = h.val then f n else 0)
    = ∑ u : Fin 8, f ⟨u.val * 16 + h.val, by omega⟩ * g ⟨u.val * 16 + h.val, by omega⟩ := by
  have e : ∀ n : Fin 128, g n * (if n.val % 16 = h.val then f n else 0) = if n.val % 16 = h.val then f n * g n else 0 := fun n => by
    split
    · exact mul_comm _ _
    · exact mul_zero _
  simp only [e]
  rw [← Finset.sum_filter]
  refine Finset.sum_nbij' (fun n => ⟨n.val / 16, by omega⟩) (fun u => ⟨u.val * 16 + h.val, by omega⟩) ?_ ?_ ?_ ?_ ?_
  · intro n _; exact Finset.mem_univ _
  · intro u _
    rw [Finset.mem_filter]
    exact ⟨Finset.mem_univ _, by show (u.val * 16 + h.val) % 16 = h.val; omega⟩
  · intro n hn
    rw [Finset.mem_filter] at hn
    exact Fin.ext (by show n.val / 16 * 16 + h.val = n.val; omega)
  · intro u _
    exact Fin.ext (by show (u.val * 16 + h.val) / 16 = u.val; omega)
  · intro n hn
    rw [Finset.mem_filter] at hn
    have : (⟨n.val / 16 * 16 + h.val, by omega⟩ : Fin 128) = n := Fin.ext (by show n.val / 16 * 16 + h.val = n.val; omega)
    rw [this]

/-- The logit the kernel forms is the logit. -/
theorem klogit_eq (Q k : ℕ) : klogit (grid0.coords t) (bq m c t) (bqa m c t) (bk m c t) (bka m c t) Q k
    = Cert.Att.logit (a1 m c) (a3 m c) (a4 m c) (hd m t) (Fin.ofNat 8192 Q) (Fin.ofNat 8192 k) := by
  unfold klogit Cert.Att.logit
  refine congrArg₂ (· + ·) (Finset.sum_congr rfl fun d _ => ?_) ?_
  · exact (congrArg₂ (· * ·) (bk_at m c t _ _) (bq_at m c t _ _)).trans (mul_comm _ _)
  · refine Eq.trans (Finset.sum_congr rfl fun n _ => ?_)
      (lanes (fun n => a3 m c (ix2 (Fin.ofNat 8192 Q) n)) (fun n => a4 m c (ix2 (Fin.ofNat 8192 k) n)) (hd m t))
    rw [bka_at, bqa_at]

/-- What the output array is shown to hold. -/
def whole : Buf (Elt Ideal) ((c.tc : Thread nD τ).loc main_v0) :=
  fun y : S8192x2048.Idx => Cert.Att.out (a0 m c) (a1 m c) (a2 m c) (a3 m c) (a4 m c) (a5 m c) (y 0)
    ⟨(y 1).val / 128, by have : (y 1).val < 2048 := (y 1).isLt; omega⟩ ⟨(y 1).val % 128, Nat.mod_lt _ (by decide)⟩

variable {m c}

/-- The rows left at a grid point. -/
theorem outAt_at (hO : Ok m) (h1 : ∀ i, Cert.Att.Real (a1 m c i)) (h3 : ∀ i, Cert.Att.Real (a3 m c i)) (h4 : ∀ i, Cert.Att.Real (a4 m c i)) (r : Fin 8192) (d : Fin 128) :
    outAt m c t (ix2 r d) = Cert.Att.out (a0 m c) (a1 m c) (a2 m c) (a3 m c) (a4 m c) (a5 m c) r (hd m t) d := by
  obtain rfl : c = 0 := Subsingleton.elim _ _
  have hreal : ∀ Q k, Cert.Att.Real (klogit (grid0.coords t) (bq m 0 t) (bqa m 0 t) (bk m 0 t) (bka m 0 t) Q k) := fun Q k => by
    rw [klogit_eq]
    exact Cert.Att.logit_real h1 h3 h4 _ _ _
  have hb : r.val / 1024 < 8 := by omega
  have hf := fpw_val m hO (hd m t).val (r.val / 1024) (hd m t).isLt hb
  have hw := hO (hd m t).val (hd m t).isLt (r.val / 1024) hb
  have hplan : word m (hd m t).val (r.val / 1024) = Cert.Att.plan (a0 m 0) (hd m t) r := by
    rw [word_eq]
    refine congrArg (fun n => a0 m 0 (ix1 n)) (Fin.ext ?_)
    rw [Fin.val_ofNat]
    show (8 * (hd m t).val + r.val / 1024) % 128 = (hd m t).val * 8 + r.val / 1024
    have := (hd m t).isLt
    omega
  have er : 1024 * (r.val / 1024) + (Fin.ofNat 1024 r.val).val = r.val := by rw [Fin.val_ofNat]; omega
  have er' : Fin.ofNat 8192 r.val = r := Fin.ext (by rw [Fin.val_ofNat]; omega)
  show outBlk (bk m 0 t) (bka m 0 t) (bv m 0 t) (bg m 0 t) (qry (grid0.coords t) (bq m 0 t) (bqa m 0 t) (r.val / 1024)) (r.val / 1024) (fpw m (hd m t).val (r.val / 1024)).val (ix2 (Fin.ofNat 1024 r.val) d) = _
  rw [outBlk_at _ _ (fun Q k => (hreal Q k).1) (fun Q k => (hreal Q k).2) _ (by rw [hf]; exact hw) hb, er, er', hf, hplan]
  unfold Cert.Att.out
  refine congrArg₂ (· * ·) (congrArg₂ Cert.Att.avg (funext fun k => ?_) (funext fun k => ?_)) (bg_at m 0 t r d)
  · unfold kscore Cert.Att.score
    rw [klogit_eq, er']
  · exact bv_at m 0 t _ _ _

/-- Where an entry of a grid point's block sits in the result. -/
theorem emb_at (r : Fin 8192) (d : Fin 128) :
    ((((cfgM m).win 6).blk t).view.emb (ix2 r d) : S8192x2048.Idx) = ix2 r ⟨(hd m t).val * 128 + d.val, by omega⟩ :=
  funext fun (a : Fin 2) => Fin.ext ((Window.rect_emb_val ((cfgM m).win 6) t (ix2 r d) a).trans (by
    match a with
    | 0 => show 0 * 8192 + r.val = r.val; omega
    | 1 =>
      show (BitVec.ofNat 32 (hd m t).val).toNat * 128 + d.val = (hd m t).val * 128 + d.val
      rw [small_toNat _ (by omega)]))

/-- The attention at an entry of a grid point's block. -/
theorem whole_at (r : Fin 8192) (d : Fin 128) (h : Fin 16) : (whole m c : S8192x2048.Idx → EReal) (ix2 r ⟨h.val * 128 + d.val, by omega⟩)
    = Cert.Att.out (a0 m c) (a1 m c) (a2 m c) (a3 m c) (a4 m c) (a5 m c) r h d := by
  have e1 : (⟨(h.val * 128 + d.val) / 128, by omega⟩ : Fin 16) = h := Fin.ext (by show (h.val * 128 + d.val) / 128 = h.val; omega)
  have e2 : (⟨(h.val * 128 + d.val) % 128, Nat.mod_lt _ (by decide)⟩ : Fin 128) = d := Fin.ext (by show (h.val * 128 + d.val) % 128 = d.val; omega)
  exact congrArg₂ (Cert.Att.out (a0 m c) (a1 m c) (a2 m c) (a3 m c) (a4 m c) (a5 m c) r) e1 e2

/-- What a grid point writes back is its block of the attention. -/
theorem flushed_eq (hO : Ok m) (h1 : ∀ i, Cert.Att.Real (a1 m c i)) (h3 : ∀ i, Cert.Att.Real (a3 m c i)) (h4 : ∀ i, Cert.Att.Real (a4 m c i)) :
    (dats m 0 c).flushed 6 t = (((cfgM m).win 6).blk t).view.read (Elt Ideal) (whole m c) := by
  show ((cfgM m).win 6).cut ((cfgM m).grid.coords t) ((dats m 0 c).after 6 t) = _
  rw [after6]
  refine funext fun (y : S8192x128.Idx) => ?_
  show (outAt m c t : S8192x128.Idx → EReal) y = (whole m c : S8192x2048.Idx → EReal) ((((cfgM m).win 6).blk t).view.emb y)
  idx_vars y
  exact (outAt_at t hO h1 h3 h4 y0 y1).trans ((whole_at y0 y1 (hd m t)).symm.trans (congrArg (whole m c : S8192x2048.Idx → EReal) (emb_at t y0 y1).symm))

theorem flush_all : ((cfgM m).win 6).flush t = true := by
  have H : ∀ t : Fin grid0.N, (true && (decide (t.val + 1 = grid0.N) || decide (∃ h : t.val + 1 < grid0.N,
      cc0_transform_6 (grid0.coords ⟨t.val + 1, h⟩) ≠ cc0_transform_6 (grid0.coords t)))) = true := by decide +kernel
  exact H t

/-- Every head has its grid point. -/
theorem point_of (h : Fin 16) : ∃ t : Fin (cfgM m).N, hd m t = h := by
  have H : ∀ n : Fin 16, (grid0.coords ⟨n.val, by rw [N_0]; exact n.isLt⟩ 0).val = n.val := by decide +kernel
  exact ⟨⟨h.val, by show h.val < grid0.N; rw [N_0]; exact h.isLt⟩, Fin.ext (H h)⟩

/-- The blocks of the sixteen heads fill the result. -/
theorem cover (i : S8192x2048.Idx) : ∃ t : Fin (cfgM m).N, ((cfgM m).win 6).flush t = true ∧ i ∈ (((cfgM m).win 6).blk t).view.set := by
  idx_vars i
  obtain ⟨t, ht⟩ := point_of (m := m) ⟨i1.val / 128, by omega⟩
  have hv : (hd m t).val = i1.val / 128 := congrArg Fin.val ht
  have e : (⟨(hd m t).val * 128 + i1.val % 128, by omega⟩ : Fin 2048) = i1 := Fin.ext (by show (hd m t).val * 128 + i1.val % 128 = i1.val; omega)
  have h := (((cfgM m).win 6).blk t).view.emb_mem_set (ix2 i0 (⟨i1.val % 128, Nat.mod_lt _ (by decide)⟩ : Fin 128))
  have h' := emb_at t i0 ⟨i1.val % 128, Nat.mod_lt _ (by decide)⟩
  refine ⟨t, flush_all t, ?_⟩
  rw [← e]
  exact h' ▸ h

/-- The result array after the run. -/
theorem final (hO : Ok m) (h1 : ∀ i, Cert.Att.Real (a1 m c i)) (h3 : ∀ i, Cert.Att.Real (a3 m c i)) (h4 : ∀ i, Cert.Att.Real (a4 m c i)) :
    (dats m 0 c).arrAt 6 (cfgM m).N = whole m c :=
  (dats m 0 c).arrAt_eq_of_cover 6 (whole m c) (fun t _ => flushed_eq t hO h1 h3 h4) cover

end Cert.KernelIdeal.Att
end
-- ==== Proof.Ref.lean ====
/- The reference's result, read at an index. -/
module

public import proofs.«01_k».proof.Proof.Gen.ReferenceIdeal.Run
public import proofs.«01_k».proof.Proof.Att
public import Idealize.ShloMosaic.Lib.Pointwise
public import Idealize.ShloMosaic.Lib.StableHlo.Predicate

@[expose] public section

set_option maxRecDepth 16384

noncomputable section

namespace Cert.ReferenceIdeal.Att

open Idealize.ShloMosaic Idealize.ShloMosaic.TcCoe Idealize.ShloMosaic.Tactic
open Cert.ReferenceIdeal Cert.ReferenceIdeal.Gen

theorem neg_inf : Ideal.ofBits .f32 4286578688#32 = ⊥ := by
  simp [Ideal.ofBits, Ideal.ieee]

theorem two : Ideal.ofBits .f32 1073741824#32 = ((2 : ℝ) : EReal) := by
  simp [Ideal.ofBits, Ideal.ieee]
  norm_num
  rw [← EReal.coe_mul]
  norm_num

/-- Two to a power. -/
theorem pow_two_eq (x : EReal) : Ideal.pow (Ideal.ofBits .f32 1073741824#32) x = Ideal.exp2 x := by
  rw [two]
  induction x with
  | bot =>
    show (if (2 : ℝ) < 0 then (⊥ : EReal) else if (1 : ℝ) < 2 then 0 else if (2 : ℝ) = 1 then 1 else ⊤) = 0
    norm_num
  | top =>
    show (if (2 : ℝ) < 0 then (⊥ : EReal) else if (1 : ℝ) < 2 then ⊤ else if (2 : ℝ) = 1 then 1 else 0) = ⊤
    norm_num
  | coe r => rfl

theorem and_bits (a b : BitVec 1) : IntOp.andi a b = 1#1 ↔ a = 1#1 ∧ b = 1#1 := by
  revert a b; decide

/-- The reference's mask, decoded. -/
theorem seen_iff (k Q : Fin 8192) (w : BitVec 32) (hw : w.toNat ≤ 7) :
    IntOp.andi (IntOp.cmpi .sle (BitVec.ofNat 32 k.val) (BitVec.ofNat 32 Q.val)) (IntOp.cmpi .sge (BitVec.ofNat 32 k.val) (IntOp.muli 1024#32 w)) = 1#1
      ↔ 1024 * w.toNat ≤ k.val ∧ k.val ≤ Q.val := by
  have hk := k.isLt
  have hQ := Q.isLt
  have e : ∀ n < 8192, (BitVec.ofNat 32 n).toNat = n := fun n hn => by rw [BitVec.toNat_ofNat, Nat.mod_eq_of_lt (by omega)]
  have ew : (IntOp.muli 1024#32 w).toNat = 1024 * w.toNat := by
    show (1024#32 * w).toNat = _
    rw [BitVec.toNat_mul]
    show 1024 * w.toNat % 2 ^ 32 = _
    omega
  rw [and_bits, StableHlo.Predicate.sle_iff_toNat (by rw [e _ hk]; omega) (by rw [e _ hQ]; omega),
    StableHlo.Predicate.sge_iff_toNat (by rw [e _ hk]; omega) (by rw [ew]; omega), e _ hk, e _ hQ, ew]
  exact and_comm

/-- The reference's result at an index. -/
theorem ref_at (m : (ℓ : Loc nD τ sig) → Buf (Elt Ideal) ℓ) (c : Dev nD) (Q : Fin 8192) (h : Fin 16) (d : Fin 128)
    (hw : (Cert.Att.plan (m ((c.tc : Thread nD τ).loc main_arg0)) h Q).toNat ≤ 7) :
    Cert.ReferenceIdeal.Value.res_main_v58 m c (ix2 Q ⟨128 * h.val + d.val, by omega⟩)
      = Cert.Att.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) Q h d := by
  have hs : ∀ x : Fin 8192, Scalar.select (IntOp.andi (IntOp.cmpi .sle (BitVec.ofNat 32 x.val) (BitVec.ofNat 32 Q.val))
        (IntOp.cmpi .sge (BitVec.ofNat 32 x.val) (IntOp.muli 1024#32 (Cert.Att.plan (m ((c.tc : Thread nD τ).loc main_arg0)) h Q))))
      (Cert.Att.logit (m ((c.tc : Thread nD τ).loc main_arg1)) (m ((c.tc : Thread nD τ).loc main_arg3)) (m ((c.tc : Thread nD τ).loc main_arg4)) h Q x)
      (⊥ : EReal)
      = Cert.Att.score (m ((c.tc : Thread nD τ).loc main_arg0)) (m ((c.tc : Thread nD τ).loc main_arg1)) (m ((c.tc : Thread nD τ).loc main_arg3))
          (m ((c.tc : Thread nD τ).loc main_arg4)) h Q x.val := fun x => by
    have ex : Fin.ofNat 8192 x.val = x := Fin.ext (by rw [Fin.val_ofNat]; omega)
    rw [Scalar.select, Cert.Att.score, ex]
    exact if_congr (seen_iff x Q _ hw) rfl rfl
  have hv : ∀ x : Fin 8192, (m ((c.tc : Thread nD τ).loc main_arg2)) (ix3 ⟨x.val / 512, by omega⟩ ⟨h.val * 128 + d.val, by omega⟩ ⟨x.val % 512, by omega⟩)
      = Cert.Att.value (m ((c.tc : Thread nD τ).loc main_arg2)) h d x.val := fun x => by
    have e0 : Fin.ofNat 16 (x.val / 512) = ⟨x.val / 512, by omega⟩ := Fin.ext (by rw [Fin.val_ofNat]; show _ % 16 = x.val / 512; omega)
    have e2 : Fin.ofNat 512 (x.val % 512) = ⟨x.val % 512, by omega⟩ := Fin.ext (by rw [Fin.val_ofNat]; show _ % 512 = x.val % 512; omega)
    rw [Cert.Att.value, e0, e2]
  pointwise [Cert.ReferenceIdeal.Value.res_main_v58]
  simp only [pow_two_eq]
  show (∑ x : Fin 8192, Ideal.div (Ideal.exp2 (Scalar.select (IntOp.andi (IntOp.cmpi .sle (BitVec.ofNat 32 x.val) (BitVec.ofNat 32 Q.val))
        (IntOp.cmpi .sge (BitVec.ofNat 32 x.val) (IntOp.muli 1024#32 (Cert.Att.plan (m ((c.tc : Thread nD τ).loc main_arg0)) h Q))))
      (Cert.Att.logit (m ((c.tc : Thread nD τ).loc main_arg1)) (m ((c.tc : Thread nD τ).loc main_arg3)) (m ((c.tc : Thread nD τ).loc main_arg4)) h Q x)
      (Ideal.ofBits .f32 4286578688#32) - Finset.fold max (Ideal.ofBits .f32 4286578688#32) (fun x : Fin 8192 => Scalar.select (IntOp.andi (IntOp.cmpi .sle (BitVec.ofNat 32 x.val) (BitVec.ofNat 32 Q.val))
        (IntOp.cmpi .sge (BitVec.ofNat 32 x.val) (IntOp.muli 1024#32 (Cert.Att.plan (m ((c.tc : Thread nD τ).loc main_arg0)) h Q))))
      (Cert.Att.logit (m ((c.tc : Thread nD τ).loc main_arg1)) (m ((c.tc : Thread nD τ).loc main_arg3)) (m ((c.tc : Thread nD τ).loc main_arg4)) h Q x)
      (Ideal.ofBits .f32 4286578688#32)) Finset.univ)) (∑ x : Fin 8192, Ideal.exp2 (Scalar.select (IntOp.andi (IntOp.cmpi .sle (BitVec.ofNat 32 x.val) (BitVec.ofNat 32 Q.val))
        (IntOp.cmpi .sge (BitVec.ofNat 32 x.val) (IntOp.muli 1024#32 (Cert.Att.plan (m ((c.tc : Thread nD τ).loc main_arg0)) h Q))))
      (Cert.Att.logit (m ((c.tc : Thread nD τ).loc main_arg1)) (m ((c.tc : Thread nD τ).loc main_arg3)) (m ((c.tc : Thread nD τ).loc main_arg4)) h Q x)
      (Ideal.ofBits .f32 4286578688#32) - Finset.fold max (Ideal.ofBits .f32 4286578688#32) (fun x : Fin 8192 => Scalar.select (IntOp.andi (IntOp.cmpi .sle (BitVec.ofNat 32 x.val) (BitVec.ofNat 32 Q.val))
        (IntOp.cmpi .sge (BitVec.ofNat 32 x.val) (IntOp.muli 1024#32 (Cert.Att.plan (m ((c.tc : Thread nD τ).loc main_arg0)) h Q))))
      (Cert.Att.logit (m ((c.tc : Thread nD τ).loc main_arg1)) (m ((c.tc : Thread nD τ).loc main_arg3)) (m ((c.tc : Thread nD τ).loc main_arg4)) h Q x)
      (Ideal.ofBits .f32 4286578688#32)) Finset.univ)) * (m ((c.tc : Thread nD τ).loc main_arg2)) (ix3 ⟨x.val / 512, by omega⟩ ⟨h.val * 128 + d.val, by omega⟩ ⟨x.val % 512, by omega⟩))
      * (m ((c.tc : Thread nD τ).loc main_arg5)) (ix2 Q ⟨128 * h.val + d.val, by omega⟩) = _
  simp only [neg_inf]
  simp only [hs, hv]
  rfl

end Cert.ReferenceIdeal.Att
end
-- ==== Proof.Both.lean ====
/- The reference's result is the array the kernel leaves. -/
module

public import proofs.«01_k».proof.Proof.Arr
public import proofs.«01_k».proof.Proof.Ref

@[expose] public section

noncomputable section

namespace Cert.KernelIdeal.Att

open Idealize.ShloMosaic Idealize.ShloMosaic.TcCoe Idealize.ShloMosaic.Tactic
open Cert.KernelIdeal

/-- A word of a plan in range is at most seven. -/
theorem plan_le (m : (ℓ : Loc nD τ sig) → Buf (Elt Ideal) ℓ) (c : Dev nD) (hO : Ok m) (h : Fin 16) (Q : Fin 8192) :
    (Cert.Att.plan (a0 m c) h Q).toNat ≤ 7 := by
  obtain rfl : c = 0 := Subsingleton.elim _ _
  have hw := hO h.val h.isLt (Q.val / 1024) (by omega)
  rw [word_eq] at hw
  have e : (Fin.ofNat 128 (8 * h.val + Q.val / 1024) : Fin 128) = ⟨h.val * 8 + Q.val / 1024, by omega⟩ :=
    Fin.ext (by rw [Fin.val_ofNat]; show (8 * h.val + Q.val / 1024) % 128 = h.val * 8 + Q.val / 1024; omega)
  rw [e] at hw
  exact le_trans (show (Cert.Att.plan (a0 m 0) h Q).toNat ≤ Q.val / 1024 from hw) (by omega)

/-- From equal arguments the reference's result is the attention the kernel leaves. -/
theorem ref_whole (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD) (hO : Ok m)
    (e0 : (m' ((c.tc : Thread Cert.ReferenceIdeal.nD Cert.ReferenceIdeal.τ).loc Cert.ReferenceIdeal.main_arg0) : Cert.Att.A0) = a0 m c)
    (e1 : (m' ((c.tc : Thread Cert.ReferenceIdeal.nD Cert.ReferenceIdeal.τ).loc Cert.ReferenceIdeal.main_arg1) : Cert.Att.A1) = a1 m c)
    (e2 : (m' ((c.tc : Thread Cert.ReferenceIdeal.nD Cert.ReferenceIdeal.τ).loc Cert.ReferenceIdeal.main_arg2) : Cert.Att.A2) = a2 m c)
    (e3 : (m' ((c.tc : Thread Cert.ReferenceIdeal.nD Cert.ReferenceIdeal.τ).loc Cert.ReferenceIdeal.main_arg3) : Cert.Att.A3) = a3 m c)
    (e4 : (m' ((c.tc : Thread Cert.ReferenceIdeal.nD Cert.ReferenceIdeal.τ).loc Cert.ReferenceIdeal.main_arg4) : Cert.Att.A3) = a4 m c)
    (e5 : (m' ((c.tc : Thread Cert.ReferenceIdeal.nD Cert.ReferenceIdeal.τ).loc Cert.ReferenceIdeal.main_arg5) : Cert.Att.A5) = a5 m c) :
    (Cert.ReferenceIdeal.Value.res_main_v58 m' c : Cert.Att.A5) = whole m c := by
  funext y
  idx_vars y
  have hl : (Cert.Att.plan (m' ((c.tc : Thread Cert.ReferenceIdeal.nD Cert.ReferenceIdeal.τ).loc Cert.ReferenceIdeal.main_arg0)) ⟨y1.val / 128, by omega⟩ y0).toNat ≤ 7 :=
    le_of_eq_of_le (congrArg (fun a => (Cert.Att.plan a ⟨y1.val / 128, by omega⟩ y0).toNat) e0) (plan_le m c hO _ y0)
  have r := Cert.ReferenceIdeal.Att.ref_at m' c y0 ⟨y1.val / 128, by omega⟩ ⟨y1.val % 128, Nat.mod_lt _ (by decide)⟩ hl
  have ey : (⟨128 * (y1.val / 128) + y1.val % 128, by omega⟩ : Fin 2048) = y1 := Fin.ext (Nat.div_add_mod _ _)
  refine (congrArg (fun n => (Cert.ReferenceIdeal.Value.res_main_v58 m' c : Cert.Att.A5) (ix2 y0 n)) ey.symm).trans (r.trans ?_)
  show Cert.Att.out _ _ _ _ _ _ y0 _ _ = Cert.Att.out (a0 m c) (a1 m c) (a2 m c) (a3 m c) (a4 m c) (a5 m c) y0 _ _
  rw [← e0, ← e1, ← e2, ← e3, ← e4, ← e5]
  rfl

end Cert.KernelIdeal.Att
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_first_pair_in_range
public import proofs.«01_k».proof.Proof.Gen.Pre_finite_logits
public import proofs.«01_k».proof.Proof.Gen.KernelOutIdeal.Value
public import proofs.«01_k».proof.Proof.Gen.ReferenceOutIdeal.Run
public import proofs.«01_k».proof.Proof.Gen.KernelOut.Frame
public import proofs.«01_k».proof.Proof.OutArr
public import proofs.«01_k».proof.Proof.OutRef
public import proofs.«01_k».proof.Proof.Gen.KernelGluIdeal.Value
public import proofs.«01_k».proof.Proof.Gen.ReferenceGluIdeal.Run
public import proofs.«01_k».proof.Proof.Gen.KernelGlu.Frame
public import proofs.«01_k».proof.Proof.GluArr
public import proofs.«01_k».proof.Proof.GluRef
public import proofs.«01_k».proof.Proof.Gen.KernelGcIdeal.Value
public import proofs.«01_k».proof.Proof.Gen.ReferenceGcIdeal.Run
public import proofs.«01_k».proof.Proof.Gen.KernelGc.Frame
public import proofs.«01_k».proof.Proof.GcArr
public import proofs.«01_k».proof.Proof.GcRef
public import proofs.«01_k».proof.Proof.Gen.KernelGaIdeal.Value
public import proofs.«01_k».proof.Proof.Gen.ReferenceGaIdeal.Run
public import proofs.«01_k».proof.Proof.Gen.KernelGa.Frame
public import proofs.«01_k».proof.Proof.GaArr
public import proofs.«01_k».proof.Proof.GaRef
public import proofs.«01_k».proof.Proof.Gen.KernelVIdeal.Value
public import proofs.«01_k».proof.Proof.Gen.ReferenceVIdeal.Run
public import proofs.«01_k».proof.Proof.Gen.KernelV.Frame
public import proofs.«01_k».proof.Proof.VArr
public import proofs.«01_k».proof.Proof.VRef
public import proofs.«01_k».proof.Proof.Run
public import proofs.«01_k».proof.Proof.Pre
public import proofs.«01_k».proof.Proof.Same
public import proofs.«01_k».proof.Proof.Fin
public import proofs.«01_k».proof.Proof.Both
public import Idealize.ShloMosaic.Init
public import Idealize.ShloMosaic.Adequacy

@[expose] public section

noncomputable section

namespace Cert.Proof

open Idealize.ShloMosaic Idealize.SL.Sem

/-- The idealized call ends with its arguments unchanged and every counter at zero. -/
theorem frame_ideal : Cert.quiescent_KernelIdeal := fun m ρ h =>
  (θ_run Cert.KernelIdeal.defs _ _).mono (fun _ hr => ⟨fun c => (hr.1 c).1, hr.2⟩) (Cert.KernelIdeal.Att.run_args m ρ (Cert.KernelIdeal.Att.ok_of m (h 0)))

/-- So does the call as printed: it is the same text, read at the machine's floats. -/
theorem frame_kernel : Cert.quiescent_Kernel := by
  intro m ρ h
  rw [defs_same]
  have hr := Cert.KernelIdeal.Att.run_args (F := Bits) m ρ (Cert.KernelIdeal.Att.ok_of (F := Bits) m (h 0))
  exact (θ_run Cert.KernelIdeal.defs _ _).mono (fun r hr => ⟨fun c => (hr.1 c).1, hr.2⟩) hr

/-- The reference ends with its arguments unchanged and every counter at zero. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The idealized call's frame where the logits' factors are finite. -/
theorem frame_ideal_finite : Cert.quiescent_KernelIdeal_pre_finite_logits := fun m ρ h =>
  (θ_run Cert.KernelIdeal.defs _ _).mono (fun _ hr => ⟨fun c => (hr.1 c).1, hr.2⟩) (Cert.KernelIdeal.Att.run_args m ρ (Cert.KernelIdeal.Att.fin_of m (h 0)).1)

/-- The reference's frame there. -/
theorem frame_reference_finite : Cert.quiescent_ReferenceIdeal_pre_finite_logits := fun m ρ _ => frame_reference m ρ trivial

/-- The call and the reference end with the same array. -/
theorem same_result : Cert.algebraic_KernelIdeal_ReferenceIdeal_pre_finite_logits := by
  intro m ρ m' ρ' h ha
  have hf := Cert.KernelIdeal.Att.fin_of m (h 0)
  refine ⟨fun c => Cert.KernelIdeal.Att.whole m c, ?_, ?_⟩
  · refine (θ_run Cert.KernelIdeal.defs _ _).mono (fun _ hr c => ⟨(hr.1 c).2.trans ?_, (hr.1 c).1⟩) (Cert.KernelIdeal.Att.run_args m ρ hf.1)
    obtain rfl : c = 0 := Subsingleton.elim _ _
    exact Cert.KernelIdeal.Att.final hf.1 hf.2.1 hf.2.2.1 hf.2.2.2
  · refine (θ_run Cert.ReferenceIdeal.defs _ _).mono (fun _ hr c => ⟨(hr c).1.trans ?_, (hr c).2⟩) (Cert.ReferenceIdeal.Value.run (F := Ideal) m' ρ')
    exact Cert.KernelIdeal.Att.ref_whole m m' c hf.1 (ha c).1 (ha c).2.1 (ha c).2.2.1 (ha c).2.2.2.1 (ha c).2.2.2.2.1 (ha c).2.2.2.2.2

/-- The output call's reference ends with its arguments unchanged and every counter at zero. -/
theorem frame_reference_out : Cert.quiescent_ReferenceOutIdeal := fun m ρ _ =>
  (θ_run Cert.ReferenceOutIdeal.defs _ _).mono (fun r h => ⟨fun c => (h c).2, sem_eq_zero_of_no_sems (by decide) r.2⟩) (Cert.ReferenceOutIdeal.Value.run (F := Ideal) m ρ)

/-- The output call and its reference end with the same array. -/
theorem same_out : Cert.algebraic_KernelOutIdeal_ReferenceOutIdeal := by
  intro m ρ m' ρ' _ ha
  refine ⟨fun c => Cert.KernelOutIdeal.Out.whole m c, ?_, ?_⟩
  · exact (θ_run Cert.KernelOutIdeal.defs _ _).mono (fun _ hr c => ⟨(hr c).1.trans (Cert.KernelOutIdeal.Out.final m c), (hr c).2⟩) (Cert.KernelOutIdeal.Value.run_blocks m ρ)
  · refine (θ_run Cert.ReferenceOutIdeal.defs _ _).mono (fun _ hr c => ⟨(hr c).1.trans ?_, (hr c).2⟩) (Cert.ReferenceOutIdeal.Value.run (F := Ideal) m' ρ')
    refine (Cert.ReferenceOutIdeal.Out.ref_whole m' c).trans ?_
    exact Cert.ReferenceOutIdeal.Out.same_args (ha c).1 (ha c).2.1 (ha c).2.2.1 (ha c).2.2.2.1 (ha c).2.2.2.2.1 (ha c).2.2.2.2.2.1 (ha c).2.2.2.2.2.2

/-- The gated input projection's reference ends with its arguments unchanged and every counter at zero. -/
theorem frame_reference_glu : Cert.quiescent_ReferenceGluIdeal := fun m ρ _ =>
  (θ_run Cert.ReferenceGluIdeal.defs _ _).mono (fun r h => ⟨fun c => (h c).2, sem_eq_zero_of_no_sems (by decide) r.2⟩) (Cert.ReferenceGluIdeal.Value.run (F := Ideal) m ρ)

/-- The gated input projection and its reference end with the same array. -/
theorem same_glu : Cert.algebraic_KernelGluIdeal_ReferenceGluIdeal := by
  intro m ρ m' ρ' _ ha
  refine ⟨fun c => Cert.KernelGluIdeal.Glu.whole m c, ?_, ?_⟩
  · exact (θ_run Cert.KernelGluIdeal.defs _ _).mono (fun _ hr c => ⟨(hr c).1.trans (Cert.KernelGluIdeal.Glu.final m c), (hr c).2⟩) (Cert.KernelGluIdeal.Value.run_blocks m ρ)
  · refine (θ_run Cert.ReferenceGluIdeal.defs _ _).mono (fun _ hr c => ⟨(hr c).1.trans ?_, (hr c).2⟩) (Cert.ReferenceGluIdeal.Value.run (F := Ideal) m' ρ')
    refine (Cert.ReferenceGluIdeal.Glu.ref_whole m' c).trans ?_
    exact Cert.ReferenceGluIdeal.Glu.same_args (ha c).1 (ha c).2.1 (ha c).2.2

/-- The convolution gate's projection's reference ends with its arguments unchanged and every counter at zero. -/
theorem frame_reference_gc : Cert.quiescent_ReferenceGcIdeal := fun m ρ _ =>
  (θ_run Cert.ReferenceGcIdeal.defs _ _).mono (fun r h => ⟨fun c => (h c).2, sem_eq_zero_of_no_sems (by decide) r.2⟩) (Cert.ReferenceGcIdeal.Value.run (F := Ideal) m ρ)

/-- The convolution gate's projection and its reference end with the same array. -/
theorem same_gc : Cert.algebraic_KernelGcIdeal_ReferenceGcIdeal := by
  intro m ρ m' ρ' _ ha
  refine ⟨fun c => Cert.KernelGcIdeal.Gc.whole m c, ?_, ?_⟩
  · exact (θ_run Cert.KernelGcIdeal.defs _ _).mono (fun _ hr c => ⟨(hr c).1.trans (Cert.KernelGcIdeal.Gc.final m c), (hr c).2⟩) (Cert.KernelGcIdeal.Value.run_blocks m ρ)
  · refine (θ_run Cert.ReferenceGcIdeal.defs _ _).mono (fun _ hr c => ⟨(hr c).1.trans ?_, (hr c).2⟩) (Cert.ReferenceGcIdeal.Value.run (F := Ideal) m' ρ')
    refine (Cert.ReferenceGcIdeal.Gc.ref_whole m' c).trans ?_
    exact Cert.ReferenceGcIdeal.Gc.same_args (ha c).1 (ha c).2.1 (ha c).2.2

/-- The attention gate's projection's reference ends with its arguments unchanged and every counter at zero. -/
theorem frame_reference_ga : Cert.quiescent_ReferenceGaIdeal := fun m ρ _ =>
  (θ_run Cert.ReferenceGaIdeal.defs _ _).mono (fun r h => ⟨fun c => (h c).2, sem_eq_zero_of_no_sems (by decide) r.2⟩) (Cert.ReferenceGaIdeal.Value.run (F := Ideal) m ρ)

/-- The attention gate's projection and its reference end with the same array. -/
theorem same_ga : Cert.algebraic_KernelGaIdeal_ReferenceGaIdeal := by
  intro m ρ m' ρ' _ ha
  refine ⟨fun c => Cert.KernelGaIdeal.Ga.whole m c, ?_, ?_⟩
  · exact (θ_run Cert.KernelGaIdeal.defs _ _).mono (fun _ hr c => ⟨(hr c).1.trans (Cert.KernelGaIdeal.Ga.final m c), (hr c).2⟩) (Cert.KernelGaIdeal.Value.run_blocks m ρ)
  · refine (θ_run Cert.ReferenceGaIdeal.defs _ _).mono (fun _ hr c => ⟨(hr c).1.trans ?_, (hr c).2⟩) (Cert.ReferenceGaIdeal.Value.run (F := Ideal) m' ρ')
    refine (Cert.ReferenceGaIdeal.Ga.ref_whole m' c).trans ?_
    exact Cert.ReferenceGaIdeal.Ga.same_args (ha c).1 (ha c).2.1 (ha c).2.2

/-- The values' projection's reference ends with its arguments unchanged and every counter at zero. -/
theorem frame_reference_v : Cert.quiescent_ReferenceVIdeal := fun m ρ _ =>
  (θ_run Cert.ReferenceVIdeal.defs _ _).mono (fun r h => ⟨fun c => (h c).2, sem_eq_zero_of_no_sems (by decide) r.2⟩) (Cert.ReferenceVIdeal.Value.run (F := Ideal) m ρ)

/-- The values' projection and its reference end with the same array. -/
theorem same_v : Cert.algebraic_KernelVIdeal_ReferenceVIdeal := by
  intro m ρ m' ρ' _ ha
  refine ⟨fun c => Cert.KernelVIdeal.V.whole m c, ?_, ?_⟩
  · exact (θ_run Cert.KernelVIdeal.defs _ _).mono (fun _ hr c => ⟨(hr c).1.trans (Cert.KernelVIdeal.V.final m c), (hr c).2⟩) (Cert.KernelVIdeal.Value.run_blocks m ρ)
  · refine (θ_run Cert.ReferenceVIdeal.defs _ _).mono (fun _ hr c => ⟨(hr c).1.trans ?_, (hr c).2⟩) (Cert.ReferenceVIdeal.Value.run (F := Ideal) m' ρ')
    refine (Cert.ReferenceVIdeal.V.ref_whole m' c).trans ?_
    exact Cert.ReferenceVIdeal.V.same_args (ha c).1 (ha c).2.1 (ha c).2.2

theorem claim : Cert.Claim :=
  ⟨Cert.Kernel.Gen.facts, Cert.KernelIdeal.Gen.facts, Cert.ReferenceIdeal.Gen.facts, Cert.KernelOut.Gen.facts, Cert.KernelOutIdeal.Gen.facts, Cert.ReferenceOutIdeal.Gen.facts, Cert.KernelGlu.Gen.facts, Cert.KernelGluIdeal.Gen.facts, Cert.ReferenceGluIdeal.Gen.facts, Cert.KernelGc.Gen.facts, Cert.KernelGcIdeal.Gen.facts, Cert.ReferenceGcIdeal.Gen.facts, Cert.KernelGa.Gen.facts, Cert.KernelGaIdeal.Gen.facts, Cert.ReferenceGaIdeal.Gen.facts, Cert.KernelV.Gen.facts, Cert.KernelVIdeal.Gen.facts, Cert.ReferenceVIdeal.Gen.facts, Cert.Pre_first_pair_in_range.Gen.facts, Cert.Pre_finite_logits.Gen.facts,
    frame_kernel, frame_ideal, frame_ideal_finite, frame_reference, frame_reference_finite, fun m ρ _ => Cert.KernelOut.Gen.frame m ρ, fun m ρ _ => Cert.KernelOutIdeal.Gen.frame m ρ, frame_reference_out, fun m ρ _ => Cert.KernelGlu.Gen.frame m ρ, fun m ρ _ => Cert.KernelGluIdeal.Gen.frame m ρ, frame_reference_glu, fun m ρ _ => Cert.KernelGc.Gen.frame m ρ, fun m ρ _ => Cert.KernelGcIdeal.Gen.frame m ρ, frame_reference_gc, fun m ρ _ => Cert.KernelGa.Gen.frame m ρ, fun m ρ _ => Cert.KernelGaIdeal.Gen.frame m ρ, frame_reference_ga, fun m ρ _ => Cert.KernelV.Gen.frame m ρ, fun m ρ _ => Cert.KernelVIdeal.Gen.frame m ρ, frame_reference_v, trivial, same_result, trivial, same_out, trivial, same_glu, trivial, same_gc, trivial, same_ga, trivial, same_v⟩

end Cert.Proof
end
